-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_routing_weights [hPre_routing_weights : Cert.Pre_routing_weights.Facts] (m : (ℓ : Loc Cert.MoeIdeal.nD Cert.MoeIdeal.τ Cert.MoeIdeal.sig) → Buf (Elt Ideal) ℓ) : Prop :=
  ∀ c : Dev Cert.MoeIdeal.nD,
    (Cert.Pre_routing_weights.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))) = (fun _ => 1#1)

def Pre_RefMoeIdeal (m : (ℓ : Loc Cert.RefMoeIdeal.nD Cert.RefMoeIdeal.τ Cert.RefMoeIdeal.sig) → Buf (Elt Ideal) ℓ) : Prop :=
  True

def Pre_RefMoeIdeal_routing_weights [hPre_routing_weights : Cert.Pre_routing_weights.Facts] (m : (ℓ : Loc Cert.RefMoeIdeal.nD Cert.RefMoeIdeal.τ Cert.RefMoeIdeal.sig) → Buf (Elt Ideal) ℓ) : Prop :=
  ∀ c : Dev Cert.RefMoeIdeal.nD,
    (Cert.Pre_routing_weights.fn (F := Ideal) (m ((c.tc : Thread Cert.RefMoeIdeal.nD Cert.RefMoeIdeal.τ).loc Cert.RefMoeIdeal.main_arg0)) (m ((c.tc : Thread Cert.RefMoeIdeal.nD Cert.RefMoeIdeal.τ).loc Cert.RefMoeIdeal.main_arg1)) (m ((c.tc : Thread Cert.RefMoeIdeal.nD Cert.RefMoeIdeal.τ).loc Cert.RefMoeIdeal.main_arg2)) (m ((c.tc : Thread Cert.RefMoeIdeal.nD Cert.RefMoeIdeal.τ).loc Cert.RefMoeIdeal.main_arg3)) (m ((c.tc : Thread Cert.RefMoeIdeal.nD Cert.RefMoeIdeal.τ).loc Cert.RefMoeIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_RefCrossIdeal (m : (ℓ : Loc Cert.RefCrossIdeal.nD Cert.RefCrossIdeal.τ Cert.RefCrossIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_logits [hPre_finite_logits : Cert.Pre_finite_logits.Facts] (m : (ℓ : Loc Cert.RouterIdeal.nD Cert.RouterIdeal.τ Cert.RouterIdeal.sig) → Buf (Elt Ideal) ℓ) : Prop :=
  ∀ c : Dev Cert.RouterIdeal.nD,
    (Cert.Pre_finite_logits.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))) = (fun _ => 1#1)

def Pre_RefRouterIdeal (m : (ℓ : Loc Cert.RefRouterIdeal.nD Cert.RefRouterIdeal.τ Cert.RefRouterIdeal.sig) → Buf (Elt Ideal) ℓ) : Prop :=
  True

def Pre_RefRouterIdeal_finite_logits [hPre_finite_logits : Cert.Pre_finite_logits.Facts] (m : (ℓ : Loc Cert.RefRouterIdeal.nD Cert.RefRouterIdeal.τ Cert.RefRouterIdeal.sig) → Buf (Elt Ideal) ℓ) : Prop :=
  ∀ c : Dev Cert.RefRouterIdeal.nD,
    (Cert.Pre_finite_logits.fn (F := Ideal) (m ((c.tc : Thread Cert.RefRouterIdeal.nD Cert.RefRouterIdeal.τ).loc Cert.RefRouterIdeal.main_arg0)) (m ((c.tc : Thread Cert.RefRouterIdeal.nD Cert.RefRouterIdeal.τ).loc Cert.RefRouterIdeal.main_arg1)) (m ((c.tc : Thread Cert.RefRouterIdeal.nD Cert.RefRouterIdeal.τ).loc Cert.RefRouterIdeal.main_arg2))) = (fun _ => 1#1)

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_RefKvIdeal (m : (ℓ : Loc Cert.RefKvIdeal.nD Cert.RefKvIdeal.τ Cert.RefKvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeIdeal_pre_routing_weights [hMoeIdeal : Cert.MoeIdeal.Facts] [hPre_routing_weights : Cert.Pre_routing_weights.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_routing_weights m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_RefMoeIdeal [hRefMoeIdeal : Cert.RefMoeIdeal.Facts] : Prop :=
  ∀ (m : (ℓ : Loc Cert.RefMoeIdeal.nD Cert.RefMoeIdeal.τ Cert.RefMoeIdeal.sig) → Buf (Elt Ideal) ℓ) (g : Dev Cert.RefMoeIdeal.nD → PrngReg), Pre_RefMoeIdeal m →
    θ_run (Cert.RefMoeIdeal.defs (F := Ideal)) (onTc (τ := Cert.RefMoeIdeal.τ) (Cert.RefMoeIdeal.main (F := Ideal))) ⟨m, fun _ => 0, g⟩ (fun r => (∀ c : Dev Cert.RefMoeIdeal.nD,
      r.2.mem ((c.tc : Thread Cert.RefMoeIdeal.nD Cert.RefMoeIdeal.τ).loc Cert.RefMoeIdeal.main_arg0) = m ((c.tc : Thread Cert.RefMoeIdeal.nD Cert.RefMoeIdeal.τ).loc Cert.RefMoeIdeal.main_arg0)
      ∧ r.2.mem ((c.tc : Thread Cert.RefMoeIdeal.nD Cert.RefMoeIdeal.τ).loc Cert.RefMoeIdeal.main_arg1) = m ((c.tc : Thread Cert.RefMoeIdeal.nD Cert.RefMoeIdeal.τ).loc Cert.RefMoeIdeal.main_arg1)
      ∧ r.2.mem ((c.tc : Thread Cert.RefMoeIdeal.nD Cert.RefMoeIdeal.τ).loc Cert.RefMoeIdeal.main_arg2) = m ((c.tc : Thread Cert.RefMoeIdeal.nD Cert.RefMoeIdeal.τ).loc Cert.RefMoeIdeal.main_arg2)
      ∧ r.2.mem ((c.tc : Thread Cert.RefMoeIdeal.nD Cert.RefMoeIdeal.τ).loc Cert.RefMoeIdeal.main_arg3) = m ((c.tc : Thread Cert.RefMoeIdeal.nD Cert.RefMoeIdeal.τ).loc Cert.RefMoeIdeal.main_arg3)
      ∧ r.2.mem ((c.tc : Thread Cert.RefMoeIdeal.nD Cert.RefMoeIdeal.τ).loc Cert.RefMoeIdeal.main_arg4) = m ((c.tc : Thread Cert.RefMoeIdeal.nD Cert.RefMoeIdeal.τ).loc Cert.RefMoeIdeal.main_arg4))
      ∧ r.2.sem = fun _ => 0)

def quiescent_RefMoeIdeal_pre_routing_weights [hRefMoeIdeal : Cert.RefMoeIdeal.Facts] [hPre_routing_weights : Cert.Pre_routing_weights.Facts] : Prop :=
  ∀ (m : (ℓ : Loc Cert.RefMoeIdeal.nD Cert.RefMoeIdeal.τ Cert.RefMoeIdeal.sig) → Buf (Elt Ideal) ℓ) (g : Dev Cert.RefMoeIdeal.nD → PrngReg), Pre_RefMoeIdeal_routing_weights m →
    θ_run (Cert.RefMoeIdeal.defs (F := Ideal)) (onTc (τ := Cert.RefMoeIdeal.τ) (Cert.RefMoeIdeal.main (F := Ideal))) ⟨m, fun _ => 0, g⟩ (fun r => (∀ c : Dev Cert.RefMoeIdeal.nD,
      r.2.mem ((c.tc : Thread Cert.RefMoeIdeal.nD Cert.RefMoeIdeal.τ).loc Cert.RefMoeIdeal.main_arg0) = m ((c.tc : Thread Cert.RefMoeIdeal.nD Cert.RefMoeIdeal.τ).loc Cert.RefMoeIdeal.main_arg0)
      ∧ r.2.mem ((c.tc : Thread Cert.RefMoeIdeal.nD Cert.RefMoeIdeal.τ).loc Cert.RefMoeIdeal.main_arg1) = m ((c.tc : Thread Cert.RefMoeIdeal.nD Cert.RefMoeIdeal.τ).loc Cert.RefMoeIdeal.main_arg1)
      ∧ r.2.mem ((c.tc : Thread Cert.RefMoeIdeal.nD Cert.RefMoeIdeal.τ).loc Cert.RefMoeIdeal.main_arg2) = m ((c.tc : Thread Cert.RefMoeIdeal.nD Cert.RefMoeIdeal.τ).loc Cert.RefMoeIdeal.main_arg2)
      ∧ r.2.mem ((c.tc : Thread Cert.RefMoeIdeal.nD Cert.RefMoeIdeal.τ).loc Cert.RefMoeIdeal.main_arg3) = m ((c.tc : Thread Cert.RefMoeIdeal.nD Cert.RefMoeIdeal.τ).loc Cert.RefMoeIdeal.main_arg3)
      ∧ r.2.mem ((c.tc : Thread Cert.RefMoeIdeal.nD Cert.RefMoeIdeal.τ).loc Cert.RefMoeIdeal.main_arg4) = m ((c.tc : Thread Cert.RefMoeIdeal.nD Cert.RefMoeIdeal.τ).loc Cert.RefMoeIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7)
      ∧ r.2.mem ((c.tc : Thread Cert.RefMergeIdeal.nD Cert.RefMergeIdeal.τ).loc Cert.RefMergeIdeal.main_arg8) = m ((c.tc : Thread Cert.RefMergeIdeal.nD Cert.RefMergeIdeal.τ).loc Cert.RefMergeIdeal.main_arg8)
      ∧ r.2.mem ((c.tc : Thread Cert.RefMergeIdeal.nD Cert.RefMergeIdeal.τ).loc Cert.RefMergeIdeal.main_arg9) = m ((c.tc : Thread Cert.RefMergeIdeal.nD Cert.RefMergeIdeal.τ).loc Cert.RefMergeIdeal.main_arg9))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ r.2.sem = fun _ => 0)

def quiescent_RefCrossIdeal [hRefCrossIdeal : Cert.RefCrossIdeal.Facts] : Prop :=
  ∀ (m : (ℓ : Loc Cert.RefCrossIdeal.nD Cert.RefCrossIdeal.τ Cert.RefCrossIdeal.sig) → Buf (Elt Ideal) ℓ) (g : Dev Cert.RefCrossIdeal.nD → PrngReg), Pre_RefCrossIdeal m →
    θ_run (Cert.RefCrossIdeal.defs (F := Ideal)) (onTc (τ := Cert.RefCrossIdeal.τ) (Cert.RefCrossIdeal.main (F := Ideal))) ⟨m, fun _ => 0, g⟩ (fun r => (∀ c : Dev Cert.RefCrossIdeal.nD,
      r.2.mem ((c.tc : Thread Cert.RefCrossIdeal.nD Cert.RefCrossIdeal.τ).loc Cert.RefCrossIdeal.main_arg0) = m ((c.tc : Thread Cert.RefCrossIdeal.nD Cert.RefCrossIdeal.τ).loc Cert.RefCrossIdeal.main_arg0)
      ∧ r.2.mem ((c.tc : Thread Cert.RefCrossIdeal.nD Cert.RefCrossIdeal.τ).loc Cert.RefCrossIdeal.main_arg1) = m ((c.tc : Thread Cert.RefCrossIdeal.nD Cert.RefCrossIdeal.τ).loc Cert.RefCrossIdeal.main_arg1)
      ∧ r.2.mem ((c.tc : Thread Cert.RefCrossIdeal.nD Cert.RefCrossIdeal.τ).loc Cert.RefCrossIdeal.main_arg2) = m ((c.tc : Thread Cert.RefCrossIdeal.nD Cert.RefCrossIdeal.τ).loc Cert.RefCrossIdeal.main_arg2)
      ∧ r.2.mem ((c.tc : Thread Cert.RefCrossIdeal.nD Cert.RefCrossIdeal.τ).loc Cert.RefCrossIdeal.main_arg3) = m ((c.tc : Thread Cert.RefCrossIdeal.nD Cert.RefCrossIdeal.τ).loc Cert.RefCrossIdeal.main_arg3)
      ∧ r.2.mem ((c.tc : Thread Cert.RefCrossIdeal.nD Cert.RefCrossIdeal.τ).loc Cert.RefCrossIdeal.main_arg4) = m ((c.tc : Thread Cert.RefCrossIdeal.nD Cert.RefCrossIdeal.τ).loc Cert.RefCrossIdeal.main_arg4)
      ∧ r.2.mem ((c.tc : Thread Cert.RefCrossIdeal.nD Cert.RefCrossIdeal.τ).loc Cert.RefCrossIdeal.main_arg5) = m ((c.tc : Thread Cert.RefCrossIdeal.nD Cert.RefCrossIdeal.τ).loc Cert.RefCrossIdeal.main_arg5)
      ∧ r.2.mem ((c.tc : Thread Cert.RefCrossIdeal.nD Cert.RefCrossIdeal.τ).loc Cert.RefCrossIdeal.main_arg6) = m ((c.tc : Thread Cert.RefCrossIdeal.nD Cert.RefCrossIdeal.τ).loc Cert.RefCrossIdeal.main_arg6))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_finite_logits [hRouterIdeal : Cert.RouterIdeal.Facts] [hPre_finite_logits : Cert.Pre_finite_logits.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_logits m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RefRouterIdeal [hRefRouterIdeal : Cert.RefRouterIdeal.Facts] : Prop :=
  ∀ (m : (ℓ : Loc Cert.RefRouterIdeal.nD Cert.RefRouterIdeal.τ Cert.RefRouterIdeal.sig) → Buf (Elt Ideal) ℓ) (g : Dev Cert.RefRouterIdeal.nD → PrngReg), Pre_RefRouterIdeal m →
    θ_run (Cert.RefRouterIdeal.defs (F := Ideal)) (onTc (τ := Cert.RefRouterIdeal.τ) (Cert.RefRouterIdeal.main (F := Ideal))) ⟨m, fun _ => 0, g⟩ (fun r => (∀ c : Dev Cert.RefRouterIdeal.nD,
      r.2.mem ((c.tc : Thread Cert.RefRouterIdeal.nD Cert.RefRouterIdeal.τ).loc Cert.RefRouterIdeal.main_arg0) = m ((c.tc : Thread Cert.RefRouterIdeal.nD Cert.RefRouterIdeal.τ).loc Cert.RefRouterIdeal.main_arg0)
      ∧ r.2.mem ((c.tc : Thread Cert.RefRouterIdeal.nD Cert.RefRouterIdeal.τ).loc Cert.RefRouterIdeal.main_arg1) = m ((c.tc : Thread Cert.RefRouterIdeal.nD Cert.RefRouterIdeal.τ).loc Cert.RefRouterIdeal.main_arg1)
      ∧ r.2.mem ((c.tc : Thread Cert.RefRouterIdeal.nD Cert.RefRouterIdeal.τ).loc Cert.RefRouterIdeal.main_arg2) = m ((c.tc : Thread Cert.RefRouterIdeal.nD Cert.RefRouterIdeal.τ).loc Cert.RefRouterIdeal.main_arg2))
      ∧ r.2.sem = fun _ => 0)

def quiescent_RefRouterIdeal_pre_finite_logits [hRefRouterIdeal : Cert.RefRouterIdeal.Facts] [hPre_finite_logits : Cert.Pre_finite_logits.Facts] : Prop :=
  ∀ (m : (ℓ : Loc Cert.RefRouterIdeal.nD Cert.RefRouterIdeal.τ Cert.RefRouterIdeal.sig) → Buf (Elt Ideal) ℓ) (g : Dev Cert.RefRouterIdeal.nD → PrngReg), Pre_RefRouterIdeal_finite_logits m →
    θ_run (Cert.RefRouterIdeal.defs (F := Ideal)) (onTc (τ := Cert.RefRouterIdeal.τ) (Cert.RefRouterIdeal.main (F := Ideal))) ⟨m, fun _ => 0, g⟩ (fun r => (∀ c : Dev Cert.RefRouterIdeal.nD,
      r.2.mem ((c.tc : Thread Cert.RefRouterIdeal.nD Cert.RefRouterIdeal.τ).loc Cert.RefRouterIdeal.main_arg0) = m ((c.tc : Thread Cert.RefRouterIdeal.nD Cert.RefRouterIdeal.τ).loc Cert.RefRouterIdeal.main_arg0)
      ∧ r.2.mem ((c.tc : Thread Cert.RefRouterIdeal.nD Cert.RefRouterIdeal.τ).loc Cert.RefRouterIdeal.main_arg1) = m ((c.tc : Thread Cert.RefRouterIdeal.nD Cert.RefRouterIdeal.τ).loc Cert.RefRouterIdeal.main_arg1)
      ∧ r.2.mem ((c.tc : Thread Cert.RefRouterIdeal.nD Cert.RefRouterIdeal.τ).loc Cert.RefRouterIdeal.main_arg2) = m ((c.tc : Thread Cert.RefRouterIdeal.nD Cert.RefRouterIdeal.τ).loc Cert.RefRouterIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_RefKvIdeal [hRefKvIdeal : Cert.RefKvIdeal.Facts] : Prop :=
  ∀ (m : (ℓ : Loc Cert.RefKvIdeal.nD Cert.RefKvIdeal.τ Cert.RefKvIdeal.sig) → Buf (Elt Ideal) ℓ) (g : Dev Cert.RefKvIdeal.nD → PrngReg), Pre_RefKvIdeal m →
    θ_run (Cert.RefKvIdeal.defs (F := Ideal)) (onTc (τ := Cert.RefKvIdeal.τ) (Cert.RefKvIdeal.main (F := Ideal))) ⟨m, fun _ => 0, g⟩ (fun r => (∀ c : Dev Cert.RefKvIdeal.nD,
      r.2.mem ((c.tc : Thread Cert.RefKvIdeal.nD Cert.RefKvIdeal.τ).loc Cert.RefKvIdeal.main_arg0) = m ((c.tc : Thread Cert.RefKvIdeal.nD Cert.RefKvIdeal.τ).loc Cert.RefKvIdeal.main_arg0)
      ∧ r.2.mem ((c.tc : Thread Cert.RefKvIdeal.nD Cert.RefKvIdeal.τ).loc Cert.RefKvIdeal.main_arg1) = m ((c.tc : Thread Cert.RefKvIdeal.nD Cert.RefKvIdeal.τ).loc Cert.RefKvIdeal.main_arg1)
      ∧ r.2.mem ((c.tc : Thread Cert.RefKvIdeal.nD Cert.RefKvIdeal.τ).loc Cert.RefKvIdeal.main_arg2) = m ((c.tc : Thread Cert.RefKvIdeal.nD Cert.RefKvIdeal.τ).loc Cert.RefKvIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Moe_MoeIdeal : Prop :=
  True

def algebraic_MoeIdeal_RefMoeIdeal_pre_routing_weights [hMoeIdeal : Cert.MoeIdeal.Facts] [hRefMoeIdeal : Cert.RefMoeIdeal.Facts] [hPre_routing_weights : Cert.Pre_routing_weights.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.RefMoeIdeal.nD Cert.RefMoeIdeal.τ Cert.RefMoeIdeal.sig) → Buf (Elt Ideal) ℓ) (g' : Dev Cert.RefMoeIdeal.nD → PrngReg), Pre_MoeIdeal_routing_weights m →
    (∀ c : Dev Cert.MoeIdeal.nD,
      m' ((c.tc : Thread Cert.RefMoeIdeal.nD Cert.RefMoeIdeal.τ).loc Cert.RefMoeIdeal.main_arg0) = m ((c.tc : Thread Cert.MoeIdeal.nD Cert.MoeIdeal.τ).loc Cert.MoeIdeal.main_arg0)
      ∧ m' ((c.tc : Thread Cert.RefMoeIdeal.nD Cert.RefMoeIdeal.τ).loc Cert.RefMoeIdeal.main_arg1) = m ((c.tc : Thread Cert.MoeIdeal.nD Cert.MoeIdeal.τ).loc Cert.MoeIdeal.main_arg1)
      ∧ m' ((c.tc : Thread Cert.RefMoeIdeal.nD Cert.RefMoeIdeal.τ).loc Cert.RefMoeIdeal.main_arg2) = m ((c.tc : Thread Cert.MoeIdeal.nD Cert.MoeIdeal.τ).loc Cert.MoeIdeal.main_arg2)
      ∧ m' ((c.tc : Thread Cert.RefMoeIdeal.nD Cert.RefMoeIdeal.τ).loc Cert.RefMoeIdeal.main_arg3) = m ((c.tc : Thread Cert.MoeIdeal.nD Cert.MoeIdeal.τ).loc Cert.MoeIdeal.main_arg3)
      ∧ m' ((c.tc : Thread Cert.RefMoeIdeal.nD Cert.RefMoeIdeal.τ).loc Cert.RefMoeIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v5)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v5) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.RefMoeIdeal.defs (F := Ideal)) (onTc (τ := Cert.RefMoeIdeal.τ) (Cert.RefMoeIdeal.main (F := Ideal))) ⟨m', fun _ => 0, g'⟩ (fun r => ∀ c : Dev Cert.RefMoeIdeal.nD,
          r.2.mem ((c.tc : Thread Cert.RefMoeIdeal.nD Cert.RefMoeIdeal.τ).loc Cert.RefMoeIdeal.main_v25) = v0 c
          ∧ r.2.mem ((c.tc : Thread Cert.RefMoeIdeal.nD Cert.RefMoeIdeal.τ).loc Cert.RefMoeIdeal.main_arg0) = m' ((c.tc : Thread Cert.RefMoeIdeal.nD Cert.RefMoeIdeal.τ).loc Cert.RefMoeIdeal.main_arg0)
          ∧ r.2.mem ((c.tc : Thread Cert.RefMoeIdeal.nD Cert.RefMoeIdeal.τ).loc Cert.RefMoeIdeal.main_arg1) = m' ((c.tc : Thread Cert.RefMoeIdeal.nD Cert.RefMoeIdeal.τ).loc Cert.RefMoeIdeal.main_arg1)
          ∧ r.2.mem ((c.tc : Thread Cert.RefMoeIdeal.nD Cert.RefMoeIdeal.τ).loc Cert.RefMoeIdeal.main_arg2) = m' ((c.tc : Thread Cert.RefMoeIdeal.nD Cert.RefMoeIdeal.τ).loc Cert.RefMoeIdeal.main_arg2)
          ∧ r.2.mem ((c.tc : Thread Cert.RefMoeIdeal.nD Cert.RefMoeIdeal.τ).loc Cert.RefMoeIdeal.main_arg3) = m' ((c.tc : Thread Cert.RefMoeIdeal.nD Cert.RefMoeIdeal.τ).loc Cert.RefMoeIdeal.main_arg3)
          ∧ r.2.mem ((c.tc : Thread Cert.RefMoeIdeal.nD Cert.RefMoeIdeal.τ).loc Cert.RefMoeIdeal.main_arg4) = m' ((c.tc : Thread Cert.RefMoeIdeal.nD Cert.RefMoeIdeal.τ).loc Cert.RefMoeIdeal.main_arg4))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v19) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v13) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)
      ∧ m' ((c.tc : Thread Cert.RefMergeIdeal.nD Cert.RefMergeIdeal.τ).loc Cert.RefMergeIdeal.main_arg8) = m ((c.tc : Thread Cert.MergeIdeal.nD Cert.MergeIdeal.τ).loc Cert.MergeIdeal.main_arg8)
      ∧ m' ((c.tc : Thread Cert.RefMergeIdeal.nD Cert.RefMergeIdeal.τ).loc Cert.RefMergeIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v29) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7)
          ∧ r.2.mem ((c.tc : Thread Cert.RefMergeIdeal.nD Cert.RefMergeIdeal.τ).loc Cert.RefMergeIdeal.main_arg8) = m' ((c.tc : Thread Cert.RefMergeIdeal.nD Cert.RefMergeIdeal.τ).loc Cert.RefMergeIdeal.main_arg8)
          ∧ r.2.mem ((c.tc : Thread Cert.RefMergeIdeal.nD Cert.RefMergeIdeal.τ).loc Cert.RefMergeIdeal.main_arg9) = m' ((c.tc : Thread Cert.RefMergeIdeal.nD Cert.RefMergeIdeal.τ).loc Cert.RefMergeIdeal.main_arg9))

def preserves_Cross_CrossIdeal : Prop :=
  True

def algebraic_CrossIdeal_RefCrossIdeal [hCrossIdeal : Cert.CrossIdeal.Facts] [hRefCrossIdeal : Cert.RefCrossIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.RefCrossIdeal.nD Cert.RefCrossIdeal.τ Cert.RefCrossIdeal.sig) → Buf (Elt Ideal) ℓ) (g' : Dev Cert.RefCrossIdeal.nD → PrngReg), Pre_CrossIdeal m →
    (∀ c : Dev Cert.CrossIdeal.nD,
      m' ((c.tc : Thread Cert.RefCrossIdeal.nD Cert.RefCrossIdeal.τ).loc Cert.RefCrossIdeal.main_arg0) = m ((c.tc : Thread Cert.CrossIdeal.nD Cert.CrossIdeal.τ).loc Cert.CrossIdeal.main_arg0)
      ∧ m' ((c.tc : Thread Cert.RefCrossIdeal.nD Cert.RefCrossIdeal.τ).loc Cert.RefCrossIdeal.main_arg1) = m ((c.tc : Thread Cert.CrossIdeal.nD Cert.CrossIdeal.τ).loc Cert.CrossIdeal.main_arg1)
      ∧ m' ((c.tc : Thread Cert.RefCrossIdeal.nD Cert.RefCrossIdeal.τ).loc Cert.RefCrossIdeal.main_arg2) = m ((c.tc : Thread Cert.CrossIdeal.nD Cert.CrossIdeal.τ).loc Cert.CrossIdeal.main_arg2)
      ∧ m' ((c.tc : Thread Cert.RefCrossIdeal.nD Cert.RefCrossIdeal.τ).loc Cert.RefCrossIdeal.main_arg3) = m ((c.tc : Thread Cert.CrossIdeal.nD Cert.CrossIdeal.τ).loc Cert.CrossIdeal.main_arg3)
      ∧ m' ((c.tc : Thread Cert.RefCrossIdeal.nD Cert.RefCrossIdeal.τ).loc Cert.RefCrossIdeal.main_arg4) = m ((c.tc : Thread Cert.CrossIdeal.nD Cert.CrossIdeal.τ).loc Cert.CrossIdeal.main_arg4)
      ∧ m' ((c.tc : Thread Cert.RefCrossIdeal.nD Cert.RefCrossIdeal.τ).loc Cert.RefCrossIdeal.main_arg5) = m ((c.tc : Thread Cert.CrossIdeal.nD Cert.CrossIdeal.τ).loc Cert.CrossIdeal.main_arg5)
      ∧ m' ((c.tc : Thread Cert.RefCrossIdeal.nD Cert.RefCrossIdeal.τ).loc Cert.RefCrossIdeal.main_arg6) = m ((c.tc : Thread Cert.CrossIdeal.nD Cert.CrossIdeal.τ).loc Cert.CrossIdeal.main_arg6)) →
    ∃ (v0 : (c : Dev Cert.CrossIdeal.nD) → Buf (Elt Ideal) ((c.tc : Thread Cert.CrossIdeal.nD Cert.CrossIdeal.τ).loc Cert.CrossIdeal.main_v5)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v5) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6))
      ∧ θ_run (Cert.RefCrossIdeal.defs (F := Ideal)) (onTc (τ := Cert.RefCrossIdeal.τ) (Cert.RefCrossIdeal.main (F := Ideal))) ⟨m', fun _ => 0, g'⟩ (fun r => ∀ c : Dev Cert.RefCrossIdeal.nD,
          r.2.mem ((c.tc : Thread Cert.RefCrossIdeal.nD Cert.RefCrossIdeal.τ).loc Cert.RefCrossIdeal.main_v63) = v0 c
          ∧ r.2.mem ((c.tc : Thread Cert.RefCrossIdeal.nD Cert.RefCrossIdeal.τ).loc Cert.RefCrossIdeal.main_arg0) = m' ((c.tc : Thread Cert.RefCrossIdeal.nD Cert.RefCrossIdeal.τ).loc Cert.RefCrossIdeal.main_arg0)
          ∧ r.2.mem ((c.tc : Thread Cert.RefCrossIdeal.nD Cert.RefCrossIdeal.τ).loc Cert.RefCrossIdeal.main_arg1) = m' ((c.tc : Thread Cert.RefCrossIdeal.nD Cert.RefCrossIdeal.τ).loc Cert.RefCrossIdeal.main_arg1)
          ∧ r.2.mem ((c.tc : Thread Cert.RefCrossIdeal.nD Cert.RefCrossIdeal.τ).loc Cert.RefCrossIdeal.main_arg2) = m' ((c.tc : Thread Cert.RefCrossIdeal.nD Cert.RefCrossIdeal.τ).loc Cert.RefCrossIdeal.main_arg2)
          ∧ r.2.mem ((c.tc : Thread Cert.RefCrossIdeal.nD Cert.RefCrossIdeal.τ).loc Cert.RefCrossIdeal.main_arg3) = m' ((c.tc : Thread Cert.RefCrossIdeal.nD Cert.RefCrossIdeal.τ).loc Cert.RefCrossIdeal.main_arg3)
          ∧ r.2.mem ((c.tc : Thread Cert.RefCrossIdeal.nD Cert.RefCrossIdeal.τ).loc Cert.RefCrossIdeal.main_arg4) = m' ((c.tc : Thread Cert.RefCrossIdeal.nD Cert.RefCrossIdeal.τ).loc Cert.RefCrossIdeal.main_arg4)
          ∧ r.2.mem ((c.tc : Thread Cert.RefCrossIdeal.nD Cert.RefCrossIdeal.τ).loc Cert.RefCrossIdeal.main_arg5) = m' ((c.tc : Thread Cert.RefCrossIdeal.nD Cert.RefCrossIdeal.τ).loc Cert.RefCrossIdeal.main_arg5)
          ∧ r.2.mem ((c.tc : Thread Cert.RefCrossIdeal.nD Cert.RefCrossIdeal.τ).loc Cert.RefCrossIdeal.main_arg6) = m' ((c.tc : Thread Cert.RefCrossIdeal.nD Cert.RefCrossIdeal.τ).loc Cert.RefCrossIdeal.main_arg6))

def preserves_Router_RouterIdeal : Prop :=
  True

def algebraic_RouterIdeal_RefRouterIdeal_pre_finite_logits [hRouterIdeal : Cert.RouterIdeal.Facts] [hRefRouterIdeal : Cert.RefRouterIdeal.Facts] [hPre_finite_logits : Cert.Pre_finite_logits.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RefRouterIdeal.nD Cert.RefRouterIdeal.τ Cert.RefRouterIdeal.sig) → Buf (Elt Ideal) ℓ) (g' : Dev Cert.RefRouterIdeal.nD → PrngReg), Pre_RouterIdeal_finite_logits m →
    (∀ c : Dev Cert.RouterIdeal.nD,
      m' ((c.tc : Thread Cert.RefRouterIdeal.nD Cert.RefRouterIdeal.τ).loc Cert.RefRouterIdeal.main_arg0) = m ((c.tc : Thread Cert.RouterIdeal.nD Cert.RouterIdeal.τ).loc Cert.RouterIdeal.main_arg0)
      ∧ m' ((c.tc : Thread Cert.RefRouterIdeal.nD Cert.RefRouterIdeal.τ).loc Cert.RefRouterIdeal.main_arg1) = m ((c.tc : Thread Cert.RouterIdeal.nD Cert.RouterIdeal.τ).loc Cert.RouterIdeal.main_arg1)
      ∧ m' ((c.tc : Thread Cert.RefRouterIdeal.nD Cert.RefRouterIdeal.τ).loc Cert.RefRouterIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v5)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v5) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RefRouterIdeal.defs (F := Ideal)) (onTc (τ := Cert.RefRouterIdeal.τ) (Cert.RefRouterIdeal.main (F := Ideal))) ⟨m', fun _ => 0, g'⟩ (fun r => ∀ c : Dev Cert.RefRouterIdeal.nD,
          r.2.mem ((c.tc : Thread Cert.RefRouterIdeal.nD Cert.RefRouterIdeal.τ).loc Cert.RefRouterIdeal.main_v30) = v0 c
          ∧ r.2.mem ((c.tc : Thread Cert.RefRouterIdeal.nD Cert.RefRouterIdeal.τ).loc Cert.RefRouterIdeal.main_arg0) = m' ((c.tc : Thread Cert.RefRouterIdeal.nD Cert.RefRouterIdeal.τ).loc Cert.RefRouterIdeal.main_arg0)
          ∧ r.2.mem ((c.tc : Thread Cert.RefRouterIdeal.nD Cert.RefRouterIdeal.τ).loc Cert.RefRouterIdeal.main_arg1) = m' ((c.tc : Thread Cert.RefRouterIdeal.nD Cert.RefRouterIdeal.τ).loc Cert.RefRouterIdeal.main_arg1)
          ∧ r.2.mem ((c.tc : Thread Cert.RefRouterIdeal.nD Cert.RefRouterIdeal.τ).loc Cert.RefRouterIdeal.main_arg2) = m' ((c.tc : Thread Cert.RefRouterIdeal.nD Cert.RefRouterIdeal.τ).loc Cert.RefRouterIdeal.main_arg2))

def preserves_Kv_KvIdeal : Prop :=
  True

def algebraic_KvIdeal_RefKvIdeal [hKvIdeal : Cert.KvIdeal.Facts] [hRefKvIdeal : Cert.RefKvIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.RefKvIdeal.nD Cert.RefKvIdeal.τ Cert.RefKvIdeal.sig) → Buf (Elt Ideal) ℓ) (g' : Dev Cert.RefKvIdeal.nD → PrngReg), Pre_KvIdeal m →
    (∀ c : Dev Cert.KvIdeal.nD,
      m' ((c.tc : Thread Cert.RefKvIdeal.nD Cert.RefKvIdeal.τ).loc Cert.RefKvIdeal.main_arg0) = m ((c.tc : Thread Cert.KvIdeal.nD Cert.KvIdeal.τ).loc Cert.KvIdeal.main_arg0)
      ∧ m' ((c.tc : Thread Cert.RefKvIdeal.nD Cert.RefKvIdeal.τ).loc Cert.RefKvIdeal.main_arg1) = m ((c.tc : Thread Cert.KvIdeal.nD Cert.KvIdeal.τ).loc Cert.KvIdeal.main_arg1)
      ∧ m' ((c.tc : Thread Cert.RefKvIdeal.nD Cert.RefKvIdeal.τ).loc Cert.RefKvIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.RefKvIdeal.defs (F := Ideal)) (onTc (τ := Cert.RefKvIdeal.τ) (Cert.RefKvIdeal.main (F := Ideal))) ⟨m', fun _ => 0, g'⟩ (fun r => ∀ c : Dev Cert.RefKvIdeal.nD,
          r.2.mem ((c.tc : Thread Cert.RefKvIdeal.nD Cert.RefKvIdeal.τ).loc Cert.RefKvIdeal.main_v13) = v0 c
          ∧ r.2.mem ((c.tc : Thread Cert.RefKvIdeal.nD Cert.RefKvIdeal.τ).loc Cert.RefKvIdeal.main_arg0) = m' ((c.tc : Thread Cert.RefKvIdeal.nD Cert.RefKvIdeal.τ).loc Cert.RefKvIdeal.main_arg0)
          ∧ r.2.mem ((c.tc : Thread Cert.RefKvIdeal.nD Cert.RefKvIdeal.τ).loc Cert.RefKvIdeal.main_arg1) = m' ((c.tc : Thread Cert.RefKvIdeal.nD Cert.RefKvIdeal.τ).loc Cert.RefKvIdeal.main_arg1)
          ∧ r.2.mem ((c.tc : Thread Cert.RefKvIdeal.nD Cert.RefKvIdeal.τ).loc Cert.RefKvIdeal.main_arg2) = m' ((c.tc : Thread Cert.RefKvIdeal.nD Cert.RefKvIdeal.τ).loc Cert.RefKvIdeal.main_arg2))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hRefMoeIdeal : Cert.RefMoeIdeal.Facts) (hFfn : Cert.Ffn.Facts) (hFfnIdeal : Cert.FfnIdeal.Facts) (hRefFfnIdeal : Cert.RefFfnIdeal.Facts) (hProj : Cert.Proj.Facts) (hProjIdeal : Cert.ProjIdeal.Facts) (hRefProjIdeal : Cert.RefProjIdeal.Facts) (hMerge : Cert.Merge.Facts) (hMergeIdeal : Cert.MergeIdeal.Facts) (hRefMergeIdeal : Cert.RefMergeIdeal.Facts) (hCross : Cert.Cross.Facts) (hCrossIdeal : Cert.CrossIdeal.Facts) (hRefCrossIdeal : Cert.RefCrossIdeal.Facts) (hRouter : Cert.Router.Facts) (hRouterIdeal : Cert.RouterIdeal.Facts) (hRefRouterIdeal : Cert.RefRouterIdeal.Facts) (hKv : Cert.Kv.Facts) (hKvIdeal : Cert.KvIdeal.Facts) (hRefKvIdeal : Cert.RefKvIdeal.Facts) (hPre_finite_scores : Cert.Pre_finite_scores.Facts) (hPre_routing_weights : Cert.Pre_routing_weights.Facts) (hPre_finite_logits : Cert.Pre_finite_logits.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Moe (hMoe := hMoe)
    ∧ quiescent_MoeIdeal (hMoeIdeal := hMoeIdeal)
    ∧ quiescent_MoeIdeal_pre_routing_weights (hMoeIdeal := hMoeIdeal) (hPre_routing_weights := hPre_routing_weights)
    ∧ quiescent_RefMoeIdeal (hRefMoeIdeal := hRefMoeIdeal)
    ∧ quiescent_RefMoeIdeal_pre_routing_weights (hRefMoeIdeal := hRefMoeIdeal) (hPre_routing_weights := hPre_routing_weights)
    ∧ quiescent_Ffn (hFfn := hFfn)
    ∧ quiescent_FfnIdeal (hFfnIdeal := hFfnIdeal)
    ∧ quiescent_RefFfnIdeal (hRefFfnIdeal := hRefFfnIdeal)
    ∧ quiescent_Proj (hProj := hProj)
    ∧ quiescent_ProjIdeal (hProjIdeal := hProjIdeal)
    ∧ quiescent_RefProjIdeal (hRefProjIdeal := hRefProjIdeal)
    ∧ quiescent_Merge (hMerge := hMerge)
    ∧ quiescent_MergeIdeal (hMergeIdeal := hMergeIdeal)
    ∧ quiescent_RefMergeIdeal (hRefMergeIdeal := hRefMergeIdeal)
    ∧ quiescent_Cross (hCross := hCross)
    ∧ quiescent_CrossIdeal (hCrossIdeal := hCrossIdeal)
    ∧ quiescent_RefCrossIdeal (hRefCrossIdeal := hRefCrossIdeal)
    ∧ quiescent_Router (hRouter := hRouter)
    ∧ quiescent_RouterIdeal (hRouterIdeal := hRouterIdeal)
    ∧ quiescent_RouterIdeal_pre_finite_logits (hRouterIdeal := hRouterIdeal) (hPre_finite_logits := hPre_finite_logits)
    ∧ quiescent_RefRouterIdeal (hRefRouterIdeal := hRefRouterIdeal)
    ∧ quiescent_RefRouterIdeal_pre_finite_logits (hRefRouterIdeal := hRefRouterIdeal) (hPre_finite_logits := hPre_finite_logits)
    ∧ quiescent_Kv (hKv := hKv)
    ∧ quiescent_KvIdeal (hKvIdeal := hKvIdeal)
    ∧ quiescent_RefKvIdeal (hRefKvIdeal := hRefKvIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Moe_MoeIdeal
    ∧ algebraic_MoeIdeal_RefMoeIdeal_pre_routing_weights (hMoeIdeal := hMoeIdeal) (hRefMoeIdeal := hRefMoeIdeal) (hPre_routing_weights := hPre_routing_weights)
    ∧ preserves_Ffn_FfnIdeal
    ∧ algebraic_FfnIdeal_RefFfnIdeal (hFfnIdeal := hFfnIdeal) (hRefFfnIdeal := hRefFfnIdeal)
    ∧ preserves_Proj_ProjIdeal
    ∧ algebraic_ProjIdeal_RefProjIdeal (hProjIdeal := hProjIdeal) (hRefProjIdeal := hRefProjIdeal)
    ∧ preserves_Merge_MergeIdeal
    ∧ algebraic_MergeIdeal_RefMergeIdeal (hMergeIdeal := hMergeIdeal) (hRefMergeIdeal := hRefMergeIdeal)
    ∧ preserves_Cross_CrossIdeal
    ∧ algebraic_CrossIdeal_RefCrossIdeal (hCrossIdeal := hCrossIdeal) (hRefCrossIdeal := hRefCrossIdeal)
    ∧ preserves_Router_RouterIdeal
    ∧ algebraic_RouterIdeal_RefRouterIdeal_pre_finite_logits (hRouterIdeal := hRouterIdeal) (hRefRouterIdeal := hRefRouterIdeal) (hPre_finite_logits := hPre_finite_logits)
    ∧ preserves_Kv_KvIdeal
    ∧ algebraic_KvIdeal_RefKvIdeal (hKvIdeal := hKvIdeal) (hRefKvIdeal := hRefKvIdeal)
-- ==== Pre_finite_logits.lean ====
abbrev S32768x1024 : Shape := ⟨2, ![32768, 1024]⟩
abbrev S1024 : Shape := ⟨1, ![1024]⟩
abbrev S1024x8 : Shape := ⟨2, ![1024, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8 : Shape := ⟨2, ![32768, 8]⟩

class Facts : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x8 : S_.BroadcastsInDim S32768x8 (![] : Fin 0 → Fin S32768x8.rank)
  dot_S32768x1024_S1024x8_S32768x8_1_0_0_1_n_n_wf : DotDims.WF S32768x1024 S1024x8 S32768x8 [1] [0] [0] [1] [] []

variable [Facts]

def dot_S32768x1024_S1024x8_S32768x8_1_0_0_1_n_n : DotDims S32768x1024 S1024x8 S32768x8 where
  lhsContracting := [1]
  rhsContracting := [0]
  lhsNonContracting := [0]
  rhsNonContracting := [1]
  lhsBatch := []
  rhsBatch := []
  wf := dot_S32768x1024_S1024x8_S32768x8_1_0_0_1_n_n_wf
def fn {F : FTy → Type} [FloatOps F] (main_arg0 : FVec F S32768x1024 .f32) (main_arg1 : FVec F S1024 .f32) (main_arg2 : FVec F S1024x8 .f32) : IVec S32768x8 1 :=
  let main_v0 : FVec F S32768x1024 .f32 := mulf main_arg0 main_arg0
  let main_cst : FVec F S_ .f32 := constant S_ .f32 0x00000000#32
  let main_v1 : FVec F S32768 .f32 := (fun x v => Host.reduceAdd x v reducesTo_S32768x1024_S32768_d1 h_S_) main_v0 main_cst
  let main_v2 : FVec F S32768x1 .f32 := broadcastInDim S32768x1 ![0] bcast_S32768_S32768x1_0 main_v1
  let main_cst_0 : FVec F S_ .f32 := constant S_ .f32 0x44800000#32
  let main_v3 : FVec F S32768x1 .f32 := broadcastInDim S32768x1 ![] bcast_S_S32768x1 main_cst_0
  let main_v4 : FVec F S32768x1 .f32 := Host.divf main_v2 main_v3
  let main_cst_1 : FVec F S_ .f32 := constant S_ .f32 0x358637BD#32
  let main_v5 : FVec F S32768x1 .f32 := broadcastInDim S32768x1 ![] bcast_S_S32768x1 main_cst_1
  let main_v6 : FVec F S32768x1 .f32 := addf main_v4 main_v5
  let main_v7 : FVec F S32768x1 .f32 := Host.rsqrt main_v6
  let main_v8 : FVec F S32768x1024 .f32 := broadcastInDim S32768x1024 ![0, 1] bcast_S32768x1_S32768x1024_0_1 main_v7
  let main_v9 : FVec F S32768x1024 .f32 := mulf main_arg0 main_v8
  let main_v10 : FVec F S1x1024 .f32 := broadcastInDim S1x1024 ![1] bcast_S1024_S1x1024_1 main_arg1
  let main_v11 : FVec F S32768x1024 .f32 := broadcastInDim S32768x1024 ![0, 1] bcast_S1x1024_S32768x1024_0_1 main_v10
  let main_v12 : FVec F S32768x1024 .f32 := mulf main_v9 main_v11
  let main_v13 : FVec F S32768x8 .f32 := (fun l r => Host.dotGeneral dot_S32768x1024_S1024x8_S32768x8_1_0_0_1_n_n none l r) main_v12 main_arg2
  let main_v14 : FVec F S32768x8 .f32 := Host.absf main_v13
  let main_cst_2 : FVec F S_ .f32 := constant S_ .f32 0x7F800000#32
  let main_v15 : FVec F S32768x8 .f32 := broadcastInDim S32768x8 ![] bcast_S_S32768x8 main_cst_2
  let main_v16 : IVec S32768x8 1 := cmpf .olt main_v14 main_v15
  main_v16
-- ==== Pre_finite_scores.lean ====
abbrev S16x2048x256 : Shape := ⟨3, ![16, 2048, 256]⟩
abbrev S16x2048x3072 : Shape := ⟨3, ![16, 2048, 3072]⟩
abbrev S16x2048x1536 : Shape := ⟨3, ![16, 2048, 1536]⟩
abbrev S_ : Shape := ⟨0, ![]⟩

class Facts : Prop where
  bcast_S_S16x2048x256 : S_.BroadcastsInDim S16x2048x256 (![] : Fin 0 → Fin S16x2048x256.rank)

variable [Facts]

def fn {F : FTy → Type} [FloatOps F] (main_arg0 : FVec F S16x2048x256 .f32) (main_arg1 : FVec F S16x2048x256 .f32) (main_arg2 : FVec F S16x2048x256 .f32) (main_arg3 : FVec F S16x2048x3072 .f32) (main_arg4 : FVec F S16x2048x1536 .f32) : IVec S16x2048x256 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_v3 : FVec F S16x2048x256 .f32 := Host.absf main_arg1
  let main_cst_0 : FVec F S_ .f32 := constant S_ .f32 0x7F800000#32
  let main_v4 : FVec F S16x2048x256 .f32 := broadcastInDim S16x2048x256 ![] bcast_S_S16x2048x256 main_cst_0
  let main_v5 : IVec S16x2048x256 1 := cmpf .olt main_v3 main_v4
  let main_v6 : IVec S16x2048x256 1 := andi main_v2 main_v5
  main_v6
-- ==== Pre_routing_weights.lean ====
abbrev S32768x1024 : Shape := ⟨2, ![32768, 1024]⟩
abbrev S1024 : Shape := ⟨1, ![1024]⟩
abbrev S32768x8 : Shape := ⟨2, ![32768, 8]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S32768x8 : S_.BroadcastsInDim S32768x8 (![] : Fin 0 → Fin S32768x8.rank)

variable [Facts]

def fn {F : FTy → Type} [FloatOps F] (main_arg0 : FVec F S32768x1024 .f32) (main_arg1 : FVec F S1024 .f32) (main_arg2 : FVec F S32768x8 .f32) (main_arg3 : FVec F S8x1024x7168 .f32) (main_arg4 : FVec F S8x3584x1024 .f32) : IVec S32768x8 1 :=
  let main_cst : FVec F S_ .f32 := constant S_ .f32 0x00000000#32
  let main_v0 : FVec F S32768x8 .f32 := broadcastInDim S32768x8 ![] bcast_S_S32768x8 main_cst
  let main_v1 : IVec S32768x8 1 := cmpf .oge main_arg2 main_v0
  let main_cst_0 : FVec F S_ .f32 := constant S_ .f32 0x7F800000#32
  let main_v2 : FVec F S32768x8 .f32 := broadcastInDim S32768x8 ![] bcast_S_S32768x8 main_cst_0
  let main_v3 : IVec S32768x8 1 := cmpf .olt main_arg2 main_v2
  let main_v4 : IVec S32768x8 1 := andi main_v1 main_v3
  main_v4
-- ==== Kernel.lean ====
abbrev S16x2048x256 : Shape := ⟨3, ![16, 2048, 256]⟩
abbrev S16x2048x3072 : Shape := ⟨3, ![16, 2048, 3072]⟩
abbrev S16x2048x1536 : Shape := ⟨3, ![16, 2048, 1536]⟩
abbrev S16x2048x5376 : Shape := ⟨3, ![16, 2048, 5376]⟩
abbrev S1x256x256 : Shape := ⟨3, ![1, 256, 256]⟩
abbrev S1x2048x256 : Shape := ⟨3, ![1, 2048, 256]⟩
abbrev S256x256 : Shape := ⟨2, ![256, 256]⟩
abbrev S256x384 : Shape := ⟨2, ![256, 384]⟩
abbrev S1x256x64 : Shape := ⟨3, ![1, 256, 64]⟩
abbrev S256x64 : Shape := ⟨2, ![256, 64]⟩
abbrev S256x128 : Shape := ⟨2, ![256, 128]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S16x2048x3072, .f32⟩
  | .hbm, ⟨4, _⟩ => ⟨S16x2048x1536, .f32⟩
  | .hbm, ⟨5, _⟩ => ⟨S16x2048x5376, .f32⟩
  | .hbm, ⟨6, _⟩ => ⟨S16x2048x256, .bf16⟩
  | .local _ .vmem, ⟨0, _⟩ => ⟨S1x256x256, .f32⟩
  | .local _ .vmem, ⟨1, _⟩ => ⟨S1x256x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x256, .bf16⟩
  | .local _ .vmem, ⟨7, _⟩ => ⟨S1x256x256, .bf16⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_off1 (i : grid0.Coords) : Fin 3 → Nat :=
  let c0_22 : Index := 0#32
  let arg1 : BitVec 32 := BitVec.ofNat 32 (i 1).val
  let c256_i32_21 : BitVec 32 := 256#32
  let v41 : BitVec 32 := Scalar.muli arg1 c256_i32_21
  let v42 : Index := Scalar.indexCast v41
  let c0_23 : Index := 0#32
  ![0, v42.toNat, 0]
@[reducible] def k0_t1_loop (i : grid0.Coords) : Scf.Loop 32 :=
  let c0_i32 : BitVec 32 := 0#32
  let arg1 : BitVec 32 := BitVec.ofNat 32 (i 1).val
  let v191 : BitVec 32 := Scalar.subi arg1 c0_i32
  let c1_i32 : BitVec 32 := 1#32
  let v193 : BitVec 32 := Scalar.divsi v191 c1_i32
  let v194 : BitVec 32 := Scalar.muli v193 c1_i32
  let v195 : BitVec 32 := Scalar.addi c0_i32 v194
  let c1_i32_63 : BitVec 32 := 1#32
  ⟨c0_i32, v195, c1_i32_63⟩
def k0_off2 (i : grid0.Coords) (k0_t1 : Fin (k0_t1_loop i).trips) : Fin 3 → Nat :=
  let c0_70 : Index := 0#32
  let arg1 : BitVec 32 := BitVec.ofNat 32 (i 1).val
  let c1_i32_68 : BitVec 32 := 1#32
  let v203 : BitVec 32 := Scalar.subi arg1 c1_i32_68
  let c0_i32 : BitVec 32 := 0#32
  let c1_i32_63 : BitVec 32 := 1#32
  let arg6 : BitVec 32 := Scf.iv c0_i32 c1_i32_63 k0_t1
  let v204 : BitVec 32 := Scalar.subi v203 arg6
  let c256_i32_69 : BitVec 32 := 256#32
  let v205 : BitVec 32 := Scalar.muli v204 c256_i32_69
  let v206 : Index := Scalar.indexCast v205
  let c0_71 : Index := 0#32
  ![0, v206.toNat, 0]
@[reducible] def k0_t2_loop (i : grid0.Coords) : Scf.Loop 32 :=
  let c0_i32 : BitVec 32 := 0#32
  let arg1 : BitVec 32 := BitVec.ofNat 32 (i 1).val
  let v191 : BitVec 32 := Scalar.subi arg1 c0_i32
  let c1_i32 : BitVec 32 := 1#32
  let v193 : BitVec 32 := Scalar.divsi v191 c1_i32
  let v194 : BitVec 32 := Scalar.muli v193 c1_i32
  let v195 : BitVec 32 := Scalar.addi c0_i32 v194
  let v192 : BitVec 32 := Scalar.addi c0_i32 v191
  let c1_i32_64 : BitVec 32 := 1#32
  ⟨v195, v192, c1_i32_64⟩
def k0_off3 (i : grid0.Coords) (k0_t2 : Fin (k0_t2_loop i).trips) : Fin 3 → Nat :=
  let c0_70 : Index := 0#32
  let arg1 : BitVec 32 := BitVec.ofNat 32 (i 1).val
  let c1_i32_68 : BitVec 32 := 1#32
  let v203 : BitVec 32 := Scalar.subi arg1 c1_i32_68
  let c0_i32 : BitVec 32 := 0#32
  let v191 : BitVec 32 := Scalar.subi arg1 c0_i32
  let c1_i32 : BitVec 32 := 1#32
  let v193 : BitVec 32 := Scalar.divsi v191 c1_i32
  let v194 : BitVec 32 := Scalar.muli v193 c1_i32
  let v195 : BitVec 32 := Scalar.addi c0_i32 v194
  let c1_i32_64 : BitVec 32 := 1#32
  let arg6 : BitVec 32 := Scf.iv v195 c1_i32_64 k0_t2
  let v204 : BitVec 32 := Scalar.subi v203 arg6
  let c256_i32_69 : BitVec 32 := 256#32
  let v205 : BitVec 32 := Scalar.muli v204 c256_i32_69
  let v206 : Index := Scalar.indexCast v205
  let c0_71 : Index := 0#32
  ![0, v206.toNat, 0]
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c13_i32 : BitVec 32 := 13#32
  let c0_i32_0 : BitVec 32 := 0#32
  ![arg0.toNat, c0_i32.toNat, c13_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c14_i32 : BitVec 32 := 14#32
  let c0_i32_0 : BitVec 32 := 0#32
  ![arg0.toNat, c0_i32.toNat, c14_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x2048x256 : Shape := ⟨3, ![16, 2048, 256]⟩
abbrev S16x2048x3072 : Shape := ⟨3, ![16, 2048, 3072]⟩
abbrev S16x2048x1536 : Shape := ⟨3, ![16, 2048, 1536]⟩
abbrev S16x2048x4x64 : Shape := ⟨4, ![16, 2048, 4, 64]⟩
abbrev S2048 : Shape := ⟨1, ![2048]⟩
abbrev S16x4x2048x2048 : Shape := ⟨4, ![16, 4, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S16x4x64x2048 : Shape := ⟨4, ![16, 4, 64, 2048]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S16x2048x3072, .f32⟩
  | .hbm, ⟨4, _⟩ => ⟨S16x2048x1536, .f32⟩
  | .hbm, ⟨5, _⟩ => ⟨S16x2048x4x64, .f32⟩
  | .hbm, ⟨6, _⟩ => ⟨S16x2048x4x64, .f32⟩
  | .hbm, ⟨7, _⟩ => ⟨S16x2048x4x64, .f32⟩
  | .hbm, ⟨8, _⟩ => ⟨S2048, .i32⟩
  | .hbm, ⟨9, _⟩ => ⟨S16x4x2048x2048, .f32⟩
  | .hbm, ⟨10, _⟩ => ⟨S_, .f32⟩
  | .hbm, ⟨11, _⟩ => ⟨S16x4x2048x2048, .f32⟩
  | .hbm, ⟨12, _⟩ => ⟨S16x4x2048x2048, .f32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S16x4x2048x2048, .f32⟩
  | .hbm, ⟨19, _⟩ => ⟨S_, .f32⟩
  | .hbm, ⟨20, _⟩ => ⟨S16x4x2048x2048, .f32⟩
  | .hbm, ⟨21, _⟩ => ⟨S16x4x2048x2048, .f32⟩
  | .hbm, ⟨22, _⟩ => ⟨S16x4x2048x2048, .f32⟩
  | .hbm, ⟨23, _⟩ => ⟨S16x4x2048x2048, .f32⟩
  | .hbm, ⟨24, _⟩ => ⟨S16x4x2048x2048, .i1⟩
  | .hbm, ⟨25, _⟩ => ⟨S16x4x2048x2048, .f32⟩
  | .hbm, ⟨26, _⟩ => ⟨S16x4x2048x2048, .f32⟩
  | .hbm, ⟨27, _⟩ => ⟨S16x4x2048x2048, .f32⟩
  | .hbm, ⟨28, _⟩ => ⟨S16x4x2048x2048, .f32⟩
  | .hbm, ⟨29, _⟩ => ⟨S16x4x2048x2048, .f32⟩
  | .hbm, ⟨30, _⟩ => ⟨S16x4x2048x2048, .f32⟩
  | .hbm, ⟨31, _⟩ => ⟨S16x4x2048x2048, .f32⟩
  | .hbm, ⟨32, _⟩ => ⟨S16x4x2048x2048, .f32⟩
  | .hbm, ⟨33, _⟩ => ⟨S16x4x2048x2048, .f32⟩
  | .hbm, ⟨34, _⟩ => ⟨S16x4x2048x2048, .f32⟩
  | .hbm, ⟨35, _⟩ => ⟨S16x4x2048x2048, .f32⟩
  | .hbm, ⟨36, _⟩ => ⟨S_, .f32⟩
  | .hbm, ⟨37, _⟩ => ⟨S16x4x2048x2048, .f32⟩
  | .hbm, ⟨38, _⟩ => ⟨S16x4x2048x2048, .f32⟩
  | .hbm, ⟨39, _⟩ => ⟨S16x4x2048x2048, .f32⟩
  | .hbm, ⟨40, _⟩ => ⟨S16x4x2048x2048, .f32⟩
  | .hbm, ⟨41, _⟩ => ⟨S16x4x2048x2048, .i1⟩
  | .hbm, ⟨42, _⟩ => ⟨S16x4x2048x2048, .f32⟩
  | .hbm, ⟨43, _⟩ => ⟨S16x4x2048x2048, .f32⟩
  | .hbm, ⟨44, _⟩ => ⟨S16x4x2048x2048, .f32⟩
  | .hbm, ⟨45, _⟩ => ⟨S16x4x2048x2048, .f32⟩
  | .hbm, ⟨46, _⟩ => ⟨S16x4x2048x2048, .f32⟩
  | .hbm, ⟨47, _⟩ => ⟨S16x4x2048x2048, .f32⟩
  | .hbm, ⟨48, _⟩ => ⟨S16x4x2048x2048, .f32⟩
  | .hbm, ⟨49, _⟩ => ⟨S16x4x2048x2048, .f32⟩
  | .hbm, ⟨50, _⟩ => ⟨S16x4x2048x2048, .f32⟩
  | .hbm, ⟨51, _⟩ => ⟨S_, .f32⟩
  | .hbm, ⟨52, _⟩ => ⟨S_, .f32⟩
  | .hbm, ⟨53, _⟩ => ⟨S16x4x2048x2048, .i1⟩
  | .hbm, ⟨54, _⟩ => ⟨S16x4x2048x2048, .f32⟩
  | .hbm, ⟨55, _⟩ => ⟨S16x4x2048x2048, .f32⟩
  | .hbm, ⟨56, _⟩ => ⟨S_, .f32⟩
  | .hbm, ⟨57, _⟩ => ⟨S_, .f32⟩
  | .hbm, ⟨58, _⟩ => ⟨S16x4x2048x2048, .f32⟩
  | .hbm, ⟨59, _⟩ => ⟨S16x4x2048x2048, .f32⟩
  | .hbm, ⟨60, _⟩ => ⟨S16x4x2048x2048, .f32⟩
  | .hbm, ⟨61, _⟩ => ⟨S16x4x2048x2048, .f32⟩
  | .hbm, ⟨62, _⟩ => ⟨S_, .f32⟩
  | .hbm, ⟨63, _⟩ => ⟨S_, .f32⟩
  | .hbm, ⟨64, _⟩ => ⟨S16x4x2048x2048, .i1⟩
  | .hbm, ⟨65, _⟩ => ⟨S16x4x2048x2048, .f32⟩
  | .hbm, ⟨66, _⟩ => ⟨S16x4x2048x2048, .f32⟩
  | .hbm, ⟨67, _⟩ => ⟨S16x4x64x2048, .f32⟩
  | .hbm, ⟨68, _⟩ => ⟨S16x2048x4x64, .f32⟩
  | .hbm, ⟨69, _⟩ => ⟨S16x2048x256, .f32⟩
  | .hbm, ⟨70, _⟩ => ⟨S16x2048x256, .bf16⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v12 : Ref sig .tc := ⟨.hbm, 33, rfl⟩
abbrev main_v13 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v14 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v15 : Ref sig .tc := ⟨.hbm, 55, rfl⟩
abbrev main_call3_cst : Ref sig .tc := ⟨.hbm, 56, rfl⟩
abbrev main_call3_v0 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩

abbrev nD : Nat := 1
abbrev τ : Topo := Topo.v7x

variable {F : FTy → Type} [FloatOps F]
-- ==== Moe.lean ====
abbrev S32768x1024 : Shape := ⟨2, ![32768, 1024]⟩
abbrev S1024 : Shape := ⟨1, ![1024]⟩
abbrev S32768x8 : Shape := ⟨2, ![32768, 8]⟩
abbrev S8x1024x7168 : Shape := ⟨3, ![8, 1024, 7168]⟩
abbrev S8x3584x1024 : Shape := ⟨3, ![8, 3584, 1024]⟩
abbrev S_ : Shape := ⟨0, ![]⟩
abbrev S32768x120 : Shape := ⟨2, ![32768, 120]⟩
abbrev S32768x128 : Shape := ⟨2, ![32768, 128]⟩
abbrev S1x1024 : Shape := ⟨2, ![1, 1024]⟩
abbrev S1024x1024 : Shape := ⟨2, ![1024, 1024]⟩
abbrev S1024x128 : Shape := ⟨2, ![1024, 128]⟩
abbrev S1x1024x256 : Shape := ⟨3, ![1, 1024, 256]⟩
abbrev S1x256x1024 : Shape := ⟨3, ![1, 256, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 12
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x8, .f32⟩
  | .hbm, ⟨3, _⟩ => ⟨S8x1024x7168, .f32⟩
  | .hbm, ⟨4, _⟩ => ⟨S8x3584x1024, .f32⟩
  | .hbm, ⟨5, _⟩ => ⟨S_, .f32⟩
  | .hbm, ⟨6, _⟩ => ⟨S32768x120, .f32⟩
  | .hbm, ⟨7, _⟩ => ⟨S32768x128, .f32⟩
  | .hbm, ⟨8, _⟩ => ⟨S8x1024x7168, .bf16⟩
  | .hbm, ⟨9, _⟩ => ⟨S8x3584x1024, .bf16⟩
  | .hbm, ⟨10, _⟩ => ⟨S1x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x128, .f32⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x256x1024, .bf16⟩
  | .local _ .vmem, ⟨10, _⟩ => ⟨S1x256x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![32, 8, 14], ![false, false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let arg2 : BitVec 32 := BitVec.ofNat 32 (i 2).val
  let c13_i32 : BitVec 32 := 13#32
  let v36 : BitVec 1 := Scalar.cmpi .eq arg2 c13_i32
  let v37 : BitVec 1 := Scalar.andi v35 v36
  let v38 : BitVec 32 := Scalar.extui v37
  let c0_i32_22 : BitVec 32 := 0#32
  let v39 : BitVec 1 := Scalar.cmpi .ne v38 c0_i32_22
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi arg2 c14_i32
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== RefMoeIdeal.lean ====
abbrev S32768x1024 : Shape := ⟨2, ![32768, 1024]⟩
abbrev S1024 : Shape := ⟨1, ![1024]⟩
abbrev S32768x8 : Shape := ⟨2, ![32768, 8]⟩
abbrev S8x1024x7168 : Shape := ⟨3, ![8, 1024, 7168]⟩
abbrev S8x3584x1024 : Shape := ⟨3, ![8, 3584, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S8x7168x32768 : Shape := ⟨3, ![8, 7168, 32768]⟩
abbrev S8x32768x7168 : Shape := ⟨3, ![8, 32768, 7168]⟩
abbrev S8x32768x3584 : Shape := ⟨3, ![8, 32768, 3584]⟩
abbrev S8x32768x1024 : Shape := ⟨3, ![8, 32768, 1024]⟩
abbrev S8x32768 : Shape := ⟨2, ![8, 32768]⟩
abbrev S8x32768x1 : Shape := ⟨3, ![8, 32768, 1]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x8, .f32⟩
  | .hbm, ⟨3, _⟩ => ⟨S8x1024x7168, .f32⟩
  | .hbm, ⟨4, _⟩ => ⟨S8x3584x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S8x7168x32768, .f32⟩
  | .hbm, ⟨22, _⟩ => ⟨S8x32768x7168, .f32⟩
  | .hbm, ⟨23, _⟩ => ⟨S8x32768x3584, .f32⟩
  | .hbm, ⟨24, _⟩ => ⟨S8x32768x3584, .f32⟩
  | .hbm, ⟨25, _⟩ => ⟨S8x32768x3584, .f32⟩
  | .hbm, ⟨26, _⟩ => ⟨S8x32768x3584, .f32⟩
  | .hbm, ⟨27, _⟩ => ⟨S_, .f32⟩
  | .hbm, ⟨28, _⟩ => ⟨S8x32768x3584, .f32⟩
  | .hbm, ⟨29, _⟩ => ⟨S8x32768x3584, .f32⟩
  | .hbm, ⟨30, _⟩ => ⟨S_, .f32⟩
  | .hbm, ⟨31, _⟩ => ⟨S8x32768x3584, .f32⟩
  | .hbm, ⟨32, _⟩ => ⟨S8x32768x3584, .f32⟩
  | .hbm, ⟨33, _⟩ => ⟨S8x32768x3584, .f32⟩
  | .hbm, ⟨34, _⟩ => ⟨S8x32768x3584, .f32⟩
  | .hbm, ⟨35, _⟩ => ⟨S8x32768x1024, .f32⟩
  | .hbm, ⟨36, _⟩ => ⟨S8x32768, .f32⟩
  | .hbm, ⟨37, _⟩ => ⟨S8x32768x1, .f32⟩
  | .hbm, ⟨38, _⟩ => ⟨S8x32768x1024, .f32⟩
  | .hbm, ⟨39, _⟩ => ⟨S8x32768x1024, .f32⟩
  | .hbm, ⟨40, _⟩ => ⟨S_, .f32⟩
  | .hbm, ⟨41, _⟩ => ⟨S32768x1024, .f32⟩
  | .hbm, ⟨42, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768x128 : Shape := ⟨2, ![32768, 128]⟩
abbrev S1x1024x5632 : Shape := ⟨3, ![1, 1024, 5632]⟩
abbrev S1x2816x1024 : Shape := ⟨3, ![1, 2816, 1024]⟩
abbrev S1x1024 : Shape := ⟨2, ![1, 1024]⟩
abbrev S1024x1024 : Shape := ⟨2, ![1024, 1024]⟩
abbrev S1024x128 : Shape := ⟨2, ![1024, 128]⟩
abbrev S1x1024x256 : Shape := ⟨3, ![1, 1024, 256]⟩
abbrev S1x256x1024 : Shape := ⟨3, ![1, 256, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 12
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S_, .f32⟩
  | .hbm, ⟨5, _⟩ => ⟨S32768x128, .f32⟩
  | .hbm, ⟨6, _⟩ => ⟨S1x1024x5632, .f32⟩
  | .hbm, ⟨7, _⟩ => ⟨S1x1024x5632, .bf16⟩
  | .hbm, ⟨8, _⟩ => ⟨S1x2816x1024, .f32⟩
  | .hbm, ⟨9, _⟩ => ⟨S1x2816x1024, .bf16⟩
  | .hbm, ⟨10, _⟩ => ⟨S1x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x128, .f32⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x256x1024, .bf16⟩
  | .local _ .vmem, ⟨10, _⟩ => ⟨S1x256x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![32, 1, 11], ![false, false, false]⟩

def k0_cond2 (i : grid0.Coords) : BitVec 1 :=
  let arg1 : BitVec 32 := BitVec.ofNat 32 (i 1).val
  let c0_i32_18 : BitVec 32 := 0#32
  let v24 : BitVec 1 := Scalar.cmpi .eq arg1 c0_i32_18
  let arg2 : BitVec 32 := BitVec.ofNat 32 (i 2).val
  let c10_i32 : BitVec 32 := 10#32
  let v25 : BitVec 1 := Scalar.cmpi .eq arg2 c10_i32
  let v26 : BitVec 1 := Scalar.andi v24 v25
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![arg1.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== RefFfnIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S1024x5376 : Shape := ⟨2, ![1024, 5376]⟩
abbrev S1x1024 : Shape := ⟨2, ![1, 1024]⟩
abbrev S32768x5376 : Shape := ⟨2, ![32768, 5376]⟩
abbrev S1024x1024 : Shape := ⟨2, ![1024, 1024]⟩
abbrev S1024x768 : Shape := ⟨2, ![1024, 768]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5376, .f32⟩
  | .hbm, ⟨3, _⟩ => ⟨S1024x5376, .bf16⟩
  | .hbm, ⟨4, _⟩ => ⟨S1x1024, .f32⟩
  | .hbm, ⟨5, _⟩ => ⟨S32768x5376, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .f32⟩
  | .local _ .vmem, ⟨6, _⟩ => ⟨S1024x768, .f32⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefProjIdeal.lean ====
abbrev S32768x1024 : Shape := ⟨2, ![32768, 1024]⟩
abbrev S1024 : Shape := ⟨1, ![1024]⟩
abbrev S1024x5376 : Shape := ⟨2, ![1024, 5376]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5376 : Shape := ⟨2, ![32768, 5376]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5376, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x5376, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Merge.lean ====
abbrev S32768x5376 : Shape := ⟨2, ![32768, 5376]⟩
abbrev S32768x256 : Shape := ⟨2, ![32768, 256]⟩
abbrev S32768x512 : Shape := ⟨2, ![32768, 512]⟩
abbrev S32768x1024 : Shape := ⟨2, ![32768, 1024]⟩
abbrev S3x1024 : Shape := ⟨2, ![3, 1024]⟩
abbrev S256x1024 : Shape := ⟨2, ![256, 1024]⟩
abbrev S512x1024 : Shape := ⟨2, ![512, 1024]⟩
abbrev S1024x1024 : Shape := ⟨2, ![1024, 1024]⟩
abbrev S1x3072 : Shape := ⟨2, ![1, 3072]⟩
abbrev S512x3072 : Shape := ⟨2, ![512, 3072]⟩
abbrev S512x256 : Shape := ⟨2, ![512, 256]⟩
abbrev S512x512 : Shape := ⟨2, ![512, 512]⟩
abbrev S1x1024 : Shape := ⟨2, ![1, 1024]⟩

abbrev nBuf : Space → Nat
  | .hbm => 16
  | .vmem => 17
  | .smem => 0
  | _ => 0

abbrev bufTy : (tb : Table) → Fin (tcTables nBuf tb) → BufTy
  | .hbm, ⟨0, _⟩ => ⟨S32768x5376, .f32⟩
  | .hbm, ⟨1, _⟩ => ⟨S32768x256, .bf16⟩
  | .hbm, ⟨2, _⟩ => ⟨S32768x256, .bf16⟩
  | .hbm, ⟨3, _⟩ => ⟨S32768x512, .bf16⟩
  | .hbm, ⟨4, _⟩ => ⟨S32768x1024, .f32⟩
  | .hbm, ⟨5, _⟩ => ⟨S3x1024, .f32⟩
  | .hbm, ⟨6, _⟩ => ⟨S256x1024, .f32⟩
  | .hbm, ⟨7, _⟩ => ⟨S256x1024, .f32⟩
  | .hbm, ⟨8, _⟩ => ⟨S512x1024, .f32⟩
  | .hbm, ⟨9, _⟩ => ⟨S1024x1024, .f32⟩
  | .hbm, ⟨10, _⟩ => ⟨S256x1024, .bf16⟩
  | .hbm, ⟨11, _⟩ => ⟨S256x1024, .bf16⟩
  | .hbm, ⟨12, _⟩ => ⟨S512x1024, .bf16⟩
  | .hbm, ⟨13, _⟩ => ⟨S1024x1024, .bf16⟩
  | .hbm, ⟨14, _⟩ => ⟨S1x3072, .f32⟩
  | .hbm, ⟨15, _⟩ => ⟨S32768x1024, .f32⟩
  | .local _ .vmem, ⟨0, _⟩ => ⟨S512x3072, .f32⟩
  | .local _ .vmem, ⟨1, _⟩ => ⟨S512x3072, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S1x3072, .f32⟩
  | .local _ .vmem, ⟨11, _⟩ => ⟨S256x1024, .bf16⟩
  | .local _ .vmem, ⟨12, _⟩ => ⟨S256x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S32768x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefMergeIdeal.lean ====
abbrev S32768x5376 : Shape := ⟨2, ![32768, 5376]⟩
abbrev S32768x256 : Shape := ⟨2, ![32768, 256]⟩
abbrev S32768x512 : Shape := ⟨2, ![32768, 512]⟩
abbrev S32768x1024 : Shape := ⟨2, ![32768, 1024]⟩
abbrev S3x1024 : Shape := ⟨2, ![3, 1024]⟩
abbrev S256x1024 : Shape := ⟨2, ![256, 1024]⟩
abbrev S512x1024 : Shape := ⟨2, ![512, 1024]⟩
abbrev S1024x1024 : Shape := ⟨2, ![1024, 1024]⟩
abbrev S32768x3072 : Shape := ⟨2, ![32768, 3072]⟩
abbrev S32768x3x1024 : Shape := ⟨3, ![32768, 3, 1024]⟩
abbrev S1x3x1024 : Shape := ⟨3, ![1, 3, 1024]⟩
abbrev S_ : Shape := ⟨0, ![]⟩
abbrev S32768x1x1024 : Shape := ⟨3, ![32768, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32768x5376, .f32⟩
  | .hbm, ⟨1, _⟩ => ⟨S32768x256, .bf16⟩
  | .hbm, ⟨2, _⟩ => ⟨S32768x256, .bf16⟩
  | .hbm, ⟨3, _⟩ => ⟨S32768x512, .bf16⟩
  | .hbm, ⟨4, _⟩ => ⟨S32768x1024, .f32⟩
  | .hbm, ⟨5, _⟩ => ⟨S3x1024, .f32⟩
  | .hbm, ⟨6, _⟩ => ⟨S256x1024, .f32⟩
  | .hbm, ⟨7, _⟩ => ⟨S256x1024, .f32⟩
  | .hbm, ⟨8, _⟩ => ⟨S512x1024, .f32⟩
  | .hbm, ⟨9, _⟩ => ⟨S1024x1024, .f32⟩
  | .hbm, ⟨10, _⟩ => ⟨S32768x3072, .f32⟩
  | .hbm, ⟨11, _⟩ => ⟨S32768x3x1024, .f32⟩
  | .hbm, ⟨12, _⟩ => ⟨S1x3x1024, .f32⟩
  | .hbm, ⟨13, _⟩ => ⟨S32768x3x1024, .f32⟩
  | .hbm, ⟨14, _⟩ => ⟨S32768x3x1024, .f32⟩
  | .hbm, ⟨15, _⟩ => ⟨S32768x3x1024, .f32⟩
  | .hbm, ⟨16, _⟩ => ⟨S32768x3x1024, .f32⟩
  | .hbm, ⟨17, _⟩ => ⟨S_, .f32⟩
  | .hbm, ⟨18, _⟩ => ⟨S32768x3x1024, .f32⟩
  | .hbm, ⟨19, _⟩ => ⟨S32768x3x1024, .f32⟩
  | .hbm, ⟨20, _⟩ => ⟨S_, .f32⟩
  | .hbm, ⟨21, _⟩ => ⟨S32768x3x1024, .f32⟩
  | .hbm, ⟨22, _⟩ => ⟨S32768x3x1024, .f32⟩
  | .hbm, ⟨23, _⟩ => ⟨S32768x256, .f32⟩
  | .hbm, ⟨24, _⟩ => ⟨S32768x256, .f32⟩
  | .hbm, ⟨25, _⟩ => ⟨S32768x512, .f32⟩
  | .hbm, ⟨26, _⟩ => ⟨S32768x1x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | _, _ => ⟨S32768x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Cross.lean ====
abbrev S16x2048x1024 : Shape := ⟨3, ![16, 2048, 1024]⟩
abbrev S16x256x1024 : Shape := ⟨3, ![16, 256, 1024]⟩
abbrev S1024 : Shape := ⟨1, ![1024]⟩
abbrev S1024x512 : Shape := ⟨2, ![1024, 512]⟩
abbrev S512x1024 : Shape := ⟨2, ![512, 1024]⟩
abbrev S128 : Shape := ⟨1, ![128]⟩
abbrev S1x1024 : Shape := ⟨2, ![1, 1024]⟩
abbrev S1x128 : Shape := ⟨2, ![1, 128]⟩
abbrev S1x512x1024 : Shape := ⟨3, ![1, 512, 1024]⟩
abbrev S1x256x1024 : Shape := ⟨3, ![1, 256, 1024]⟩
abbrev S256x512 : Shape := ⟨2, ![256, 512]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S512x256 : Shape := ⟨2, ![512, 256]⟩

abbrev nBuf : Space → Nat
  | .hbm => 13
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S1024x512, .f32⟩
  | .hbm, ⟨4, _⟩ => ⟨S512x1024, .f32⟩
  | .hbm, ⟨5, _⟩ => ⟨S128, .f32⟩
  | .hbm, ⟨6, _⟩ => ⟨S128, .f32⟩
  | .hbm, ⟨7, _⟩ => ⟨S1024x512, .bf16⟩
  | .hbm, ⟨8, _⟩ => ⟨S512x1024, .bf16⟩
  | .hbm, ⟨9, _⟩ => ⟨S1x1024, .f32⟩
  | .hbm, ⟨10, _⟩ => ⟨S1x128, .f32⟩
  | .hbm, ⟨11, _⟩ => ⟨S1x128, .f32⟩
  | .hbm, ⟨12, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1024x512, .bf16⟩
  | .local _ .vmem, ⟨6, _⟩ => ⟨S512x1024, .bf16⟩
  | .local _ .vmem, ⟨7, _⟩ => ⟨S1x128, .f32⟩
  | .local _ .vmem, ⟨8, _⟩ => ⟨S1x128, .f32⟩
  | .local _ .vmem, ⟨9, _⟩ => ⟨S1x512x1024, .f32⟩
  | .local _ .vmem, ⟨10, _⟩ => ⟨S1x512x1024, .f32⟩
  | .local _ .vmem, ⟨11, _⟩ => ⟨S256x512, .bf16⟩
  | .local _ .vmem, ⟨12, _⟩ => ⟨S256x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefCrossIdeal.lean ====
abbrev S16x2048x1024 : Shape := ⟨3, ![16, 2048, 1024]⟩
abbrev S16x256x1024 : Shape := ⟨3, ![16, 256, 1024]⟩
abbrev S1024 : Shape := ⟨1, ![1024]⟩
abbrev S1024x512 : Shape := ⟨2, ![1024, 512]⟩
abbrev S512x1024 : Shape := ⟨2, ![512, 1024]⟩
abbrev S128 : Shape := ⟨1, ![128]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x512 : Shape := ⟨3, ![16, 2048, 512]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x256x512 : Shape := ⟨3, ![16, 256, 512]⟩
abbrev S16x256x4x128 : Shape := ⟨4, ![16, 256, 4, 128]⟩
abbrev S16x256x4 : Shape := ⟨3, ![16, 256, 4]⟩
abbrev S16x256x4x1 : Shape := ⟨4, ![16, 256, 4, 1]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩

abbrev nBuf : Space → Nat
  | .hbm => 84
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S1024, .f32⟩
  | .hbm, ⟨3, _⟩ => ⟨S1024x512, .f32⟩
  | .hbm, ⟨4, _⟩ => ⟨S512x1024, .f32⟩
  | .hbm, ⟨5, _⟩ => ⟨S128, .f32⟩
  | .hbm, ⟨6, _⟩ => ⟨S128, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x512, .f32⟩
  | .hbm, ⟨24, _⟩ => ⟨S16x2048x4x128, .f32⟩
  | .hbm, ⟨25, _⟩ => ⟨S16x2048x4x128, .f32⟩
  | .hbm, ⟨26, _⟩ => ⟨S_, .f32⟩
  | .hbm, ⟨27, _⟩ => ⟨S16x2048x4, .f32⟩
  | .hbm, ⟨28, _⟩ => ⟨S16x2048x4x1, .f32⟩
  | .hbm, ⟨29, _⟩ => ⟨S_, .f32⟩
  | .hbm, ⟨30, _⟩ => ⟨S16x2048x4x1, .f32⟩
  | .hbm, ⟨31, _⟩ => ⟨S16x2048x4x1, .f32⟩
  | .hbm, ⟨32, _⟩ => ⟨S_, .f32⟩
  | .hbm, ⟨33, _⟩ => ⟨S16x2048x4x1, .f32⟩
  | .hbm, ⟨34, _⟩ => ⟨S16x2048x4x1, .f32⟩
  | .hbm, ⟨35, _⟩ => ⟨S16x2048x4x1, .f32⟩
  | .hbm, ⟨36, _⟩ => ⟨S16x2048x4x128, .f32⟩
  | .hbm, ⟨37, _⟩ => ⟨S16x2048x4x128, .f32⟩
  | .hbm, ⟨38, _⟩ => ⟨S1x1x1x128, .f32⟩
  | .hbm, ⟨39, _⟩ => ⟨S16x2048x4x128, .f32⟩
  | .hbm, ⟨40, _⟩ => ⟨S16x2048x4x128, .f32⟩
  | .hbm, ⟨41, _⟩ => ⟨S16x256x512, .f32⟩
  | .hbm, ⟨42, _⟩ => ⟨S16x256x512, .f32⟩
  | .hbm, ⟨43, _⟩ => ⟨S16x256x4x128, .f32⟩
  | .hbm, ⟨44, _⟩ => ⟨S16x256x4x128, .f32⟩
  | .hbm, ⟨45, _⟩ => ⟨S_, .f32⟩
  | .hbm, ⟨46, _⟩ => ⟨S16x256x4, .f32⟩
  | .hbm, ⟨47, _⟩ => ⟨S16x256x4x1, .f32⟩
  | .hbm, ⟨48, _⟩ => ⟨S_, .f32⟩
  | .hbm, ⟨49, _⟩ => ⟨S16x256x4x1, .f32⟩
  | .hbm, ⟨50, _⟩ => ⟨S16x256x4x1, .f32⟩
  | .hbm, ⟨51, _⟩ => ⟨S_, .f32⟩
  | .hbm, ⟨52, _⟩ => ⟨S16x256x4x1, .f32⟩
  | .hbm, ⟨53, _⟩ => ⟨S16x256x4x1, .f32⟩
  | .hbm, ⟨54, _⟩ => ⟨S16x256x4x1, .f32⟩
  | .hbm, ⟨55, _⟩ => ⟨S16x256x4x128, .f32⟩
  | .hbm, ⟨56, _⟩ => ⟨S16x256x4x128, .f32⟩
  | .hbm, ⟨57, _⟩ => ⟨S1x1x1x128, .f32⟩
  | .hbm, ⟨58, _⟩ => ⟨S16x256x4x128, .f32⟩
  | .hbm, ⟨59, _⟩ => ⟨S16x256x4x128, .f32⟩
  | .hbm, ⟨60, _⟩ => ⟨S16x256x4x128, .f32⟩
  | .hbm, ⟨61, _⟩ => ⟨S16x4x2048x256, .f32⟩
  | .hbm, ⟨62, _⟩ => ⟨S_, .f32⟩
  | .hbm, ⟨63, _⟩ => ⟨S16x4x2048x256, .f32⟩
  | .hbm, ⟨64, _⟩ => ⟨S16x4x2048x256, .f32⟩
  | .hbm, ⟨65, _⟩ => ⟨S_, .f32⟩
  | .hbm, ⟨66, _⟩ => ⟨S16x4x2048, .f32⟩
  | .hbm, ⟨67, _⟩ => ⟨S_, .f32⟩
  | .hbm, ⟨68, _⟩ => ⟨S16x4x2048, .f32⟩
  | .hbm, ⟨69, _⟩ => ⟨S16x4x2048, .f32⟩
  | .hbm, ⟨70, _⟩ => ⟨S16x4x2048x1, .f32⟩
  | .hbm, ⟨71, _⟩ => ⟨S16x4x2048x256, .f32⟩
  | .hbm, ⟨72, _⟩ => ⟨S16x4x2048x256, .f32⟩
  | .hbm, ⟨73, _⟩ => ⟨S16x4x2048x256, .f32⟩
  | .hbm, ⟨74, _⟩ => ⟨S_, .f32⟩
  | .hbm, ⟨75, _⟩ => ⟨S16x4x2048, .f32⟩
  | .hbm, ⟨76, _⟩ => ⟨S16x4x2048x1, .f32⟩
  | .hbm, ⟨77, _⟩ => ⟨S16x4x2048x256, .f32⟩
  | .hbm, ⟨78, _⟩ => ⟨S16x4x2048x256, .f32⟩
  | .hbm, ⟨79, _⟩ => ⟨S16x4x128x2048, .f32⟩
  | .hbm, ⟨80, _⟩ => ⟨S16x2048x4x128, .f32⟩
  | .hbm, ⟨81, _⟩ => ⟨S16x2048x512, .f32⟩
  | .hbm, ⟨82, _⟩ => ⟨S16x2048x1024, .f32⟩
  | .hbm, ⟨83, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Router.lean ====
abbrev S32768x1024 : Shape := ⟨2, ![32768, 1024]⟩
abbrev S1024 : Shape := ⟨1, ![1024]⟩
abbrev S1024x8 : Shape := ⟨2, ![1024, 8]⟩
abbrev S_ : Shape := ⟨0, ![]⟩
abbrev S1024x128 : Shape := ⟨2, ![1024, 128]⟩
abbrev S1 : Shape := ⟨1, ![1]⟩
abbrev S1x1024 : Shape := ⟨2, ![1, 1024]⟩
abbrev S32768x128 : Shape := ⟨2, ![32768, 128]⟩
abbrev S1024x1024 : Shape := ⟨2, ![1024, 1024]⟩
abbrev S1024x1 : Shape := ⟨2, ![1024, 1]⟩

abbrev nBuf : Space → Nat
  | .hbm => 11
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8, .f32⟩
  | .hbm, ⟨3, _⟩ => ⟨S_, .bf16⟩
  | .hbm, ⟨4, _⟩ => ⟨S1024x128, .bf16⟩
  | .hbm, ⟨5, _⟩ => ⟨S1024x8, .bf16⟩
  | .hbm, ⟨6, _⟩ => ⟨S_, .i32⟩
  | .hbm, ⟨7, _⟩ => ⟨S1, .i32⟩
  | .hbm, ⟨8, _⟩ => ⟨S1024x128, .bf16⟩
  | .hbm, ⟨9, _⟩ => ⟨S1x1024, .f32⟩
  | .hbm, ⟨10, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefRouterIdeal.lean ====
abbrev S32768x1024 : Shape := ⟨2, ![32768, 1024]⟩
abbrev S1024 : Shape := ⟨1, ![1024]⟩
abbrev S1024x8 : Shape := ⟨2, ![1024, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8 : Shape := ⟨2, ![32768, 8]⟩
abbrev S32768x2 : Shape := ⟨2, ![32768, 2]⟩
abbrev S32768x2x1 : Shape := ⟨3, ![32768, 2, 1]⟩
abbrev S1x1x8 : Shape := ⟨3, ![1, 1, 8]⟩
abbrev S32768x2x8 : Shape := ⟨3, ![32768, 2, 8]⟩
abbrev S32768x128 : Shape := ⟨2, ![32768, 128]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x8, .f32⟩
  | .hbm, ⟨20, _⟩ => ⟨S32768x2, .f32⟩
  | .hbm, ⟨21, _⟩ => ⟨S32768x2, .i32⟩
  | .hbm, ⟨22, _⟩ => ⟨S_, .f32⟩
  | .hbm, ⟨23, _⟩ => ⟨S32768, .f32⟩
  | .hbm, ⟨24, _⟩ => ⟨S_, .f32⟩
  | .hbm, ⟨25, _⟩ => ⟨S32768, .f32⟩
  | .hbm, ⟨26, _⟩ => ⟨S32768, .f32⟩
  | .hbm, ⟨27, _⟩ => ⟨S32768x1, .f32⟩
  | .hbm, ⟨28, _⟩ => ⟨S32768x2, .f32⟩
  | .hbm, ⟨29, _⟩ => ⟨S32768x2, .f32⟩
  | .hbm, ⟨30, _⟩ => ⟨S32768x2, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S32768x2, .f32⟩
  | .hbm, ⟨35, _⟩ => ⟨S32768x2, .f32⟩
  | .hbm, ⟨36, _⟩ => ⟨S32768x2x1, .i32⟩
  | .hbm, ⟨37, _⟩ => ⟨S1x1x8, .i32⟩
  | .hbm, ⟨38, _⟩ => ⟨S32768x2x8, .i32⟩
  | .hbm, ⟨39, _⟩ => ⟨S32768x2x8, .i32⟩
  | .hbm, ⟨40, _⟩ => ⟨S32768x2x8, .i1⟩
  | .hbm, ⟨41, _⟩ => ⟨S32768x2x8, .f32⟩
  | .hbm, ⟨42, _⟩ => ⟨S32768x2x1, .f32⟩
  | .hbm, ⟨43, _⟩ => ⟨S32768x2x8, .f32⟩
  | .hbm, ⟨44, _⟩ => ⟨S32768x2x8, .f32⟩
  | .hbm, ⟨45, _⟩ => ⟨S_, .f32⟩
  | .hbm, ⟨46, _⟩ => ⟨S32768x8, .f32⟩
  | .hbm, ⟨47, _⟩ => ⟨S_, .i32⟩
  | .hbm, ⟨48, _⟩ => ⟨S_, .f32⟩
  | .hbm, ⟨49, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_c : Ref sig .tc := ⟨.hbm, 47, rfl⟩
abbrev main_call1_v0 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Kv.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefKvIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Sums.lean ====
module

public import Idealize.ShloMosaic.Lib.Pipeline.ValueKit
public import Idealize.ShloMosaic.Lib.Pointwise

@[expose] public section

noncomputable section

open Idealize.ShloMosaic

namespace Cert.Own

/-- Of the lanes of a row of 128 the sum of the one whose number is `e`, all others replaced by zero, is that lane's value. -/
theorem sum_select_lane (e : Fin 8) (v : Fin 128 → EReal) :
    (∑ x : Fin 128, Scalar.select (IntOp.cmpi CmpIPredicate.eq (BitVec.ofNat 32 x.val) (BitVec.ofNat 32 e.val)) (v x) (0 : EReal)) = v ⟨e.val, by omega⟩ := by
  rw [Finset.sum_eq_single (⟨e.val, by omega⟩ : Fin 128)]
  · simp [Scalar.select, IntOp.cmpi]
  · intro b _ hb
    have : ¬ (BitVec.ofNat 32 b.val = BitVec.ofNat 32 e.val) := by
      intro h
      have := congrArg BitVec.toNat h
      simp only [BitVec.toNat_ofNat] at this
      apply hb; ext; show b.val = e.val; omega
    have h2 : (BitVec.ofNat 32 b.val == BitVec.ofNat 32 e.val) = false := by simpa using this
    simp [Scalar.select, IntOp.cmpi, h2]
  · simp

/-- A real factor that is not negative may be taken into a sum of extended reals. -/
theorem mul_sum_of_nonneg {ι : Type} (s : Finset ι) (c : EReal) (h0 : 0 ≤ c) (h1 : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 h1, ih]

/-- The sum over the `T = A * S` steps of a run, of `n` lanes each, step `s` weighted by the weight of its part `s / S`,
    is the sum over the parts of the weight times the part's sum over all its `L = S * n` lanes. -/
theorem sum_steps (A S n T L : ℕ) (hT : A * S = T) (hL : S * n = L) (w : ℕ → EReal) (hw : ∀ a, 0 ≤ w a) (hw' : ∀ a, w a ≠ ⊤)
    (g : ℕ → ℕ → EReal) :
    ∑ s ∈ Finset.range T, w (s / S) * ∑ k : Fin n, g (s / S) (s % S * n + k.val)
      = ∑ a : Fin A, w a.val * ∑ l : Fin L, g a.val l.val := by
  subst hT hL
  rw [← Fin.sum_univ_eq_sum_range (fun s => w (s / S) * ∑ k : Fin n, g (s / S) (s % S * n + k.val)),
    Fin.sum_univ_mul_divmod A S (fun a s => w a * ∑ k : Fin n, g a (s * n + k.val))]
  refine Finset.sum_congr rfl fun a _ => ?_
  rw [← mul_sum_of_nonneg _ _ (hw _) (hw' _), Fin.sum_univ_univ_mul_add S n (g a.val)]

/-- The sum over `T` chunks of `n` lanes each is the sum over all `L = T * n` lanes. -/
theorem sum_chunks (T n L : ℕ) (hL : T * n = L) (g : ℕ → EReal) :
    ∑ s ∈ Finset.range T, ∑ k : Fin n, g (s * n + k.val) = ∑ l : Fin L, g l.val := by
  subst hL
  rw [← Fin.sum_univ_eq_sum_range (fun s => ∑ k : Fin n, g (s * n + k.val)), Fin.sum_univ_univ_mul_add T n g]

/-- A row of 1024 values divided by the root of their mean square (plus a small constant) and scaled by the gain `g`. -/
def rms (x g : Fin 1024 → EReal) (k : Fin 1024) : EReal :=
  x k * Ideal.rsqrt (Ideal.div (∑ j, x j * x j) (Ideal.ofBits FTy.f32 1149239296#32) + Ideal.ofBits FTy.f32 897988541#32) * g k

/-- The gated activation of one hidden unit of a feed-forward layer: of the row `h` with the columns `u` and `v`. -/
def act (h u v : Fin 1024 → EReal) : EReal :=
  (∑ k, h k * u k) * Ideal.logistic (∑ k, h k * u k) * ∑ k, h k * v k

/-- The same activation with the factors of the products swapped and the logistic function written out. -/
theorem act_swap (h u v : Fin 1024 → EReal) : act h u v
    = (∑ k, u k * h k) * Ideal.div 1 (1 + Ideal.exp (-∑ k, u k * h k)) * ∑ k, v k * h k := by
  unfold act Ideal.logistic
  simp only [mul_comm]

end Cert.Own
-- ==== Proof.Sb.lean ====
module

public import proofs.«01_k».proof.Proof.Sums

@[expose] public section

set_option maxRecDepth 16384

noncomputable section

open Idealize.ShloMosaic Idealize.ShloMosaic.TcCoe Idealize.SL.Sem

namespace Cert.Own

/-- The logarithm of the logistic function of a real score. -/
def lsig (z : ℝ) : ℝ := min z 0 - Real.log (1 + Real.exp (-|z|))

/-- The log-share a key of score `z` leaves to the keys before it. -/
def keep (z : ℝ) : ℝ := lsig z - z

/-- The log-shares that the keys of one query leave: of the keys before the query, zero of the others. -/
def kept (z : ℕ → ℝ) (R C : ℕ) : ℝ := if C < R then keep (z C) else 0

/-- What the keys from number `n` on leave together. -/
def left (z : ℕ → ℝ) (R n : ℕ) : ℝ := ∑ C ∈ Finset.Ico n 2048, kept z R C

/-- The weight of key `C` for query `R`. -/
def wgt (z : ℕ → ℝ) (R C : ℕ) : ℝ := if C < R then Real.exp (lsig (z C) + left z R (C + 1)) else 0

/-- The weighted values of the keys from number `n` on. -/
def tail (z : ℕ → ℝ) (R : ℕ) (v : ℕ → EReal) (n : ℕ) : EReal := ∑ C ∈ Finset.Ico n 2048, (wgt z R C : EReal) * v C

/-- A sum from the start of one tile of 256 is the tile's sum and the sum from the start of the next. -/
theorem sum_tile {M : Type} [AddCommMonoid M] (f : ℕ → M) (j : ℕ) (hj : j < 8) :
    ∑ C ∈ Finset.Ico (256 * j) 2048, f C = ∑ C ∈ Finset.Ico (256 * (j + 1)) 2048, f C + ∑ c : Fin 256, f (256 * j + c.val) := by
  rw [← Finset.sum_Ico_consecutive f (show 256 * j ≤ 256 * (j + 1) by omega) (show 256 * (j + 1) ≤ 2048 by omega), add_comm,
    Finset.sum_Ico_eq_sum_range f (256 * j), show 256 * (j + 1) - 256 * j = 256 by omega, ← Fin.sum_univ_eq_sum_range (fun c => f (256 * j + c))]

/-- The part of a tile after its lane `c` and the tiles after it. -/
theorem left_tile (z : ℕ → ℝ) (R j : ℕ) (hj : j < 8) (c : Fin 256) :
    left z R (256 * j + c.val + 1) = (∑ x : Fin 256, if c < x then kept z R (256 * j + x.val) else 0) + left z R (256 * (j + 1)) := by
  unfold left
  have hc := c.isLt
  rw [← Finset.sum_Ico_consecutive (kept z R) (show 256 * j + c.val + 1 ≤ 256 * (j + 1) by omega) (show 256 * (j + 1) ≤ 2048 by omega)]
  congr 1
  have h : ∀ x : Fin 256, (if c < x then kept z R (256 * j + x.val) else 0) = (fun n => if c.val < n then kept z R (256 * j + n) else 0) x.val :=
    fun x => rfl
  rw [Finset.sum_congr rfl fun x _ => h x, Fin.sum_univ_eq_sum_range (fun n => if c.val < n then kept z R (256 * j + n) else 0) 256,
    ← Finset.sum_filter, show (Finset.range 256).filter (fun n => c.val < n) = Finset.Ico (c.val + 1) 256 by ext; simp; omega,
    show 256 * j + c.val + 1 = (c.val + 1) + 256 * j by omega, show 256 * (j + 1) = 256 + 256 * j by omega, ← Finset.sum_Ico_add']
  exact Finset.sum_congr rfl fun x _ => congrArg _ (by omega)

/-- A query has nothing from its own tile's end on. -/
theorem left_end (z : ℕ → ℝ) (i : ℕ) (r : Fin 256) : left z (256 * i + r.val) (256 * (i + 1)) = 0 := by
  refine Finset.sum_eq_zero fun C hC => if_neg ?_
  have := (Finset.mem_Ico.mp hC).1
  omega

/-- Likewise the weighted values. -/
theorem tail_end (z : ℕ → ℝ) (i : ℕ) (r : Fin 256) (v : ℕ → EReal) : tail z (256 * i + r.val) v (256 * (i + 1)) = 0 := by
  refine Finset.sum_eq_zero fun C hC => ?_
  have := (Finset.mem_Ico.mp hC).1
  rw [wgt, if_neg (by omega), EReal.coe_zero, zero_mul]

/-- The real sum of coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The extended reals' operations on a real score give the real function. -/
theorem lsig_coe (x : ℝ) : min (x : EReal) 0 - Ideal.log (1 + Ideal.exp (0 - max (x : EReal) (-(x : EReal)))) = (lsig x : EReal) := by
  have h1 : max (x : EReal) (-(x : EReal)) = ((|x| : ℝ) : EReal) := by rw [abs_eq_max_neg, ← EReal.coe_neg]; exact (EReal.coe_strictMono.monotone.map_max).symm
  have h2 : (0 : EReal) - ((|x| : ℝ) : EReal) = ((-|x| : ℝ) : EReal) := by rw [zero_sub, EReal.coe_neg]
  have h3 : Ideal.exp ((-|x| : ℝ) : EReal) = (Real.exp (-|x|) : EReal) := rfl
  have h4 : (1 : EReal) + (Real.exp (-|x|) : EReal) = ((1 + Real.exp (-|x|) : ℝ) : EReal) := by rw [EReal.coe_add, EReal.coe_one]
  have h5 : Ideal.log ((1 + Real.exp (-|x|) : ℝ) : EReal) = (Real.log (1 + Real.exp (-|x|)) : EReal) :=
    if_neg (not_le.mpr (by positivity))
  rw [h1, h2, h3, h4, h5, lsig, EReal.coe_sub]
  congr 1

/-- The row of a number. -/
def at2048 (n : ℕ) : Fin 2048 := ⟨n % 2048, Nat.mod_lt _ (by norm_num)⟩
/-- A row's number is that row's. -/
theorem at_val (r : Fin 2048) : at2048 r.val = r := Fin.ext (Nat.mod_eq_of_lt r.isLt)

end Cert.Own
-- ==== Proof.SbBody.lean ====
module

public import proofs.«01_k».proof.Proof.Gen.KernelIdeal.Value
public import proofs.«01_k».proof.Proof.Sb
public import Idealize.ShloMosaic.Lib.Pipeline.ReadBack

@[expose] public section

set_option maxRecDepth 16384

noncomputable section

open Cert.Own Idealize.ShloMosaic Idealize.ShloMosaic.TcCoe Idealize.SL.Sem

namespace Cert.KernelIdeal.Own

open Cert.KernelIdeal Cert.KernelIdeal.Gen Cert.KernelIdeal.Value

/-- One head's scores of a tile. -/
def zB (q k : FVec Ideal S256x64 .bf16) : FVec Ideal S256x256 .f32 :=
  matmul dot_S256x64_S256x64_S256x256_1_1_0_0_n_n none q k (constant S256x256 .f32 0x00000000#32)

/-- Their log-sigmoid. -/
def lsB (z : FVec Ideal S256x256 .f32) : FVec Ideal S256x256 .f32 :=
  subf (minimumf z (broadcast S256x256 (Scalar.ofBits .f32 0x00000000#32)))
    (log (addf (broadcast S256x256 (Scalar.ofBits .f32 0x3F800000#32)) (exp (subf (broadcast S256x256 (Scalar.ofBits .f32 0x00000000#32)) (absf z)))))

/-- The sums of the later lanes, and the tile's whole sum in the lanes from 256 on. -/
def rtB (l : FVec Ideal S256x256 .f32) : FVec Ideal S256x384 .f32 :=
  addf (matmul dot_S256x256_S256x384_S256x384_1_0_0_1_n_n none (truncf .bf16 l bitsLt_bf16_f32) (k0_pay60 (F := Ideal)) (constant S256x384 .f32 0x00000000#32))
    (matmul dot_S256x256_S256x384_S256x384_1_0_0_1_n_n none (truncf .bf16 (subf l (extf .f32 (truncf .bf16 l bitsLt_bf16_f32) bitsLt_bf16_f32)) bitsLt_bf16_f32)
      (k0_pay60 (F := Ideal)) (constant S256x384 .f32 0x00000000#32))

/-- On the diagonal tile, zero where the key is not before the query. -/
def mB (m : Bool) (x : FVec Ideal S256x256 .f32) : FVec Ideal S256x256 .f32 :=
  match m with
  | true => select k0_pay59 x (broadcast S256x256 (Scalar.ofBits .f32 0x00000000#32))
  | false => x

/-- What a tile adds to the running sum. -/
def totB (m : Bool) (q k : FVec Ideal S256x64 .bf16) (tot : FVec Ideal S256x128 .f32) : FVec Ideal S256x128 .f32 :=
  addf tot (extractStridedSlice S256x128 ![0, 256] (rtB (mB m (subf (lsB (zB q k)) (zB q k)))) slices_S256x384_o0_256_S256x128)

/-- What a tile adds to the weighted values. -/
def accB (m : Bool) (q k v : FVec Ideal S256x64 .bf16) (acc : FVec Ideal S256x64 .f32) (tot : FVec Ideal S256x128 .f32) : FVec Ideal S256x64 .f32 :=
  addf acc (matmul dot_S256x256_S256x64_S256x64_1_0_0_1_n_n none
    (truncf .bf16 (mB m (exp (addf (addf (lsB (zB q k)) (extractStridedSlice S256x256 ![0, 0] (rtB (mB m (subf (lsB (zB q k)) (zB q k)))) slices_S256x384_o0_0_S256x256))
      (concatenate S256x256 1 [⟨S256x128, tot⟩, ⟨S256x128, tot⟩] concatenates_S256x128_S256x128_S256x256_d1)))) bitsLt_bf16_f32)
    v (constant S256x64 .f32 0x00000000#32))

/-- Whether a lane of the tile takes part. -/
def on (m : Bool) (r c : Fin 256) : Prop := m = true → c < r

/-- Whether a lane takes part can be decided. -/
instance (m : Bool) (r c : Fin 256) : Decidable (on m r c) := by unfold on; infer_instance

/-- The number zero by its bits. -/
theorem zero32 : Ideal.ofBits FTy.f32 0#32 = 0 := by simp [Ideal.ofBits, Ideal.ieee]
/-- The number one by its bits. -/
theorem one32 : Ideal.ofBits FTy.f32 1065353216#32 = 1 := by
  simp [Ideal.ofBits, Ideal.ieee, -EReal.coe_mul]; norm_num

/-- The scores at one position. -/
theorem zB_at (q k : FVec Ideal S256x64 .bf16) (a b : Fin 256 → Fin 64 → ℝ) (hq : ∀ r d, q (ix2 r d) = (a r d : EReal))
    (hk : ∀ c d, k (ix2 c d) = (b c d : EReal)) (r c : Fin 256) : zB q k (ix2 r c) = ((∑ d, a r d * b c d : ℝ) : EReal) := by
  unfold zB
  pointwise
  rw [coe_sum]
  simp only [hq, hk, EReal.coe_mul]

/-- The log-sigmoid at one position. -/
theorem lsB_at (z : FVec Ideal S256x256 .f32) (r c : Fin 256) (x : ℝ) (hz : z (ix2 r c) = (x : EReal)) :
    lsB z (ix2 r c) = (lsig x : EReal) := by
  unfold lsB
  pointwise
  rw [hz]
  exact lsig_coe x

/-- The matrix of zeros and ones which the sums are taken with. -/
theorem tri_at (a : Fin 256) (b : Fin 384) : k0_pay60 (F := Ideal) (ix2 a b) = if 256 ≤ b.val ∨ b.val < a.val then 1 else 0 := by
  pointwise [k0_pay60]
  rw [WordCmp.cmpi_sgt_ofNat (by omega) (by omega), WordCmp.cmpi_sge_ofNat (by omega) (by omega)]
  by_cases h1 : 256 ≤ b.val <;> by_cases h2 : b.val < a.val <;> simp [h1, h2, Scalar.select, IntOp.ori]

/-- The diagonal tile's mask. -/
theorem mask_at (r c : Fin 256) : k0_pay59 (ix2 r c) = if c < r then 1#1 else 0#1 := by
  pointwise [k0_pay59]
  rw [WordCmp.cmpi_slt_ofNat (by omega) (by omega)]
  by_cases h : c < r
  · rw [if_pos h, decide_eq_true (show c.val < r.val from h)]; rfl
  · rw [if_neg h, decide_eq_false (show ¬ c.val < r.val from h)]; rfl

/-- A masked tile at one position. -/
theorem mB_at (m : Bool) (x : FVec Ideal S256x256 .f32) (r c : Fin 256) : mB m x (ix2 r c) = if on m r c then x (ix2 r c) else 0 := by
  cases m
  · simp [mB, on]
  · unfold mB
    pointwise
    rw [mask_at]
    by_cases h : c < r <;> simp [h, on, Scalar.select]

/-- The sums of the later lanes at one position. -/
theorem rtB_at (l : FVec Ideal S256x256 .f32) (r : Fin 256) (f : Fin 256 → ℝ) (h : ∀ c, l (ix2 r c) = (f c : EReal)) (b : Fin 384) :
    rtB l (ix2 r b) = ((∑ x, if 256 ≤ b.val ∨ b.val < x.val then f x else 0 : ℝ) : EReal) := by
  unfold rtB
  pointwise
  simp only [tri_at, h]
  rw [coe_sum, show (∑ x : Fin 256, ((f x : EReal) - (f x : EReal)) * if 256 ≤ b.val ∨ b.val < x.val then (1 : EReal) else 0) = 0 from
    Finset.sum_eq_zero fun x _ => by rw [← EReal.coe_sub, sub_self, EReal.coe_zero, zero_mul], add_zero]
  refine Finset.sum_congr rfl fun x _ => ?_
  split_ifs <;> simp

/-- The masked log-shares of a tile at one position. -/
theorem lkB_at (m : Bool) (q k : FVec Ideal S256x64 .bf16) (a b : Fin 256 → Fin 64 → ℝ) (hq : ∀ r d, q (ix2 r d) = (a r d : EReal))
    (hk : ∀ c d, k (ix2 c d) = (b c d : EReal)) (r c : Fin 256) :
    mB m (subf (lsB (zB q k)) (zB q k)) (ix2 r c) = ((if on m r c then keep (∑ d, a r d * b c d) else 0 : ℝ) : EReal) := by
  rw [mB_at]
  split_ifs
  · pointwise
    rw [lsB_at _ _ _ _ (zB_at q k a b hq hk r c), zB_at q k a b hq hk r c, ← EReal.coe_sub]
    rfl
  · rfl

/-- What a tile adds to the running sum, at one position. -/
theorem totB_at (m : Bool) (q k : FVec Ideal S256x64 .bf16) (tot : FVec Ideal S256x128 .f32) (a b : Fin 256 → Fin 64 → ℝ)
    (hq : ∀ r d, q (ix2 r d) = (a r d : EReal)) (hk : ∀ c d, k (ix2 c d) = (b c d : EReal)) (s : Fin 256 → ℝ)
    (ht : ∀ r x, tot (ix2 r x) = (s r : EReal)) (r : Fin 256) (x : Fin 128) :
    totB m q k tot (ix2 r x) = ((s r + ∑ c, if on m r c then keep (∑ d, a r d * b c d) else 0 : ℝ) : EReal) := by
  unfold totB
  pointwise
  rw [ht, rtB_at _ r _ (lkB_at m q k a b hq hk r), EReal.coe_add]
  congr 2
  exact Finset.sum_congr rfl fun y _ => if_pos (Or.inl (Nat.le_add_right 256 x.val))

/-- What a tile adds to the weighted values, at one position. -/
theorem accB_at (m : Bool) (q k v : FVec Ideal S256x64 .bf16) (acc : FVec Ideal S256x64 .f32) (tot : FVec Ideal S256x128 .f32)
    (a b : Fin 256 → Fin 64 → ℝ)
    (hq : ∀ r d, q (ix2 r d) = (a r d : EReal)) (hk : ∀ c d, k (ix2 c d) = (b c d : EReal)) (s : Fin 256 → ℝ)
    (ht : ∀ r x, tot (ix2 r x) = (s r : EReal)) (r : Fin 256) (d : Fin 64) :
    accB m q k v acc tot (ix2 r d) = acc (ix2 r d) + ∑ c, ((if on m r c then Real.exp (lsig (∑ d, a r d * b c d)
      + ((∑ x, if c < x then (if on m r x then keep (∑ d, a r d * b x d) else 0) else 0) + s r)) else 0 : ℝ) : EReal) * v (ix2 c d) := by
  unfold accB
  pointwise
  simp only [mB_at]
  congr 1
  refine Finset.sum_congr rfl fun c _ => ?_
  congr 1
  split_ifs
  · pointwise
    rw [lsB_at _ _ _ _ (zB_at q k a b hq hk r c), rtB_at _ r _ (lkB_at m q k a b hq hk r)]
    have e : (if h : c.val < 128 then tot (ix2 r ⟨c.val, h⟩) else tot (ix2 r ⟨c.val - 128, by omega⟩)) = (s r : EReal) := by
      split_ifs <;> exact ht r _
    rw [e, ← EReal.coe_add, ← EReal.coe_add]
    rw [add_assoc]
    have e2 : ∀ x : Fin 256, (if 256 ≤ c.val ∨ c.val < x.val then (if on m r x then keep (∑ d, a r d * b x d) else 0) else 0)
        = if c < x then (if on m r x then keep (∑ d, a r d * b x d) else 0) else 0 :=
      fun x => if_congr (Iff.intro (fun h => h.elim (fun h => absurd c.isLt (by omega)) id) Or.inr) rfl rfl
    rw [Finset.sum_congr rfl fun x _ => e2 x]
    rfl
  · rfl

/-- The scores of the queries with the keys: of each query's lanes with each key's. -/
def zN (q k : ℕ → Fin 64 → ℝ) (R C : ℕ) : ℝ := ∑ d, q R d * k C d

/-- One tile's step of the running sum: from what the keys after the tile leave to what the keys from its start on leave. -/
theorem tot_step (m : Bool) (i j : ℕ) (hj : j < 8) (hm : ∀ r c : Fin 256, on m r c ↔ 256 * j + c.val < 256 * i + r.val)
    (Q K : ℕ → Fin 64 → ℝ) (q k : FVec Ideal S256x64 .bf16) (tot : FVec Ideal S256x128 .f32)
    (hq : ∀ r d, q (ix2 r d) = (Q (256 * i + r.val) d : EReal)) (hk : ∀ c d, k (ix2 c d) = (K (256 * j + c.val) d : EReal))
    (ht : ∀ r x, tot (ix2 r x) = (left (zN Q K (256 * i + r.val)) (256 * i + r.val) (256 * (j + 1)) : EReal)) (r : Fin 256) (x : Fin 128) :
    totB m q k tot (ix2 r x) = (left (zN Q K (256 * i + r.val)) (256 * i + r.val) (256 * j) : EReal) := by
  rw [totB_at m q k tot (fun r d => Q (256 * i + r.val) d) (fun c d => K (256 * j + c.val) d) hq hk
    (fun r => left (zN Q K (256 * i + r.val)) (256 * i + r.val) (256 * (j + 1))) ht r x]
  unfold left
  rw [sum_tile _ j hj]
  refine congrArg _ (congrArg _ (Finset.sum_congr rfl fun c _ => ?_))
  unfold kept zN
  exact if_congr (hm r c) rfl rfl

/-- One tile's step of the weighted values. -/
theorem acc_step (m : Bool) (i j : ℕ) (hj : j < 8) (hm : ∀ r c : Fin 256, on m r c ↔ 256 * j + c.val < 256 * i + r.val)
    (Q K : ℕ → Fin 64 → ℝ) (V : ℕ → Fin 64 → EReal) (q k v : FVec Ideal S256x64 .bf16) (acc : FVec Ideal S256x64 .f32) (tot : FVec Ideal S256x128 .f32)
    (hq : ∀ r d, q (ix2 r d) = (Q (256 * i + r.val) d : EReal)) (hk : ∀ c d, k (ix2 c d) = (K (256 * j + c.val) d : EReal))
    (hv : ∀ c d, v (ix2 c d) = V (256 * j + c.val) d)
    (ht : ∀ r x, tot (ix2 r x) = (left (zN Q K (256 * i + r.val)) (256 * i + r.val) (256 * (j + 1)) : EReal))
    (hacc : ∀ r d, acc (ix2 r d) = tail (zN Q K (256 * i + r.val)) (256 * i + r.val) (fun C => V C d) (256 * (j + 1))) (r : Fin 256) (d : Fin 64) :
    accB m q k v acc tot (ix2 r d) = tail (zN Q K (256 * i + r.val)) (256 * i + r.val) (fun C => V C d) (256 * j) := by
  rw [accB_at m q k v acc tot (fun r d => Q (256 * i + r.val) d) (fun c d => K (256 * j + c.val) d) hq hk
    (fun r => left (zN Q K (256 * i + r.val)) (256 * i + r.val) (256 * (j + 1))) ht r d, hacc]
  unfold tail
  rw [sum_tile _ j hj]
  refine congrArg _ (Finset.sum_congr rfl fun c _ => ?_)
  rw [hv]
  refine congrArg (fun w : ℝ => (w : EReal) * V (256 * j + c.val) d) ?_
  unfold wgt
  refine if_congr (hm r c) ?_ rfl
  rw [left_tile _ _ j hj c]
  refine congrArg Real.exp (congrArg _ (congrArg (fun s => s + _) (Finset.sum_congr rfl fun x _ => if_congr Iff.rfl ?_ rfl)))
  unfold kept
  exact if_congr (hm r x) rfl rfl

end Cert.KernelIdeal.Own
-- ==== Proof.SbLoop.lean ====
module

public import proofs.«01_k».proof.Proof.SbBody

@[expose] public section

set_option maxRecDepth 16384

noncomputable section

open Cert.Own Idealize.ShloMosaic Idealize.ShloMosaic.TcCoe Idealize.SL.Sem

namespace Cert.KernelIdeal.Own

open Cert.KernelIdeal Cert.KernelIdeal.Gen Cert.KernelIdeal.Value

/-- The weighted values of the four heads, then their running sums. -/
abbrev St := FVec Ideal S256x64 .f32 × FVec Ideal S256x64 .f32 × FVec Ideal S256x64 .f32 × FVec Ideal S256x64 .f32 × FVec Ideal S256x128 .f32
  × FVec Ideal S256x128 .f32 × FVec Ideal S256x128 .f32 × FVec Ideal S256x128 .f32

/-- A tile's keys (or values) of head 0. -/
def h0 (k : Vec Ideal S1x256x256 .f32) : FVec Ideal S256x64 .bf16 := extractStridedSlice S256x64 ![0, 0] (k0_pay21 k) slices_S256x256_o0_0_S256x64
/-- Of head 1. -/
def h1 (k : Vec Ideal S1x256x256 .f32) : FVec Ideal S256x64 .bf16 := extractStridedSlice S256x64 ![0, 64] (k0_pay21 k) slices_S256x256_o0_64_S256x64
/-- Of head 2. -/
def h2 (k : Vec Ideal S1x256x256 .f32) : FVec Ideal S256x64 .bf16 := extractStridedSlice S256x64 ![0, 128] (k0_pay21 k) slices_S256x256_o0_128_S256x64
/-- Of head 3. -/
def h3 (k : Vec Ideal S1x256x256 .f32) : FVec Ideal S256x64 .bf16 := extractStridedSlice S256x64 ![0, 192] (k0_pay21 k) slices_S256x256_o0_192_S256x64

/-- One tile's step of the eight carried values. -/
def stepB (m : Bool) (q0 q1 q2 q3 : FVec Ideal S256x64 .bf16) (k v : Vec Ideal S1x256x256 .f32) (s : St) : St :=
  (accB m q0 (h0 k) (h0 v) s.1 s.2.2.2.2.1, accB m q1 (h1 k) (h1 v) s.2.1 s.2.2.2.2.2.1, accB m q2 (h2 k) (h2 v) s.2.2.1 s.2.2.2.2.2.2.1,
    accB m q3 (h3 k) (h3 v) s.2.2.2.1 s.2.2.2.2.2.2.2,
    totB m q0 (h0 k) s.2.2.2.2.1, totB m q1 (h1 k) s.2.2.2.2.2.1, totB m q2 (h2 k) s.2.2.2.2.2.2.1, totB m q3 (h3 k) s.2.2.2.2.2.2.2)

/-- One trip of the loop is one unmasked step. -/
theorem trip (𝒱 : Variants) (c : Dev nD) (bd : Option 𝒱.V) (i : grid0.Coords) (arg2 : Memref sig .tc .vmem S1x256x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .bf16) (harg5 : arg5.IsWhole) (arg1 : BitVec 32)
    (v17 v22 v27 v32 : FVec Ideal S256x64 .bf16) (X3 : BufTy.Contents (Elt Ideal) arg3.view.ty) (X4 : BufTy.Contents (Elt Ideal) arg4.view.ty)
    (k : Fin (k0_t1_loop i).trips) (s : St) :
    tripR_k0_t1 𝒱 c bd i arg2 harg2 arg3 harg3 arg4 harg4 arg5 harg5 arg1 k0_pay60 v17 v22 v27 v32 X3 X4 k s
      = stepB false v17 v22 v27 v32
          (View.readAt (Elt Ideal) arg3.view (Rect.unit (s := S1x2048x256) (k0_off2 i k) S1x256x256.size (k0_off2_inb i k)).toLoadRect X3)
          (View.readAt (Elt Ideal) arg4.view (Rect.unit (s := S1x2048x256) (k0_off2 i k) S1x256x256.size (k0_off2_inb i k)).toLoadRect X4) s := by
  unfold tripR_k0_t1 trip_k0_t1
  rfl

/-- The weighted values of one head. -/
def accOf (s : St) : Fin 4 → FVec Ideal S256x64 .f32 := ![s.1, s.2.1, s.2.2.1, s.2.2.2.1]
/-- The running sums of one head. -/
def totOf (s : St) : Fin 4 → FVec Ideal S256x128 .f32 := ![s.2.2.2.2.1, s.2.2.2.2.2.1, s.2.2.2.2.2.2.1, s.2.2.2.2.2.2.2]

/-- The carried values are those of the tiles from tile `j` on, for the queries of tile `i`. -/
def Good (Q K : Fin 4 → ℕ → Fin 64 → ℝ) (V : Fin 4 → ℕ → Fin 64 → EReal) (i j : ℕ) (s : St) : Prop :=
  ∀ (h : Fin 4) (r : Fin 256),
    (∀ d, accOf s h (ix2 r d) = tail (zN (Q h) (K h) (256 * i + r.val)) (256 * i + r.val) (fun C => V h C d) (256 * j))
    ∧ ∀ x, totOf s h (ix2 r x) = (left (zN (Q h) (K h) (256 * i + r.val)) (256 * i + r.val) (256 * j) : EReal)

/-- The lane of the 256 which lane `d` of head `h` is. -/
def lane64 (h : Fin 4) (d : Fin 64) : Fin 256 := ⟨64 * h.val + d.val, by omega⟩

/-- A tile's lanes of head 0. -/
theorem h0_at (k : Vec Ideal S1x256x256 .f32) (c : Fin 256) (d : Fin 64) : h0 k (ix2 c d) = k (ix3 0 c (lane64 0 d)) := by
  pointwise [h0, k0_pay21]
  exact congrArg (fun e => k (ix3 0 c e)) (Fin.ext (by simp [lane64]))
/-- Of head 1. -/
theorem h1_at (k : Vec Ideal S1x256x256 .f32) (c : Fin 256) (d : Fin 64) : h1 k (ix2 c d) = k (ix3 0 c (lane64 1 d)) := by
  pointwise [h1, k0_pay21]
  exact congrArg (fun e => k (ix3 0 c e)) (Fin.ext (by simp [lane64]))
/-- Of head 2. -/
theorem h2_at (k : Vec Ideal S1x256x256 .f32) (c : Fin 256) (d : Fin 64) : h2 k (ix2 c d) = k (ix3 0 c (lane64 2 d)) := by
  pointwise [h2, k0_pay21]
  exact congrArg (fun e => k (ix3 0 c e)) (Fin.ext (by simp [lane64]))
/-- Of head 3. -/
theorem h3_at (k : Vec Ideal S1x256x256 .f32) (c : Fin 256) (d : Fin 64) : h3 k (ix2 c d) = k (ix3 0 c (lane64 3 d)) := by
  pointwise [h3, k0_pay21]
  exact congrArg (fun e => k (ix3 0 c e)) (Fin.ext (by simp [lane64]))

/-- A step takes the tiles from tile `j + 1` on to those from tile `j` on. -/
theorem step_good (m : Bool) (Q K : Fin 4 → ℕ → Fin 64 → ℝ) (V : Fin 4 → ℕ → Fin 64 → EReal) (i j : ℕ) (hj : j < 8)
    (hm : ∀ r c : Fin 256, on m r c ↔ 256 * j + c.val < 256 * i + r.val)
    (q0 q1 q2 q3 : FVec Ideal S256x64 .bf16) (k v : Vec Ideal S1x256x256 .f32) (s : St)
    (e0 : ∀ r d, q0 (ix2 r d) = (Q 0 (256 * i + r.val) d : EReal)) (e1 : ∀ r d, q1 (ix2 r d) = (Q 1 (256 * i + r.val) d : EReal))
    (e2 : ∀ r d, q2 (ix2 r d) = (Q 2 (256 * i + r.val) d : EReal)) (e3 : ∀ r d, q3 (ix2 r d) = (Q 3 (256 * i + r.val) d : EReal))
    (hk : ∀ h c d, k (ix3 0 c (lane64 h d)) = (K h (256 * j + c.val) d : EReal))
    (hv : ∀ h c d, v (ix3 0 c (lane64 h d)) = V h (256 * j + c.val) d)
    (hs : Good Q K V i (j + 1) s) : Good Q K V i j (stepB m q0 q1 q2 q3 k v s) := by
  intro h r
  fin_cases h
  · exact ⟨fun d => acc_step m i j hj hm (Q 0) (K 0) (V 0) _ _ _ _ _ e0 (fun c d => (h0_at k c d).trans (hk 0 c d)) (fun c d => (h0_at v c d).trans (hv 0 c d))
      (fun r => (hs 0 r).2) (fun r => (hs 0 r).1) r d,
      tot_step m i j hj hm (Q 0) (K 0) _ _ _ e0 (fun c d => (h0_at k c d).trans (hk 0 c d)) (fun r => (hs 0 r).2) r⟩
  · exact ⟨fun d => acc_step m i j hj hm (Q 1) (K 1) (V 1) _ _ _ _ _ e1 (fun c d => (h1_at k c d).trans (hk 1 c d)) (fun c d => (h1_at v c d).trans (hv 1 c d))
      (fun r => (hs 1 r).2) (fun r => (hs 1 r).1) r d,
      tot_step m i j hj hm (Q 1) (K 1) _ _ _ e1 (fun c d => (h1_at k c d).trans (hk 1 c d)) (fun r => (hs 1 r).2) r⟩
  · exact ⟨fun d => acc_step m i j hj hm (Q 2) (K 2) (V 2) _ _ _ _ _ e2 (fun c d => (h2_at k c d).trans (hk 2 c d)) (fun c d => (h2_at v c d).trans (hv 2 c d))
      (fun r => (hs 2 r).2) (fun r => (hs 2 r).1) r d,
      tot_step m i j hj hm (Q 2) (K 2) _ _ _ e2 (fun c d => (h2_at k c d).trans (hk 2 c d)) (fun r => (hs 2 r).2) r⟩
  · exact ⟨fun d => acc_step m i j hj hm (Q 3) (K 3) (V 3) _ _ _ _ _ e3 (fun c d => (h3_at k c d).trans (hk 3 c d)) (fun c d => (h3_at v c d).trans (hv 3 c d))
      (fun r => (hs 3 r).2) (fun r => (hs 3 r).1) r d,
      tot_step m i j hj hm (Q 3) (K 3) _ _ _ e3 (fun c d => (h3_at k c d).trans (hk 3 c d)) (fun r => (hs 3 r).2) r⟩

/-- The carried values before the first step. -/
def zeros : St := (k0_pay65, k0_pay66, k0_pay67, k0_pay68, k0_pay69, k0_pay70, k0_pay71, k0_pay72)

/-- Zeros are right before the diagonal tile. -/
theorem zeros_good (Q K : Fin 4 → ℕ → Fin 64 → ℝ) (V : Fin 4 → ℕ → Fin 64 → EReal) (i : ℕ) : Good Q K V i (i + 1) zeros := by
  intro h r
  simp only [tail_end, left_end]
  fin_cases h
  · exact ⟨fun d => zero32, fun x => zero32⟩
  · exact ⟨fun d => zero32, fun x => zero32⟩
  · exact ⟨fun d => zero32, fun x => zero32⟩
  · exact ⟨fun d => zero32, fun x => zero32⟩

/-- The loop makes as many trips as there are tiles before the queries' tile. -/
theorem trips_eq : ∀ (a : Fin 16) (b : Fin 8), Scf.trips (0#32) (Scalar.addi (0#32)
    (Scalar.muli (Scalar.divsi (Scalar.subi (BitVec.ofNat 32 b.val) 0#32) 1#32) 1#32)) 1#32 = b.val := by
  decide +kernel

/-- The first row of the tile which a trip reads. -/
theorem off2 : ∀ (b : Fin 8) (n : Fin 8), n.val < b.val → (Scalar.indexCast (Scalar.muli (Scalar.subi (Scalar.subi (BitVec.ofNat 32 b.val) 1#32)
    (Scf.iv 0#32 1#32 n.val)) 256#32)).toNat = 256 * (b.val - (n.val + 1)) := by
  decide +kernel

/-- The first row of the diagonal tile. -/
theorem off1 : ∀ (b : Fin 8), (Scalar.indexCast (Scalar.muli (BitVec.ofNat 32 b.val) 256#32)).toNat = 256 * b.val := by
  decide +kernel

/-- A tile of 256 rows loaded from a whole block of 2048. -/
theorem load_at (arg : Memref sig .tc .vmem S1x2048x256 .f32) (h : arg.IsWhole) (x : S1x2048x256.Idx → Elt Ideal .f32)
    (off : Fin 3 → Nat) (inb : ∀ a, off a + S1x256x256.size a ≤ S1x2048x256.size a) (o : ℕ) (ho : off = ![0, o, 0]) (hb : o + 256 ≤ 2048) (p : Fin 256) (e : Fin 256) :
    View.readAt (Elt Ideal) arg.view (Rect.unit (s := S1x2048x256) off S1x256x256.size inb).toLoadRect (h.unread x) (ix3 0 p e)
      = x (ix3 0 ⟨o + p.val, by omega⟩ e) := by
  subst ho
  rw [View.readAt_eq_ld, Memref.IsWhole.read_unread]
  pointwise

/-- Before trip `n` the carried values are those of the tiles from tile `i - n` on. -/
theorem st_good (𝒱 : Variants) (c : Dev nD) (bd : Option 𝒱.V) (i : grid0.Coords) (arg2 : Memref sig .tc .vmem S1x256x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .bf16) (harg5 : arg5.IsWhole) (arg1 : BitVec 32)
    (q0 q1 q2 q3 : FVec Ideal S256x64 .bf16) (x3 x4 : S1x2048x256.Idx → Elt Ideal .f32)
    (Q K : Fin 4 → ℕ → Fin 64 → ℝ) (V : Fin 4 → ℕ → Fin 64 → EReal) (b : Fin 8) (hb : i 1 = b)
    (e0 : ∀ r d, q0 (ix2 r d) = (Q 0 (256 * b.val + r.val) d : EReal)) (e1 : ∀ r d, q1 (ix2 r d) = (Q 1 (256 * b.val + r.val) d : EReal))
    (e2 : ∀ r d, q2 (ix2 r d) = (Q 2 (256 * b.val + r.val) d : EReal)) (e3 : ∀ r d, q3 (ix2 r d) = (Q 3 (256 * b.val + r.val) d : EReal))
    (hk : ∀ (h : Fin 4) (C : Fin 2048) (d : Fin 64), x3 (ix3 0 C (lane64 h d)) = (K h C.val d : EReal))
    (hv : ∀ (h : Fin 4) (C : Fin 2048) (d : Fin 64), x4 (ix3 0 C (lane64 h d)) = V h C.val d)
    (init : St) (hi : Good Q K V b.val b.val init) (n : ℕ) (hn : n ≤ b.val) :
    Good Q K V b.val (b.val - n) (st_k0_t1 𝒱 c bd i arg2 harg2 arg3 harg3 arg4 harg4 arg5 harg5 arg1 k0_pay60 q0 q1 q2 q3 (harg3.unread x3) (harg4.unread x4) init n) := by
  induction n with
  | zero => exact hi
  | succ n ih =>
    have hbl : b.val < 8 := b.isLt
    have hlt : n < (k0_t1_loop i).trips := by
      have h := trips_eq 0 (i 1)
      rw [hb] at h
      exact lt_of_lt_of_eq hn (by rw [← hb] at h ⊢; exact h.symm)
    have ho : k0_off2 i ⟨n, hlt⟩ = ![0, 256 * (b.val - (n + 1)), 0] := by
      have h := off2 b ⟨n, by omega⟩ hn
      have e : k0_off2 i ⟨n, hlt⟩ = ![0, (Scalar.indexCast (Scalar.muli (Scalar.subi (Scalar.subi (BitVec.ofNat 32 (i 1).val) 1#32)
        (Scf.iv 0#32 1#32 n)) 256#32)).toNat, 0] := rfl
      rw [e, hb]
      exact congrArg (fun x => ![0, x, 0]) h
    refine (congrArg (Good Q K V b.val (b.val - (n + 1))) (st_k0_t1_succ 𝒱 c bd i arg2 harg2 arg3 harg3 arg4 harg4 arg5 harg5 arg1 k0_pay60 q0 q1 q2 q3 (harg3.unread x3) (harg4.unread x4) init ⟨n, hlt⟩)).mpr ?_
    rw [trip]
    have hj : b.val - (n + 1) < 8 := by omega
    refine step_good false Q K V b.val (b.val - (n + 1)) hj ?_ q0 q1 q2 q3 _ _ _ e0 e1 e2 e3 ?_ ?_ ?_
    · intro r c
      have := c.isLt
      exact ⟨fun _ => by omega, fun _ h => nomatch h⟩
    · intro h p d
      rw [load_at arg3 harg3 x3 _ _ _ ho (by omega) p, hk]
    · intro h p d
      rw [load_at arg4 harg4 x4 _ _ _ ho (by omega) p, hv]
    · rw [show b.val - (n + 1) + 1 = b.val - n by omega]
      exact ih (by omega)

end Cert.KernelIdeal.Own
-- ==== Proof.SbValue.lean ====
module

public import proofs.«01_k».proof.Proof.SbLoop

@[expose] public section

set_option maxRecDepth 16384

noncomputable section

open Cert.Own Idealize.ShloMosaic Idealize.ShloMosaic.TcCoe Idealize.SL.Sem

namespace Cert.KernelIdeal.Own

open Cert.KernelIdeal Cert.KernelIdeal.Gen Cert.KernelIdeal.Value

/-- Which block every window shows at every point. -/
theorem idx : ∀ t : Fin cfg0.N, win0_0.index t = ![t.val / 8, t.val % 8, 12] ∧ win0_1.index t = ![t.val / 8, 0, 13]
    ∧ win0_2.index t = ![t.val / 8, 0, 14] ∧ win0_3.index t = ![t.val / 8, t.val % 8, 0] :=
  (by decide +kernel : ∀ t : Fin grid0.N, _)

/-- A point's second coordinate. -/
theorem crd : ∀ t : Fin cfg0.N, (grid0.coords t 1).val = t.val % 8 :=
  (by decide +kernel : ∀ t : Fin grid0.N, (grid0.coords t 1).val = t.val % 8)

variable (m : (ℓ : Loc nD τ sig) → Buf (Elt Ideal) ℓ) (c : Dev nD) (t : Fin cfg0.N)

/-- The batch which point `t` works on. -/
def bat (t : Fin cfg0.N) : Fin 16 := ⟨t.val / 8, by have h := lt_of_lt_of_eq t.isLt (show cfg0.N = 128 from N_0); omega⟩
/-- The tile of queries which point `t` works on. -/
def til (t : Fin cfg0.N) : Fin 8 := ⟨t.val % 8, by omega⟩
/-- The row of the batch which row `p` of point `t`'s block is. -/
def row (t : Fin cfg0.N) (p : Fin 256) : Fin 2048 := ⟨256 * (til t).val + p.val, by have := (til t).isLt; omega⟩

/-- The queries. -/
def Q (b : Fin 16) (r : Fin 2048) (k : Fin 256) : EReal := m ((c.tc : Thread nD τ).loc main_arg0) (ix3 b r k)
/-- The keys. -/
def K (b : Fin 16) (r : Fin 2048) (k : Fin 256) : EReal := m ((c.tc : Thread nD τ).loc main_arg1) (ix3 b r k)
/-- The values. -/
def V' (b : Fin 16) (r : Fin 2048) (k : Fin 256) : EReal := m ((c.tc : Thread nD τ).loc main_arg2) (ix3 b r k)

/-- The block of queries which the body reads. -/
theorem blk0 (p : Fin 256) (k : Fin 256) : iblk m c 0 t (ix3 0 p k) = Q m c (bat t) (row t p) k := by
  have e : iblk m c 0 t (ix3 0 p k) = V m c main_v0 (ix3 (bat t) (row t p) (⟨12 * 256 + k.val, by omega⟩ : Fin 5376)) := by
    blk_ext [iblk, idx t, row, bat, til]
  rw [e]
  unfold Q
  entry_read
  pointwise
/-- The block of keys which the body reads. -/
theorem blk1 (p : Fin 2048) (k : Fin 256) : iblk m c 1 t (ix3 0 p k) = K m c (bat t) p k := by
  have e : iblk m c 1 t (ix3 0 p k) = V m c main_v0 (ix3 (bat t) p (⟨13 * 256 + k.val, by omega⟩ : Fin 5376)) := by
    blk_ext [iblk, idx t, bat]
  rw [e]
  unfold K
  entry_read
  pointwise
  rw [dif_neg (by omega), dif_neg (by omega), dif_pos (by omega)]
  exact congrArg (fun e => m ((c.tc : Thread nD τ).loc main_arg1) (ix3 (bat t) p e)) (Fin.ext (by simp; omega))
/-- The block of values which the body reads. -/
theorem blk2 (p : Fin 2048) (k : Fin 256) : iblk m c 2 t (ix3 0 p k) = V' m c (bat t) p k := by
  have e : iblk m c 2 t (ix3 0 p k) = V m c main_v0 (ix3 (bat t) p (⟨14 * 256 + k.val, by omega⟩ : Fin 5376)) := by
    blk_ext [iblk, idx t, bat]
  rw [e]
  unfold V'
  entry_read
  pointwise
  rw [dif_neg (by omega), dif_neg (by omega), dif_neg (by omega), dif_pos (by omega)]
  exact congrArg (fun e => m ((c.tc : Thread nD τ).loc main_arg2) (ix3 (bat t) p e)) (Fin.ext (by simp; omega))

/-- The scale of the queries. -/
theorem eighth : Ideal.ofBits FTy.f32 1040187392#32 = ((1 / 8 : ℝ) : EReal) := by
  simp [Ideal.ofBits, Ideal.ieee, -EReal.coe_mul]; norm_num

/-- Lanes of the scaled queries of head 0. -/
theorem q_at0 (x : Vec Ideal S1x256x256 .f32) (r : Fin 256) (d : Fin 64) : k0_pay61 (View.ld x (Rect.unit (s := S1x256x256) ![0, 0, 0] ![1, 256, 64] inb_S1x256x256_S1x256x64_0_0_0)) (ix2 r d) = x (ix3 0 r (lane64 0 d)) * ((1 / 8 : ℝ) : EReal) := by
  pointwise [k0_pay61]
  rw [eighth]
  exact congrArg (fun e => x (ix3 0 r e) * ((1 / 8 : ℝ) : EReal)) (Fin.ext (by simp [lane64]))
/-- Of head 1. -/
theorem q_at1 (x : Vec Ideal S1x256x256 .f32) (r : Fin 256) (d : Fin 64) : k0_pay62 (View.ld x (Rect.unit (s := S1x256x256) ![0, 0, 64] ![1, 256, 64] inb_S1x256x256_S1x256x64_0_0_64)) (ix2 r d) = x (ix3 0 r (lane64 1 d)) * ((1 / 8 : ℝ) : EReal) := by
  pointwise [k0_pay62]
  rw [eighth]
  exact congrArg (fun e => x (ix3 0 r e) * ((1 / 8 : ℝ) : EReal)) (Fin.ext (by simp [lane64]))
/-- Of head 2. -/
theorem q_at2 (x : Vec Ideal S1x256x256 .f32) (r : Fin 256) (d : Fin 64) : k0_pay63 (View.ld x (Rect.unit (s := S1x256x256) ![0, 0, 128] ![1, 256, 64] inb_S1x256x256_S1x256x64_0_0_128)) (ix2 r d) = x (ix3 0 r (lane64 2 d)) * ((1 / 8 : ℝ) : EReal) := by
  pointwise [k0_pay63]
  rw [eighth]
  exact congrArg (fun e => x (ix3 0 r e) * ((1 / 8 : ℝ) : EReal)) (Fin.ext (by simp [lane64]))
/-- Of head 3. -/
theorem q_at3 (x : Vec Ideal S1x256x256 .f32) (r : Fin 256) (d : Fin 64) : k0_pay64 (View.ld x (Rect.unit (s := S1x256x256) ![0, 0, 192] ![1, 256, 64] inb_S1x256x256_S1x256x64_0_0_192)) (ix2 r d) = x (ix3 0 r (lane64 3 d)) * ((1 / 8 : ℝ) : EReal) := by
  pointwise [k0_pay64]
  rw [eighth]
  exact congrArg (fun e => x (ix3 0 r e) * ((1 / 8 : ℝ) : EReal)) (Fin.ext (by simp [lane64]))

/-- The scaled queries as real numbers. -/
def Qf (b : Fin 16) (h : Fin 4) (n : ℕ) (d : Fin 64) : ℝ := (Q m c b (at2048 n) (lane64 h d)).toReal * (1 / 8)
/-- The keys as real numbers. -/
def Kf (b : Fin 16) (h : Fin 4) (n : ℕ) (d : Fin 64) : ℝ := (K m c b (at2048 n) (lane64 h d)).toReal
/-- The values. -/
def Vf (b : Fin 16) (h : Fin 4) (n : ℕ) (d : Fin 64) : EReal := V' m c b (at2048 n) (lane64 h d)
/-- The head of a lane. -/
def hd4 (e : Fin 256) : Fin 4 := ⟨e.val / 64, by omega⟩
/-- The lane within its head. -/
def ln4 (e : Fin 256) : Fin 64 := ⟨e.val % 64, by omega⟩
/-- The attention's result. -/
def out (b : Fin 16) (R : Fin 2048) (e : Fin 256) : EReal :=
  tail (zN (Qf m c b (hd4 e)) (Kf m c b (hd4 e)) R.val) R.val (fun C => Vf m c b (hd4 e) C (ln4 e)) 0

/-- The four heads side by side. -/
theorem four64 (f : Fin 4 → Fin 64 → EReal) (x : Fin 256) :
    (if h : x.val < 64 then f 0 ⟨x.val, h⟩ else if h : x.val - 64 < 64 then f 1 ⟨x.val - 64, h⟩
      else if h : x.val - 64 - 64 < 64 then f 2 ⟨x.val - 64 - 64, h⟩ else f 3 ⟨x.val - 64 - 64 - 64, by omega⟩) = f (hd4 x) (ln4 x) := by
  unfold hd4 ln4
  split_ifs <;> exact congrArg₂ f (Fin.ext (by simp; omega)) (Fin.ext (by simp; omega))

/-- The stored block at an entry. -/
theorem pay20_at (a0 a1 a2 a3 : FVec Ideal S256x64 .f32) (r x : Fin 256) (f : Fin 4 → Fin 64 → EReal) (h0 : ∀ d, a0 (ix2 r d) = f 0 d)
    (h1 : ∀ d, a1 (ix2 r d) = f 1 d) (h2 : ∀ d, a2 (ix2 r d) = f 2 d) (h3 : ∀ d, a3 (ix2 r d) = f 3 d) :
    k0_pay20 a0 a1 a2 a3 (ix3 0 r x) = f (hd4 x) (ln4 x) := by
  pointwise [k0_pay20]
  rw [← four64 f x]
  simp only [h0, h1, h2, h3]

/-- The second loop makes no trip. -/
theorem none_left : ∀ b : Fin 8, Scf.trips (Scalar.addi (0#32) (Scalar.muli (Scalar.divsi (Scalar.subi (BitVec.ofNat 32 b.val) 0#32) 1#32) 1#32)) (Scalar.addi (0#32) (Scalar.subi (BitVec.ofNat 32 b.val) 0#32)) 1#32 = 0 := by
  decide +kernel

/-- The mask of the diagonal tile. -/
theorem on_diag (b : ℕ) (r c : Fin 256) : on true r c ↔ 256 * b + c.val < 256 * b + r.val := by
  simp [on]

/-- A tile of 256 rows of a block of 2048. -/
theorem ld_at (x : S1x2048x256.Idx → Elt Ideal .f32) (off : Fin 3 → Nat) (inb : ∀ a, off a + S1x256x256.size a ≤ S1x2048x256.size a)
    (o : ℕ) (ho : off = ![0, o, 0]) (hb : o + 256 ≤ 2048) (p : Fin 256) (e : Fin 256) :
    View.ld x (Rect.unit (s := S1x2048x256) off ![1, 256, 256] inb) (ix3 0 p e) = x (ix3 0 ⟨o + p.val, by omega⟩ e) := by
  subst ho
  pointwise

/-- The body's result. -/
theorem body (hQ : ∀ b r k, Q m c b r k = ((Q m c b r k).toReal : EReal)) (hK : ∀ b r k, K m c b r k = ((K m c b r k).toReal : EReal))
    (p q : Fin 256) : outsAt0 m c t (ix3 0 p q) = out m c (bat t) (row t p) q := by
  have hc : grid0.coords t 1 = til t := Fin.ext (crd t)
  have hrow : ∀ r : Fin 256, at2048 (256 * (til t).val + r.val) = row t r := fun r => at_val (row t r)
  have hq : ∀ (h : Fin 4) (r : Fin 256) (d : Fin 64), (show EReal from iblk m c 0 t (ix3 0 r (lane64 h d))) * ((1 / 8 : ℝ) : EReal)
      = (Qf m c (bat t) h (256 * (til t).val + r.val) d : EReal) := fun h r d => by
    rw [blk0, hQ, ← EReal.coe_mul]; unfold Qf; rw [hrow]
  have hk : ∀ (h : Fin 4) (C : Fin 2048) (d : Fin 64), iblk m c 1 t (ix3 0 C (lane64 h d)) = (Kf m c (bat t) h C.val d : EReal) := fun h C d => by
    rw [blk1, hK]; unfold Kf; rw [at_val]
  have hv : ∀ (h : Fin 4) (C : Fin 2048) (d : Fin 64), iblk m c 2 t (ix3 0 C (lane64 h d)) = Vf m c (bat t) h C.val d := fun h C d => by
    rw [blk2]; unfold Vf; rw [at_val]
  have ho : k0_off1 (grid0.coords t) = ![0, 256 * (til t).val, 0] := by
    have e : k0_off1 (grid0.coords t) = ![0, (Scalar.indexCast (Scalar.muli (BitVec.ofNat 32 (grid0.coords t 1).val) 256#32)).toNat, 0] := rfl
    rw [e, hc]
    exact congrArg (fun x => ![0, x, 0]) (off1 (til t))
  have hoi : 256 * (til t).val + 256 ≤ 2048 := by have := (til t).isLt; omega
  unfold outsAt0
  frame_out
  generalize hA : Scf.trips _ _ _ = A
  generalize hB : Scf.trips _ _ _ = B
  generalize hs : (st_k0_t1 (F := Ideal) _ _ _ _ _ _ _ _ _ _ _ _ _ _ _ _ _ _ _ _ _ A) = S
  have hB0 : B = 0 := hB.symm.trans (none_left (grid0.coords t 1))
  have hA0 : A = (til t).val := hA.symm.trans ((trips_eq 0 (grid0.coords t 1)).trans (crd t))
  subst hB0
  subst hA0
  clear hA hB
  have hg : Good (Qf m c (bat t)) (Kf m c (bat t)) (Vf m c (bat t)) (til t).val 0 S := by
    have hz : (til t).val - (til t).val = 0 := Nat.sub_self _
    refine (congrArg (fun n => Good (Qf m c (bat t)) (Kf m c (bat t)) (Vf m c (bat t)) (til t).val n S) hz).mp ?_
    rw [← hs]
    refine st_good _ _ _ _ _ _ _ _ _ _ _ _ _ _ _ _ _ _ _ (Qf m c (bat t)) (Kf m c (bat t)) (Vf m c (bat t)) (til t) hc ?_ ?_ ?_ ?_ hk hv _ ?_ _ le_rfl
    · exact fun r d => (q_at0 _ r d).trans (hq 0 r d)
    · exact fun r d => (q_at1 _ r d).trans (hq 1 r d)
    · exact fun r d => (q_at2 _ r d).trans (hq 2 r d)
    · exact fun r d => (q_at3 _ r d).trans (hq 3 r d)
    · have hi := step_good true (Qf m c (bat t)) (Kf m c (bat t)) (Vf m c (bat t)) (til t).val (til t).val (til t).isLt (on_diag (til t).val)
        (k0_pay61 (View.ld (iblk m c 0 t) (Rect.unit (s := S1x256x256) ![0, 0, 0] ![1, 256, 64] inb_S1x256x256_S1x256x64_0_0_0)))
        (k0_pay62 (View.ld (iblk m c 0 t) (Rect.unit (s := S1x256x256) ![0, 0, 64] ![1, 256, 64] inb_S1x256x256_S1x256x64_0_0_64)))
        (k0_pay63 (View.ld (iblk m c 0 t) (Rect.unit (s := S1x256x256) ![0, 0, 128] ![1, 256, 64] inb_S1x256x256_S1x256x64_0_0_128)))
        (k0_pay64 (View.ld (iblk m c 0 t) (Rect.unit (s := S1x256x256) ![0, 0, 192] ![1, 256, 64] inb_S1x256x256_S1x256x64_0_0_192)))
        (View.ld (iblk m c 1 t) (Rect.unit (s := S1x2048x256) (k0_off1 (grid0.coords t)) ![1, 256, 256] (k0_off1_inb _)))
        (View.ld (iblk m c 2 t) (Rect.unit (s := S1x2048x256) (k0_off1 (grid0.coords t)) ![1, 256, 256] (k0_off1_inb _)))
        zeros (fun r d => (q_at0 _ r d).trans (hq 0 r d)) (fun r d => (q_at1 _ r d).trans (hq 1 r d))
        (fun r d => (q_at2 _ r d).trans (hq 2 r d)) (fun r d => (q_at3 _ r d).trans (hq 3 r d))
        (fun h C d => (ld_at _ _ _ _ ho hoi C _).trans (hk h _ d)) (fun h C d => (ld_at _ _ _ _ ho hoi C _).trans (hv h _ d)) (zeros_good _ _ _ _)
      exact hi
  have h0 := hg
  refine (pay20_at S.1 S.2.1 S.2.2.1 S.2.2.2.1 p q (fun h d => tail (zN (Qf m c (bat t) h) (Kf m c (bat t) h) (row t p).val) (row t p).val (fun C => Vf m c (bat t) h C d) 0)
    (hg 0 p).1 (hg 1 p).1 (hg 2 p).1 (hg 3 p).1).trans ?_
  rfl

/-- The result array holds `out`. -/
theorem final (hQ : ∀ b r k, Q m c b r k = ((Q m c b r k).toReal : EReal)) (hK : ∀ b r k, K m c b r k = ((K m c b r k).toReal : EReal)) :
    (dats m 0 c).arrAt 3 cfg0.N = (fun i => out m c (i 0) (i 1) (i 2)) := by
  refine (dats m 0 c).arrAt_eq_of_covers 3 _ (by decide +kernel) fun t hf y => ?_
  blk_simp
  rw [after0_3]
  idx_vars y
  have e : win0_3.index t = ![t.val / 8, t.val % 8, 0] := (idx t).2.2.2
  have z : y0 = 0 := Subsingleton.elim _ _
  subst z
  have h3 : ∀ b b' r r' q q', b = b' → r = r' → q = q' → out m c b r q = out m c b' r' q' := by
    rintro b _ r _ q _ rfl rfl rfl; rfl
  refine (body m c t hQ hK _ _).trans (h3 _ _ _ _ _ _ (Fin.ext ?_) (Fin.ext ?_) (Fin.ext ?_))
  · show t.val / 8 = win0_3.index t 0 * 1 + 1 * 0
    rw [e]; show _ = t.val / 8 * 1 + 1 * 0; omega
  · show 256 * (t.val % 8) + y1.val = win0_3.index t 1 * 256 + 1 * y1.val
    rw [e]; show _ = t.val % 8 * 256 + 1 * y1.val; omega
  · show y2.val = win0_3.index t 2 * 256 + 1 * y2.val
    rw [e]; show _ = 0 * 256 + 1 * y2.val; omega

end Cert.KernelIdeal.Own
-- ==== Proof.RefSb.lean ====
module

public import proofs.«01_k».proof.Proof.Gen.ReferenceIdeal.Run
public import proofs.«01_k».proof.Proof.Sb
public import Idealize.ShloMosaic.Lib.WordCmp

@[expose] public section

set_option maxRecDepth 16384

noncomputable section

open Cert.Own Idealize.ShloMosaic Idealize.ShloMosaic.TcCoe Idealize.SL.Sem

namespace Cert.ReferenceIdeal.Own

open Cert.ReferenceIdeal Cert.ReferenceIdeal.Gen

variable (m : (ℓ : Loc nD τ sig) → Buf (Elt Ideal) ℓ) (c : Dev nD)

/-- The queries. -/
def Q (b : Fin 16) (r : Fin 2048) (k : Fin 256) : EReal := m ((c.tc : Thread nD τ).loc main_arg0) (ix3 b r k)
/-- The keys. -/
def K (b : Fin 16) (r : Fin 2048) (k : Fin 256) : EReal := m ((c.tc : Thread nD τ).loc main_arg1) (ix3 b r k)
/-- The values. -/
def V (b : Fin 16) (r : Fin 2048) (k : Fin 256) : EReal := m ((c.tc : Thread nD τ).loc main_arg2) (ix3 b r k)

/-- Zeros at every score's place. -/
def v0 : FVec Ideal S16x4x2048x2048 .f32 := broadcastInDim S16x4x2048x2048 ![] bcast_S_S16x4x2048x2048 (constant S_ .f32 0x00000000#32)
/-- The scores. -/
def vz (q k : FVec Ideal S16x2048x256 .f32) : FVec Ideal S16x4x2048x2048 .f32 :=
  mulf (Host.dotGeneral dot_S16x2048x4x64_S16x2048x4x64_S16x4x2048x2048_3_3_1_1_02_02 none (shapeCast _ q shapeCasts_S16x2048x256_S16x2048x4x64) (shapeCast _ k shapeCasts_S16x2048x256_S16x2048x4x64)) (broadcastInDim S16x4x2048x2048 ![] bcast_S_S16x4x2048x2048 (constant S_ .f32 0x3E000000#32))
/-- The softplus of every entry. -/
def sp (x : FVec Ideal S16x4x2048x2048 .f32) : FVec Ideal S16x4x2048x2048 .f32 :=
  select (cmpf .une (subf x v0) (subf x v0)) (addf x v0) (addf (maximumf x v0) (Host.log1p (Host.exp (Host.negf (Host.absf (subf x v0))))))
/-- The keys before a query. -/
def msk : IVec S16x4x2048x2048 1 :=
  broadcastInDim S16x4x2048x2048 ![2, 3] bcast_S2048x2048_S16x4x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))
/-- An array kept at the keys before a query, zero elsewhere. -/
def only (x : FVec Ideal S16x4x2048x2048 .f32) : FVec Ideal S16x4x2048x2048 .f32 :=
  select msk x (broadcastInDim S16x4x2048x2048 ![] bcast_S_S16x4x2048x2048 (id (constant S_ .f32 0x00000000#32)))
/-- The logarithms of what every key leaves. -/
def vk (z : FVec Ideal S16x4x2048x2048 .f32) : FVec Ideal S16x4x2048x2048 .f32 := only (Host.negf (sp (Host.negf (Host.negf z))))
/-- The sums from a key on. -/
def vc (k : FVec Ideal S16x4x2048x2048 .f32) : FVec Ideal S16x4x2048x2048 .f32 :=
  Host.reduceWindowAdd ![1, 1, 1, 2048] ![1, 1, 1, 1] ![0, 0, 0, 0] ![0, 0, 0, 2047] k (broadcastInDim S_ ![] bcast_S_S_ (constant S_ .f32 0x00000000#32)) reduceWindows_S16x4x2048x2048_S16x4x2048x2048_w1s1p0_0_w1s1p0_0_w1s1p0_0_w2048s1p0_2047 h_S_
/-- The weights. -/
def va (z k s : FVec Ideal S16x4x2048x2048 .f32) : FVec Ideal S16x4x2048x2048 .f32 := only (Host.exp (addf (Host.negf (sp (Host.negf z))) (subf s k)))
/-- The weighted values. -/
def vo (v : FVec Ideal S16x2048x256 .f32) (a : FVec Ideal S16x4x2048x2048 .f32) : FVec Ideal S16x2048x256 .bf16 :=
  truncf .bf16 (shapeCast _ (transpose S16x2048x4x64 [0, 3, 1, 2] (Host.dotGeneral dot_S16x2048x4x64_S16x4x2048x2048_S16x4x64x2048_1_3_3_2_02_01 none (shapeCast _ v shapeCasts_S16x2048x256_S16x2048x4x64) a) transposes_S16x4x64x2048_S16x2048x4x64_0_3_1_2) shapeCasts_S16x2048x4x64_S16x2048x256) bitsLt_bf16_f32

/-- The reference's composed text is its stages. -/
theorem stages : Value.res_main_v24 m c
    = vo (m ((c.tc : Thread nD τ).loc main_arg2)) (va (vz (m ((c.tc : Thread nD τ).loc main_arg0)) (m ((c.tc : Thread nD τ).loc main_arg1)))
        (vk (vz (m ((c.tc : Thread nD τ).loc main_arg0)) (m ((c.tc : Thread nD τ).loc main_arg1))))
        (vc (vk (vz (m ((c.tc : Thread nD τ).loc main_arg0)) (m ((c.tc : Thread nD τ).loc main_arg1)))))) := rfl

/-- The lane of the 256 which lane `d` of head `h` is. -/
def lane64 (h : Fin 4) (d : Fin 64) : Fin 256 := ⟨64 * h.val + d.val, by omega⟩

/-- The scores at an entry. -/
theorem vz_at (q k) (b : Fin 16) (h : Fin 4) (r s : Fin 2048) : vz q k (ix4 b h r s)
    = (∑ d, q (ix3 b r (lane64 h d)) * k (ix3 b s (lane64 h d))) * ((1 / 8 : ℝ) : EReal) := by
  have e : Ideal.ofBits FTy.f32 1040187392#32 = ((1 / 8 : ℝ) : EReal) := by
    simp [Ideal.ofBits, Ideal.ieee, -EReal.coe_mul]; norm_num
  unfold lane64
  pointwise [vz]
  rw [e]
  simp only [Nat.mul_comm h.val 64]

/-- The softplus of a number, by the logarithm of the sigmoid. -/
theorem soft_coe (a : ℝ) : max (a : EReal) 0 + Ideal.log1p (Ideal.exp (-(max (a : EReal) (-(a : EReal))))) = ((a - lsig a : ℝ) : EReal) := by
  have h1 : max (a : EReal) (-(a : EReal)) = ((|a| : ℝ) : EReal) := by rw [abs_eq_max_neg, ← EReal.coe_neg]; exact (EReal.coe_strictMono.monotone.map_max).symm
  have h0 : max (a : EReal) 0 = ((max a 0 : ℝ) : EReal) := (EReal.coe_strictMono.monotone.map_max (a := a) (b := 0)).symm
  have h3 : Ideal.exp ((-|a| : ℝ) : EReal) = (Real.exp (-|a|) : EReal) := rfl
  have h4 : (1 : EReal) + (Real.exp (-|a|) : EReal) = ((1 + Real.exp (-|a|) : ℝ) : EReal) := by rw [EReal.coe_add, EReal.coe_one]
  have h5 : Ideal.log ((1 + Real.exp (-|a|) : ℝ) : EReal) = (Real.log (1 + Real.exp (-|a|)) : EReal) :=
    if_neg (not_le.mpr (by positivity))
  have h6 : max a 0 = a - min a 0 := by have := max_add_min a 0; linarith
  rw [h1, h0, ← EReal.coe_neg, Ideal.log1p, h3, h4, h5, ← EReal.coe_add, lsig, h6]
  congr 1
  ring

/-- The softplus at an entry. -/
theorem sp_at (x) (b : Fin 16) (h : Fin 4) (r s : Fin 2048) (a : ℝ) (hx : x (ix4 b h r s) = (a : EReal)) : sp x (ix4 b h r s)
    = ((a - lsig a : ℝ) : EReal) := by
  pointwise [sp, v0]
  rw [if_neg (fun h => h rfl), hx]
  exact soft_coe a

/-- The masked array at an entry. -/
theorem only_at (x) (b : Fin 16) (h : Fin 4) (r s : Fin 2048) : only x (ix4 b h r s)
    = if s.val < r.val then x (ix4 b h r s) else 0 := by
  have z : (id (constant S_ FTy.f32 0#32) ix0 : Ideal FTy.f32) = (0 : EReal) := by
    show Ideal.ofBits FTy.f32 0#32 = 0
    simp [Ideal.ofBits, Ideal.ieee]
  pointwise [only, msk]
  rw [z, WordCmp.cmpi_slt_ofNat (by omega) (by omega)]
  by_cases hl : s.val < r.val <;> simp [hl, Scalar.select]

/-- The result at an entry. -/
theorem vo_at (v a) (b : Fin 16) (r : Fin 2048) (e : Fin 256) : vo v a (ix3 b r e)
    = ∑ s, v (ix3 b s e) * a (ix4 b ⟨e.val / 64, by omega⟩ r s) := by
  pointwise [vo]

/-- A fold of sums is the start plus the sum. -/
theorem foldl_sum {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The places of a window of one row. -/
def place (n : ℕ) : Fin n ≃ Shape.Idx ⟨4, ![1, 1, 1, n]⟩ where
  toFun k := ix4 (0 : Fin 1) (0 : Fin 1) (0 : Fin 1) k
  invFun i := i 3
  left_inv k := rfl
  right_inv i := by
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl

/-- The sums from a place on along the last axis of an array of any size. -/
theorem cum_axis3 {n0 n1 n2 n3 pad : ℕ} (x : FVec Ideal ⟨4, ![n0, n1, n2, n3]⟩ .f32) (z : FVec Ideal S_ .f32)
    (hr : (⟨4, ![n0, n1, n2, n3]⟩ : Shape).ReduceWindows ![1, 1, 1, n3] ![1, 1, 1, 1] ![0, 0, 0, 0] ![0, 0, 0, pad] ⟨4, ![n0, n1, n2, n3]⟩)
    (hu : 0 < S_.numel) (hz : z (Shape.Idx.first hu) = (0 : EReal)) (b : Fin n0) (i : Fin n1) (j : Fin n2) (l : Fin n3) :
    (Host.reduceWindowAdd ![1, 1, 1, n3] ![1, 1, 1, 1] ![0, 0, 0, 0] ![0, 0, 0, pad] x z hr hu (ix4 b i j l) : EReal)
      = ∑ w : Fin n3, if hw : l.val + w.val < n3 then (x (ix4 b i j ⟨l.val + w.val, hw⟩) : EReal) else 0 := by
  unfold Host.reduceWindowAdd
  rw [hz]
  show Ideal.hostReduceWindowAdd _ _ _ _ hr x 0 (ix4 b i j l) = _
  unfold Ideal.hostReduceWindowAdd Host.reduceWindow
  dsimp only
  refine (foldl_sum _ _ _).trans ?_
  rw [zero_add, ← Fin.sum_univ_def]
  refine Fintype.sum_equiv ((Shape.rowMajor _).symm.trans (place n3).symm) _ _ fun n => ?_
  show _ = if hw : l.val + (((Shape.rowMajor _).symm n) 3).val < n3 then (x (ix4 b i j ⟨l.val + (((Shape.rowMajor _).symm n) 3).val, hw⟩) : EReal) else 0
  have q0 : (((Shape.rowMajor ⟨4, ![1, 1, 1, n3]⟩).symm n) 0).val = 0 := Nat.lt_one_iff.mp (((Shape.rowMajor ⟨4, ![1, 1, 1, n3]⟩).symm n) 0).isLt
  have q1 : (((Shape.rowMajor ⟨4, ![1, 1, 1, n3]⟩).symm n) 1).val = 0 := Nat.lt_one_iff.mp (((Shape.rowMajor ⟨4, ![1, 1, 1, n3]⟩).symm n) 1).isLt
  have q2 : (((Shape.rowMajor ⟨4, ![1, 1, 1, n3]⟩).symm n) 2).val = 0 := Nat.lt_one_iff.mp (((Shape.rowMajor ⟨4, ![1, 1, 1, n3]⟩).symm n) 2).isLt
  have hb := b.isLt
  have hi := i.isLt
  have hj := j.isLt
  by_cases hw : l.val + (((Shape.rowMajor ⟨4, ![1, 1, 1, n3]⟩).symm n) 3).val < n3
  · rw [dif_pos hw]
    refine (dif_pos fun a => ?_).trans (congrArg x (funext fun a => Fin.ext ?_))
    · match a with
      | ⟨0, _⟩ =>
        show 0 ≤ b.val * 1 + (((Shape.rowMajor ⟨4, ![1, 1, 1, n3]⟩).symm n) 0).val ∧ b.val * 1 + (((Shape.rowMajor ⟨4, ![1, 1, 1, n3]⟩).symm n) 0).val - 0 < n0
        omega
      | ⟨1, _⟩ =>
        show 0 ≤ i.val * 1 + (((Shape.rowMajor ⟨4, ![1, 1, 1, n3]⟩).symm n) 1).val ∧ i.val * 1 + (((Shape.rowMajor ⟨4, ![1, 1, 1, n3]⟩).symm n) 1).val - 0 < n1
        omega
      | ⟨2, _⟩ =>
        show 0 ≤ j.val * 1 + (((Shape.rowMajor ⟨4, ![1, 1, 1, n3]⟩).symm n) 2).val ∧ j.val * 1 + (((Shape.rowMajor ⟨4, ![1, 1, 1, n3]⟩).symm n) 2).val - 0 < n2
        omega
      | ⟨3, _⟩ =>
        show 0 ≤ l.val * 1 + (((Shape.rowMajor ⟨4, ![1, 1, 1, n3]⟩).symm n) 3).val ∧ l.val * 1 + (((Shape.rowMajor ⟨4, ![1, 1, 1, n3]⟩).symm n) 3).val - 0 < n3
        omega
    · match a with
      | ⟨0, _⟩ =>
        show b.val * 1 + (((Shape.rowMajor ⟨4, ![1, 1, 1, n3]⟩).symm n) 0).val - 0 = b.val
        omega
      | ⟨1, _⟩ =>
        show i.val * 1 + (((Shape.rowMajor ⟨4, ![1, 1, 1, n3]⟩).symm n) 1).val - 0 = i.val
        omega
      | ⟨2, _⟩ =>
        show j.val * 1 + (((Shape.rowMajor ⟨4, ![1, 1, 1, n3]⟩).symm n) 2).val - 0 = j.val
        omega
      | ⟨3, _⟩ =>
        show l.val * 1 + (((Shape.rowMajor ⟨4, ![1, 1, 1, n3]⟩).symm n) 3).val - 0 = l.val + (((Shape.rowMajor ⟨4, ![1, 1, 1, n3]⟩).symm n) 3).val
        omega
  · rw [dif_neg hw]
    refine dif_neg fun hin => hw ?_
    have h3 : 0 ≤ l.val * 1 + (((Shape.rowMajor ⟨4, ![1, 1, 1, n3]⟩).symm n) 3).val ∧ l.val * 1 + (((Shape.rowMajor ⟨4, ![1, 1, 1, n3]⟩).symm n) 3).val - 0 < n3 := hin 3
    omega

/-- The queries are finite. -/
def FinQ : Prop := ∀ b r k, Q m c b r k = ((Q m c b r k).toReal : EReal)
/-- The keys are finite. -/
def FinK : Prop := ∀ b r k, K m c b r k = ((K m c b r k).toReal : EReal)

/-- The score of a query's row and a key's row. -/
def z (b : Fin 16) (h : Fin 4) (r : Fin 2048) (C : ℕ) : ℝ :=
  ∑ d : Fin 64, (Q m c b r (lane64 h d)).toReal * (1 / 8) * (K m c b (at2048 C) (lane64 h d)).toReal
/-- The attention's result. -/
def spec (b : Fin 16) (r : Fin 2048) (e : Fin 256) : EReal :=
  tail (z m c b ⟨e.val / 64, by omega⟩ r) r.val (fun C => V m c b (at2048 C) e) 0

/-- The scores are numbers. -/
theorem score_at (hQ : FinQ m c) (hK : FinK m c) (b : Fin 16) (h : Fin 4) (r s : Fin 2048) :
    vz (m ((c.tc : Thread nD τ).loc main_arg0)) (m ((c.tc : Thread nD τ).loc main_arg1)) (ix4 b h r s) = (z m c b h r s.val : EReal) := by
  rw [vz_at]
  show (∑ d, Q m c b r (lane64 h d) * K m c b s (lane64 h d)) * ((1 / 8 : ℝ) : EReal) = _
  unfold z
  rw [at_val]
  have e : ∀ d, Q m c b r (lane64 h d) * K m c b s (lane64 h d) = (((Q m c b r (lane64 h d)).toReal * (K m c b s (lane64 h d)).toReal : ℝ) : EReal) := fun d => by
    rw [EReal.coe_mul, ← hQ, ← hK]
  rw [Finset.sum_congr rfl fun d _ => e d, ← coe_sum, ← EReal.coe_mul, Finset.sum_mul]
  exact congrArg _ (Finset.sum_congr rfl fun d _ => by ring)

/-- What every key leaves. -/
theorem vk_at (x) (b : Fin 16) (h : Fin 4) (r s : Fin 2048) (Z : ℕ → ℝ) (hx : x (ix4 b h r s) = (Z s.val : EReal)) :
    vk x (ix4 b h r s) = (kept Z r.val s.val : EReal) := by
  have e : Host.negf (Host.negf x) (ix4 b h r s) = (Z s.val : EReal) := by
    show -(-(x (ix4 b h r s) : EReal)) = _
    rw [hx, neg_neg]
  unfold vk kept
  rw [only_at]
  by_cases hl : s.val < r.val
  · rw [if_pos hl, if_pos hl]
    show -(sp _ (ix4 b h r s) : EReal) = _
    rw [sp_at _ b h r s _ e, ← EReal.coe_neg, keep, neg_sub]
  · rw [if_neg hl, if_neg hl, EReal.coe_zero]

/-- The sums from a key on. -/
theorem vc_at (x) (b : Fin 16) (h : Fin 4) (r s : Fin 2048) (Z : ℕ → ℝ) (hx : ∀ s : Fin 2048, x (ix4 b h r s) = (kept Z r.val s.val : EReal)) :
    vc x (ix4 b h r s) = (left Z r.val s.val : EReal) := by
  have z0 : broadcastInDim S_ ![] bcast_S_S_ (constant (F := Ideal) S_ .f32 0x00000000#32) (Shape.Idx.first h_S_) = (0 : EReal) := by
    show Ideal.ofBits FTy.f32 0#32 = 0
    simp [Ideal.ofBits, Ideal.ieee]
  refine (cum_axis3 x _ _ h_S_ z0 b h r s).trans ?_
  have e : ∀ w : Fin 2048, (if hw : s.val + w.val < 2048 then (x (ix4 b h r ⟨s.val + w.val, hw⟩) : EReal) else 0)
      = ((if s.val + w.val < 2048 then kept Z r.val (s.val + w.val) else 0 : ℝ) : EReal) := fun w => by
    by_cases hw : s.val + w.val < 2048
    · rw [dif_pos hw, if_pos hw, hx]
    · rw [dif_neg hw, if_neg hw, EReal.coe_zero]
  rw [Finset.sum_congr rfl fun w _ => e w, ← coe_sum]
  refine congrArg _ ?_
  unfold left
  rw [Fin.sum_univ_eq_sum_range (fun w => if s.val + w < 2048 then kept Z r.val (s.val + w) else 0) 2048, ← Finset.sum_filter,
    Finset.sum_Ico_eq_sum_range]
  refine Finset.sum_congr (Finset.ext fun w => ?_) fun _ _ => rfl
  rw [Finset.mem_filter, Finset.mem_range, Finset.mem_range]
  omega

/-- The weights. -/
theorem va_at (x k s) (b : Fin 16) (h : Fin 4) (r C : Fin 2048) (Z : ℕ → ℝ) (hx : x (ix4 b h r C) = (Z C.val : EReal))
    (hk : k (ix4 b h r C) = (kept Z r.val C.val : EReal)) (hs : s (ix4 b h r C) = (left Z r.val C.val : EReal)) :
    va x k s (ix4 b h r C) = (wgt Z r.val C.val : EReal) := by
  have e : Host.negf x (ix4 b h r C) = ((-Z C.val : ℝ) : EReal) := by
    show -(x (ix4 b h r C) : EReal) = _
    rw [hx, EReal.coe_neg]
  unfold va wgt
  rw [only_at]
  by_cases hl : C.val < r.val
  · rw [if_pos hl, if_pos hl]
    show Ideal.exp (-(sp _ (ix4 b h r C) : EReal) + ((s (ix4 b h r C) : EReal) - k (ix4 b h r C))) = _
    rw [sp_at _ b h r C _ e, hs, hk, ← EReal.coe_neg, ← EReal.coe_sub, ← EReal.coe_add]
    refine congrArg (fun y : ℝ => ((Real.exp y : ℝ) : EReal)) ?_
    have h1 : left Z r.val C.val = kept Z r.val C.val + left Z r.val (C.val + 1) := Finset.sum_eq_sum_Ico_succ_bot C.isLt _
    have h2 : lsig (-Z C.val) = lsig (Z C.val) - Z C.val := by
      unfold lsig
      rw [abs_neg]
      have : min (-Z C.val) 0 = min (Z C.val) 0 - Z C.val := by
        rcases le_total (Z C.val) 0 with h | h
        · rw [min_eq_left h, min_eq_right (by linarith)]; ring
        · rw [min_eq_right h, min_eq_left (by linarith)]; ring
      rw [this]; ring
    rw [h1, h2]; ring
  · rw [if_neg hl, if_neg hl, EReal.coe_zero]

/-- The composed text at `spec`. -/
theorem text (hQ : FinQ m c) (hK : FinK m c) : (Value.res_main_v24 m c : FVec Ideal S16x2048x256 .bf16) = fun i => spec m c (i 0) (i 1) (i 2) := by
  funext i
  idx_vars i
  show _ = spec m c i0 i1 i2
  rw [stages, vo_at]
  unfold spec tail
  rw [← Finset.range_eq_Ico, ← Fin.sum_univ_eq_sum_range (fun C => (wgt (z m c i0 ⟨i2.val / 64, _⟩ i1) i1.val C : EReal) * V m c i0 (at2048 C) i2) 2048]
  refine Finset.sum_congr rfl fun s _ => ?_
  have hk := fun s => vk_at _ i0 ⟨i2.val / 64, by omega⟩ i1 s (z m c i0 ⟨i2.val / 64, by omega⟩ i1) (score_at m c hQ hK i0 ⟨i2.val / 64, by omega⟩ i1 s)
  rw [va_at _ _ _ i0 _ i1 s (z m c i0 ⟨i2.val / 64, by omega⟩ i1) (score_at m c hQ hK _ _ _ _) (hk s) (vc_at _ _ _ _ _ _ hk), at_val, mul_comm]
  rfl

end Cert.ReferenceIdeal.Own
-- ==== Proof.SbClaim.lean ====
module

public import proofs.«01_k».proof.Defs
public import proofs.«01_k».proof.Proof.SbValue
public import proofs.«01_k».proof.Proof.RefSb

@[expose] public section

set_option maxRecDepth 16384

noncomputable section

open Idealize.ShloMosaic Idealize.ShloMosaic.TcCoe Idealize.SL.Sem

namespace Cert.Pre_finite_scores.Own

/-- The one side condition of the precondition's text. -/
instance facts : Cert.Pre_finite_scores.Facts := ⟨by decide⟩

end Cert.Pre_finite_scores.Own

namespace Cert.ReferenceIdeal.Own

open Cert.ReferenceIdeal

/-- The reference's run leaves its arguments as they were and every counter at zero: it has no counters. -/
theorem quiescent [Facts] (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2, sem_eq_zero_of_no_sems (by decide) r.2⟩) (Value.run m ρ)

end Cert.ReferenceIdeal.Own

namespace Cert.Own

/-- A number whose absolute value is below infinity is real. -/
theorem real_of_abs (x : EReal) (h : max x (-x) < ⊤) : x = (x.toReal : EReal) := by
  induction x with
  | bot => exact absurd h (by simp)
  | coe x => rfl
  | top => exact absurd h (by simp)

/-- What the precondition says: every query and every key is a real number. -/
theorem finite_of_pre [Cert.Pre_finite_scores.Facts] (m : (ℓ : Loc Cert.KernelIdeal.nD Cert.KernelIdeal.τ Cert.KernelIdeal.sig) → Buf (Elt Ideal) ℓ)
    (h : Pre_KernelIdeal_finite_scores m) (c : Dev Cert.KernelIdeal.nD) (b : Fin 16) (r : Fin 2048) (k : Fin 256) :
    Cert.KernelIdeal.Own.Q m c b r k = ((Cert.KernelIdeal.Own.Q m c b r k).toReal : EReal)
      ∧ Cert.KernelIdeal.Own.K m c b r k = ((Cert.KernelIdeal.Own.K m c b r k).toReal : EReal) := by
  have := congrFun (h c) (ix3 b r k)
  unfold Cert.Pre_finite_scores.fn at this
  pointwise at this
  have hb : ∀ a b : Bool, IntOp.andi (BitVec.ofBool a) (BitVec.ofBool b) = 1#1 → a = true ∧ b = true := by decide
  obtain ⟨h0, h1⟩ := hb _ _ this
  exact ⟨real_of_abs _ (lt_of_lt_of_le (of_decide_eq_true h0) le_top), real_of_abs _ (lt_of_lt_of_le (of_decide_eq_true h1) le_top)⟩

/-- The stick-breaking attention: kernel and reference leave the same result. -/
theorem sb [Cert.KernelIdeal.Facts] [Cert.ReferenceIdeal.Facts] [Cert.Pre_finite_scores.Facts] : algebraic_KernelIdeal_ReferenceIdeal_pre_finite_scores := by
  intro m g m' g' hp ha
  refine ⟨fun c i => Cert.KernelIdeal.Own.out m c (i 0) (i 1) (i 2), (θ_run _ _ _).mono (fun r h c => ⟨(h c).1.trans
    (Cert.KernelIdeal.Own.final m c (fun b r k => (finite_of_pre m hp c b r k).1) (fun b r k => (finite_of_pre m hp c b r k).2)), (h c).2⟩)
    (Cert.KernelIdeal.Value.run_blocks m g), ?_⟩
  refine (θ_run _ _ _).mono (fun r h c => ⟨(h c).1.trans ?_, (h c).2⟩) (Cert.ReferenceIdeal.Value.run m' g')
  obtain ⟨h0, h1, h2, h3, h4⟩ := ha c
  have e0 : Cert.ReferenceIdeal.Own.Q m' c = Cert.KernelIdeal.Own.Q m c := by funext b r k; exact congrFun h0 _
  have e1 : Cert.ReferenceIdeal.Own.K m' c = Cert.KernelIdeal.Own.K m c := by funext b r k; exact congrFun h1 _
  have e2 : Cert.ReferenceIdeal.Own.V m' c = Cert.KernelIdeal.Own.V' m c := by funext b r k; exact congrFun h2 _
  have hQ := fun b r k => (finite_of_pre m hp c b r k).1
  have hK := fun b r k => (finite_of_pre m hp c b r k).2
  have hQ' : Cert.ReferenceIdeal.Own.FinQ m' c := by unfold Cert.ReferenceIdeal.Own.FinQ; rw [e0]; exact hQ
  have hK' : Cert.ReferenceIdeal.Own.FinK m' c := by unfold Cert.ReferenceIdeal.Own.FinK; rw [e1]; exact hK
  have key : ∀ b r e, Cert.ReferenceIdeal.Own.spec m' c b r e = Cert.KernelIdeal.Own.out m c b r e := by
    intro b r e
    unfold Cert.ReferenceIdeal.Own.spec Cert.ReferenceIdeal.Own.z Cert.KernelIdeal.Own.out Cert.KernelIdeal.Own.zN Cert.KernelIdeal.Own.Qf Cert.KernelIdeal.Own.Kf Cert.KernelIdeal.Own.Vf
    rw [e0, e1, e2, at_val]
    have el : Cert.KernelIdeal.Own.lane64 (Cert.KernelIdeal.Own.hd4 e) (Cert.KernelIdeal.Own.ln4 e) = e := Fin.ext (by
      show 64 * (e.val / 64) + e.val % 64 = e.val
      omega)
    rw [el]
    rfl
  rw [Cert.ReferenceIdeal.Own.text m' c hQ' hK']
  funext i
  exact key (i 0) (i 1) (i 2)

end Cert.Own
-- ==== Proof.MoeBlocks.lean ====
module

public import proofs.«01_k».proof.Proof.Gen.MoeIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MoeIdeal.Own

open Cert.MoeIdeal Cert.MoeIdeal.Gen Cert.MoeIdeal.Value

/-- Which block every window shows at every point. -/
theorem idx : ∀ t : Fin cfg0.N, win0_0.index t = ![t.val / 112, 0] ∧ win0_1.index t = ![0, 0] ∧ win0_2.index t = ![t.val / 112, 0]
    ∧ win0_3.index t = ![t.val % 112 / 14, 0, t.val % 14] ∧ win0_4.index t = ![t.val % 112 / 14, 0, t.val % 14 + 14]
    ∧ win0_5.index t = ![t.val % 112 / 14, t.val % 14, 0] ∧ (grid0.coords t 1).val = t.val % 112 / 14 :=
  (by decide +kernel : ∀ t : Fin grid0.N, _)

variable (m : (ℓ : Loc nD τ sig) → Buf (Elt Ideal) ℓ) (c : Dev nD) (t : Fin cfg0.N)

/-- The row of the arrays which row `p` of point `t`'s block is. -/
def row (t : Fin cfg0.N) (p : Fin 1024) : Fin 32768 :=
  ⟨t.val / 112 * 1024 + p.val, by have h := lt_of_lt_of_eq t.isLt (show cfg0.N = 3584 from N_0); have := p.isLt; omega⟩

/-- The expert of point `t`. -/
def ex (t : Fin cfg0.N) : Fin 8 := ⟨t.val % 112 / 14, by omega⟩

/-- The hidden unit which column `j` of point `t`'s blocks is. -/
def hid (t : Fin cfg0.N) (j : Fin 256) : Fin 3584 := ⟨t.val % 14 * 256 + j.val, by omega⟩

/-- A hidden unit's column among the first half of the joined weights. -/
def lo (f : Fin 3584) : Fin 7168 := ⟨f.val, by omega⟩
/-- A hidden unit's column among the second half of the joined weights. -/
def hi (f : Fin 3584) : Fin 7168 := ⟨3584 + f.val, by omega⟩

/-- The block of rows which the body reads. -/
theorem blk0 (p k : Fin 1024) : iblk m c 0 t (ix2 p k) = m ((c.tc : Thread nD τ).loc main_arg0) (ix2 (row t p) k) := by
  blk_ext [iblk, V, idx t, row]
/-- The block of the gain which the body reads. -/
theorem blk1 (k : Fin 1024) : iblk m c 1 t (ix2 0 k) = m ((c.tc : Thread nD τ).loc main_arg1) (ix1 k) := by
  blk_simp [iblk, idx t]
  entry_read
  pointwise
  blk_ext [idx t]
/-- The block of routing weights which the body reads. -/
theorem blk2 (p : Fin 1024) (l : Fin 128) (h : l.val < 8) : iblk m c 2 t (ix2 p l) = m ((c.tc : Thread nD τ).loc main_arg2) (ix2 (row t p) ⟨l.val, h⟩) := by
  blk_simp [iblk, idx t, row]
  entry_read
  pointwise
  rw [dif_pos (by blk_simp [idx t]; omega)]
  blk_ext [idx t]
/-- The block of gate weights which the body reads. -/
theorem blk3 (k : Fin 1024) (j : Fin 256) : iblk m c 3 t (ix3 0 k j) = m ((c.tc : Thread nD τ).loc main_arg3) (ix3 (ex t) k (lo (hid t j))) := by
  blk_ext [iblk, V, idx t, ex, lo, hid]
/-- The block of linear weights which the body reads. -/
theorem blk4 (k : Fin 1024) (j : Fin 256) : iblk m c 4 t (ix3 0 k j) = m ((c.tc : Thread nD τ).loc main_arg3) (ix3 (ex t) k (hi (hid t j))) := by
  blk_ext [iblk, V, idx t, ex, hi, hid]
/-- The block of output weights which the body reads. -/
theorem blk5 (j : Fin 256) (q : Fin 1024) : iblk m c 5 t (ix3 0 j q) = m ((c.tc : Thread nD τ).loc main_arg4) (ix3 (ex t) (hid t j) q) := by
  blk_ext [iblk, V, idx t, ex, hid]

end Cert.MoeIdeal.Own
-- ==== Proof.MoeValue.lean ====
module

public import proofs.«01_k».proof.Proof.MoeBlocks
public import proofs.«01_k».proof.Proof.Sums
public import Idealize.ShloMosaic.Lib.Pipeline.ReadBack

@[expose] public section

set_option maxRecDepth 16384

noncomputable section

open Idealize.ShloMosaic Idealize.ShloMosaic.TcCoe Idealize.SL.Sem

namespace Cert.MoeIdeal.Own

open Cert.MoeIdeal Cert.MoeIdeal.Gen Cert.MoeIdeal.Value

variable (m : (ℓ : Loc nD τ sig) → Buf (Elt Ideal) ℓ) (c : Dev nD) (t : Fin cfg0.N)

/-- The body's results at a first point of a row block. -/
theorem step_A (h0 : t.val % 112 = 0) (h1 : ¬t.val % 112 = 111) :
    (outsAt0 m c t.val t.isLt).2.1 = k0_pay2 (iblk m c 0 t) (iblk m c 1 t)
    ∧ (outsAt0 m c t.val t.isLt).2.2 = k0_pay1 (k0_pay4 (grid0.coords t) (k0_pay2 (iblk m c 0 t) (iblk m c 1 t)) (iblk m c 3 t) (iblk m c 4 t) (iblk m c 5 t) (iblk m c 2 t) (k0_pay3 (iblk m c 0 t))) := by
  rw [outsAt0_A m c t h0 h1]
  constructor <;> frame_out

/-- The body's results at a point inside a row block's run. -/
theorem step_B (h0 : ¬t.val % 112 = 0) (h1 : ¬t.val % 112 = 111) (xs0 : Vec Ideal S1024x1024 .bf16) (xs1 : Vec Ideal S1024x1024 .f32)
    (e0 : (outsAt0 m c (t.val - 1) (Nat.lt_of_le_of_lt (Nat.sub_le _ _) t.isLt)).2.1 = xs0)
    (e1 : (outsAt0 m c (t.val - 1) (Nat.lt_of_le_of_lt (Nat.sub_le _ _) t.isLt)).2.2 = xs1) :
    (outsAt0 m c t.val t.isLt).2.1 = xs0
    ∧ (outsAt0 m c t.val t.isLt).2.2 = k0_pay1 (k0_pay4 (grid0.coords t) xs0 (iblk m c 3 t) (iblk m c 4 t) (iblk m c 5 t) (iblk m c 2 t) xs1) := by
  rw [outsAt0_B m c t h0 h1, e0, e1]
  refine ⟨rfl, ?_⟩
  frame_out
  simp only [read_unread_whole]

/-- The body's results at a last point of a row block. -/
theorem step_C (h0 : ¬t.val % 112 = 0) (h1 : t.val % 112 = 111) (xs0 : Vec Ideal S1024x1024 .bf16) (xs1 : Vec Ideal S1024x1024 .f32)
    (e0 : (outsAt0 m c (t.val - 1) (Nat.lt_of_le_of_lt (Nat.sub_le _ _) t.isLt)).2.1 = xs0)
    (e1 : (outsAt0 m c (t.val - 1) (Nat.lt_of_le_of_lt (Nat.sub_le _ _) t.isLt)).2.2 = xs1) :
    (outsAt0 m c t.val t.isLt).2.1 = xs0
    ∧ (outsAt0 m c t.val t.isLt).2.2 = k0_pay1 (k0_pay4 (grid0.coords t) xs0 (iblk m c 3 t) (iblk m c 4 t) (iblk m c 5 t) (iblk m c 2 t) xs1)
    ∧ (outsAt0 m c t.val t.isLt).1 = k0_pay1 (k0_pay4 (grid0.coords t) xs0 (iblk m c 3 t) (iblk m c 4 t) (iblk m c 5 t) (iblk m c 2 t) xs1) := by
  rw [outsAt0_C m c t h0 h1, e0, e1]
  refine ⟨rfl, ?_, ?_⟩ <;> frame_out <;> simp only [read_unread_whole]

/-- A block copied unchanged, at an entry. -/
theorem pay1_at (v : Vec Ideal S1024x1024 .f32) (p q : Fin 1024) : k0_pay1 (F := Ideal) v (ix2 p q) = v (ix2 p q) := by
  pointwise [k0_pay1]

/-- A block copied unchanged, at an entry. -/
theorem pay3_at (v : Vec Ideal S1024x1024 .f32) (p q : Fin 1024) : k0_pay3 v (ix2 p q) = v (ix2 p q) := by
  pointwise [k0_pay3]

/-- The normed rows at an entry. -/
theorem pay2_at (x : Vec Ideal S1024x1024 .f32) (g : Vec Ideal S1x1024 .f32) (p q : Fin 1024) :
    k0_pay2 x g (ix2 p q) = Cert.Own.rms (fun k => x (ix2 p k)) (fun k => g (ix2 0 k)) q := by
  unfold Cert.Own.rms
  pointwise [k0_pay2]

/-- The body's step at an entry: the running sum plus the products over the chunk's hidden units. -/
theorem pay4_at (v5 : Vec Ideal S1024x1024 .bf16) (v6 v9 : Vec Ideal S1x1024x256 .bf16)
    (v16 : Vec Ideal S1x256x1024 .bf16) (v22 : Vec Ideal S1024x128 .f32) (v30 : Vec Ideal S1024x1024 .f32)
    (p q : Fin 1024) : k0_pay4 (grid0.coords t) v5 v6 v9 v16 v22 v30 (ix2 p q)
      = v30 (ix2 p q) + v22 (ix2 p ⟨(ex t).val, by omega⟩) * ∑ j : Fin 256, Cert.Own.act (fun k => v5 (ix2 p k)) (fun k => v6 (ix3 0 k j)) (fun k => v9 (ix3 0 k j)) * v16 (ix3 0 j q) := by
  have he : (grid0.coords t 1).val = (ex t).val := (idx t).2.2.2.2.2.2
  rw [← Cert.Own.sum_select_lane (ex t) (fun x => v22 (ix2 p x)), ← he]
  unfold Cert.Own.act
  pointwise [k0_pay4]

/-- The arguments as functions of their coordinates. -/
def X (r : Fin 32768) (k : Fin 1024) : EReal := m ((c.tc : Thread nD τ).loc main_arg0) (ix2 r k)
/-- The gain of the norm. -/
def N (k : Fin 1024) : EReal := m ((c.tc : Thread nD τ).loc main_arg1) (ix1 k)
/-- The routing weights. -/
def W (r : Fin 32768) (e : Fin 8) : EReal := m ((c.tc : Thread nD τ).loc main_arg2) (ix2 r e)
/-- The joined gate and linear weights. -/
def Wgu (e : Fin 8) (k : Fin 1024) (f : Fin 7168) : EReal := m ((c.tc : Thread nD τ).loc main_arg3) (ix3 e k f)
/-- The output weights. -/
def Wd (e : Fin 8) (f : Fin 3584) (q : Fin 1024) : EReal := m ((c.tc : Thread nD τ).loc main_arg4) (ix3 e f q)

/-- What hidden unit `f` of expert `e` contributes to column `q` of row `r`. -/
def part (r : Fin 32768) (q : Fin 1024) (e : Fin 8) (f : Fin 3584) : EReal :=
  Cert.Own.act (Cert.Own.rms (X m c r) (N m c)) (fun k => Wgu m c e k (lo f)) (fun k => Wgu m c e k (hi f)) * Wd m c e f q

/-- The routing weight and the contribution at numbers, zero outside their ranges. -/
def Wn (r : Fin 32768) (a : ℕ) : EReal := if h : a < 8 then W m c r ⟨a, h⟩ else 0
/-- The contribution of a hidden unit of an expert, by their numbers, zero outside the range. -/
def partn (r : Fin 32768) (q : Fin 1024) (a l : ℕ) : EReal :=
  if h : a < 8 then if h' : l < 3584 then part m c r q ⟨a, h⟩ ⟨l, h'⟩ else 0 else 0

/-- What step `s` of the 112 steps over a block of rows adds. -/
def stepn (r : Fin 32768) (q : Fin 1024) (s : ℕ) : EReal :=
  Wn m c r (s / 14) * ∑ k : Fin 256, partn m c r q (s / 14) (s % 14 * 256 + k.val)

/-- One step of the body at an entry: what was there plus what the step adds. -/
theorem step_at (v5 : Vec Ideal S1024x1024 .bf16) (v30 : Vec Ideal S1024x1024 .f32) (p q : Fin 1024)
    (h5 : ∀ k, v5 (ix2 p k) = Cert.Own.rms (X m c (row t p)) (N m c) k) :
    k0_pay4 (grid0.coords t) v5 (iblk m c 3 t) (iblk m c 4 t) (iblk m c 5 t) (iblk m c 2 t) v30 (ix2 p q)
      = v30 (ix2 p q) + stepn m c (row t p) q (t.val % 112) := by
  rw [pay4_at, stepn]
  have hl : t.val % 112 % 14 = t.val % 14 := by omega
  congr 2
  · rw [Wn, dif_pos (by omega)]
    exact blk2 m c t p _ (by simp [ex]; omega)
  · refine Finset.sum_congr rfl fun j _ => ?_
    rw [partn, dif_pos (by omega), dif_pos (by omega), part]
    have hf : (⟨t.val % 112 % 14 * 256 + j.val, by omega⟩ : Fin 3584) = hid t j := by
      ext; show t.val % 112 % 14 * 256 + j.val = t.val % 14 * 256 + j.val; omega
    have he : (⟨t.val % 112 / 14, by omega⟩ : Fin 8) = ex t := rfl
    rw [hf, he]
    congr 1
    · congr 1
      · funext k; exact h5 k
      · funext k; exact blk3 m c t k j
      · funext k; exact blk4 m c t k j
    · exact blk5 m c t j q

/-- The first point of a block of rows: the first scratch holds the block's normalised rows, the second the rows plus the
    first step. -/
theorem first (h0 : t.val % 112 = 0) (h1 : ¬t.val % 112 = 111) : (∀ p k, (outsAt0 m c t.val t.isLt).2.1 (ix2 p k) = Cert.Own.rms (X m c (row t p)) (N m c) k)
    ∧ (∀ p q, (outsAt0 m c t.val t.isLt).2.2 (ix2 p q) = X m c (row t p) q + ∑ s ∈ Finset.range (t.val % 112 + 1), stepn m c (row t p) q s)
    ∧ (t.val % 112 = 111 → (outsAt0 m c t.val t.isLt).1 = (outsAt0 m c t.val t.isLt).2.2) := by
  obtain ⟨e0, e1⟩ := step_A m c t h0 h1
  have hh : ∀ p k, k0_pay2 (F := Ideal) (iblk m c 0 t) (iblk m c 1 t) (ix2 p k) = Cert.Own.rms (X m c (row t p)) (N m c) k := fun p k => by
    rw [pay2_at]
    congr 1
    · funext k; exact blk0 m c t p k
    · funext k; exact blk1 m c t k
  refine ⟨fun p k => (congrFun e0 _).trans (hh p k), fun p q => (congrFun e1 _).trans ?_, fun h => absurd h h1⟩
  rw [pay1_at, step_at m c t _ _ p q (hh p), pay3_at, h0, Finset.sum_range_one]
  congr 1
  exact blk0 m c t p q

/-- After every point: the first scratch holds the block's normalised rows, the second the block's rows plus what the
    steps so far have added. -/
theorem state (n : ℕ) : ∀ (h : n < cfg0.N), (∀ p k, (outsAt0 m c n h).2.1 (ix2 p k) = Cert.Own.rms (X m c (row ⟨n, h⟩ p)) (N m c) k)
    ∧ (∀ p q, (outsAt0 m c n h).2.2 (ix2 p q) = X m c (row ⟨n, h⟩ p) q + ∑ s ∈ Finset.range (n % 112 + 1), stepn m c (row ⟨n, h⟩ p) q s)
    ∧ (n % 112 = 111 → (outsAt0 m c n h).1 = (outsAt0 m c n h).2.2) := by
  induction n with
  | zero =>
    intro h
    exact first m c ⟨0, h⟩ (by simp) (by simp)
  | succ n ih =>
    intro h
    by_cases h0 : (n + 1) % 112 = 0
    · exact first m c ⟨n + 1, h⟩ h0 (by simp only; omega)
    obtain ⟨i0, i1, -⟩ := ih (by omega)
    have hr : ∀ p, row ⟨n, by omega⟩ p = row ⟨n + 1, h⟩ p := fun p => by
      ext; show n / 112 * 1024 + p.val = (n + 1) / 112 * 1024 + p.val; omega
    simp only [hr] at i0 i1
    have hn : (n + 1) % 112 = n % 112 + 1 := by omega
    have key : ∀ p q, k0_pay1 (F := Ideal) (k0_pay4 (grid0.coords ⟨n + 1, h⟩) (outsAt0 m c n (by omega)).2.1 (iblk m c 3 ⟨n + 1, h⟩)
        (iblk m c 4 ⟨n + 1, h⟩) (iblk m c 5 ⟨n + 1, h⟩) (iblk m c 2 ⟨n + 1, h⟩) (outsAt0 m c n (by omega)).2.2) (ix2 p q)
        = X m c (row ⟨n + 1, h⟩ p) q + ∑ s ∈ Finset.range ((n + 1) % 112 + 1), stepn m c (row ⟨n + 1, h⟩ p) q s := fun p q => by
      rw [pay1_at, step_at m c ⟨n + 1, h⟩ _ _ p q (i0 p), i1, hn, Finset.sum_range_succ _ (n % 112 + 1), add_assoc]
    by_cases h1 : (n + 1) % 112 = 111
    · obtain ⟨e0, e1, e2⟩ := step_C m c ⟨n + 1, h⟩ h0 h1 _ _ rfl rfl
      refine ⟨fun p k => ?_, fun p q => ?_, fun _ => e2.trans e1.symm⟩
      · exact (congrFun e0 _).trans (i0 p k)
      · exact (congrFun e1 _).trans (key p q)
    · obtain ⟨e0, e1⟩ := step_B m c ⟨n + 1, h⟩ h0 h1 _ _ rfl rfl
      refine ⟨fun p k => ?_, fun p q => ?_, fun h' => absurd h' h1⟩
      · exact (congrFun e0 _).trans (i0 p k)
      · exact (congrFun e1 _).trans (key p q)

/-- What the kernel leaves at row `r` and column `q`. -/
def out (r : Fin 32768) (q : Fin 1024) : EReal := X m c r q + ∑ s ∈ Finset.range 112, stepn m c r q s

/-- The result array holds `out`. -/
theorem final (r : Fin 32768) (q : Fin 1024) : (G6 m c : FVec Ideal S32768x1024 .f32) (ix2 r q) = out m c r q := by
  have hN : cfg0.N = 3584 := N_0
  have hp : pt6Of (ix2 r q) = 112 * (r.val / 1024) + 111 := by
    show 112 * (1 * (r.val / 1024 - 0) + 1 * (q.val / 1024 - 0)) + 111 = _
    omega
  have hlt : pt6Of (ix2 r q) < cfg0.N := by omega
  unfold G6
  rw [dif_pos hlt]
  have hw := outsAt0_sweep m c (pt6Of (ix2 r q)) hlt
  obtain ⟨-, s1, s2⟩ := state m c (pt6Of (ix2 r q)) hlt
  rw [← hw, s2 (by omega)]
  have hl : loc6Of (ix2 r q) = ix2 ⟨r.val % 1024, by omega⟩ q := by
    funext a
    match a with
    | 0 => rfl
    | 1 => exact Fin.ext (Nat.mod_eq_of_lt q.isLt)
  have hrow : row ⟨pt6Of (ix2 r q), hlt⟩ ⟨r.val % 1024, by omega⟩ = r := by
    ext; show pt6Of (ix2 r q) / 112 * 1024 + r.val % 1024 = r.val; omega
  have hm : pt6Of (ix2 r q) % 112 + 1 = 112 := by omega
  rw [hl, s1, hrow, hm]
  rfl

/-- With the routing weights between zero and one it is the row's entry plus the weighted sum of the experts' outputs. -/
theorem out_eq (hw : ∀ r e, 0 ≤ W m c r e ∧ W m c r e ≠ ⊤) (r : Fin 32768) (q : Fin 1024) :
    out m c r q = X m c r q + ∑ e : Fin 8, W m c r e * ∑ f : Fin 3584, part m c r q e f := by
  have h := Cert.Own.sum_steps 8 14 256 112 3584 rfl rfl (Wn m c r) ?_ ?_ (partn m c r q)
  · refine congrArg (X m c r q + ·) (h.trans ?_)
    refine Finset.sum_congr rfl fun e _ => ?_
    rw [Wn, dif_pos e.isLt]
    refine congrArg (W m c r e * ·) (Finset.sum_congr rfl fun f _ => ?_)
    rw [partn, dif_pos e.isLt, dif_pos f.isLt]
  · intro a
    unfold Wn
    split
    · exact (hw _ _).1
    · exact le_refl _
  · intro a
    unfold Wn
    split
    · exact (hw _ _).2
    · exact EReal.zero_ne_top

end Cert.MoeIdeal.Own
-- ==== Proof.RefMoe.lean ====
module

public import proofs.«01_k».proof.Proof.Gen.RefMoeIdeal.Run
public import proofs.«01_k».proof.Proof.Sums

@[expose] public section

set_option maxRecDepth 16384

noncomputable section

open Idealize.ShloMosaic Idealize.ShloMosaic.TcCoe Idealize.SL.Sem

namespace Cert.RefMoeIdeal.Own

open Cert.RefMoeIdeal Cert.RefMoeIdeal.Gen

variable (m : (ℓ : Loc nD τ sig) → Buf (Elt Ideal) ℓ) (c : Dev nD)

/-- The arguments as functions of their coordinates. -/
def X (r : Fin 32768) (k : Fin 1024) : EReal := m ((c.tc : Thread nD τ).loc main_arg0) (ix2 r k)
/-- The gain of the norm. -/
def N (k : Fin 1024) : EReal := m ((c.tc : Thread nD τ).loc main_arg1) (ix1 k)
/-- The routing weights. -/
def W (r : Fin 32768) (e : Fin 8) : EReal := m ((c.tc : Thread nD τ).loc main_arg2) (ix2 r e)
/-- The joined gate and linear weights. -/
def Wgu (e : Fin 8) (k : Fin 1024) (f : Fin 7168) : EReal := m ((c.tc : Thread nD τ).loc main_arg3) (ix3 e k f)
/-- The output weights. -/
def Wd (e : Fin 8) (f : Fin 3584) (q : Fin 1024) : EReal := m ((c.tc : Thread nD τ).loc main_arg4) (ix3 e f q)

/-- What the reference leaves at row `r` and column `q`: the row's entry plus, over the experts, the routing weight
    times the expert's output. -/
def spec (r : Fin 32768) (q : Fin 1024) : EReal :=
  X m c r q + ∑ e : Fin 8, W m c r e * ∑ f : Fin 3584, Cert.Own.act (Cert.Own.rms (X m c r) (N m c))
    (fun k => Wgu m c e k ⟨f.val, by omega⟩) (fun k => Wgu m c e k ⟨3584 + f.val, by omega⟩) * Wd m c e f q

/-- The reference's run ends with the result at `spec` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = (fun i => spec m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans ?_, (h c).2⟩) (Cert.RefMoeIdeal.Value.run m ρ)
  funext i
  idx_vars i
  unfold spec X N W Wgu Wd
  simp only [Cert.Own.act_swap]
  unfold Cert.Own.rms
  pointwise

/-- The reference's run leaves its arguments as they were and every counter at zero: it has no counters. -/
theorem quiescent (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2, sem_eq_zero_of_no_sems (by decide) r.2⟩) (run m ρ)

end Cert.RefMoeIdeal.Own
-- ==== Proof.MoeClaim.lean ====
module

public import proofs.«01_k».proof.Defs
public import proofs.«01_k».proof.Proof.MoeValue
public import proofs.«01_k».proof.Proof.RefMoe
public import proofs.«01_k».proof.Proof.Gen.Pre_routing_weights

@[expose] public section

set_option maxRecDepth 16384

noncomputable section

open Idealize.ShloMosaic Idealize.ShloMosaic.TcCoe Idealize.SL.Sem

namespace Cert.Own

/-- What the precondition says: every routing weight is finite and not negative. -/
theorem weights_of_pre [Cert.Pre_routing_weights.Facts] (m : (ℓ : Loc Cert.MoeIdeal.nD Cert.MoeIdeal.τ Cert.MoeIdeal.sig) → Buf (Elt Ideal) ℓ)
    (h : Pre_MoeIdeal_routing_weights m) (c : Dev Cert.MoeIdeal.nD) (r : Fin 32768) (e : Fin 8) :
    0 ≤ Cert.MoeIdeal.Own.W m c r e ∧ Cert.MoeIdeal.Own.W m c r e ≠ ⊤ := by
  have := congrFun (h c) (ix2 r e)
  unfold Cert.Pre_routing_weights.fn at this
  pointwise at this
  have hb : ∀ a b : Bool, IntOp.andi (BitVec.ofBool a) (BitVec.ofBool b) = 1#1 → a = true ∧ b = true := by decide
  obtain ⟨h0, h1⟩ := hb _ _ this
  exact ⟨of_decide_eq_true h0, (lt_top_of_lt (of_decide_eq_true h1)).ne⟩

/-- The routed experts: kernel and reference leave the same result. -/
theorem moe [Cert.MoeIdeal.Facts] [Cert.RefMoeIdeal.Facts] [Cert.Pre_routing_weights.Facts] : algebraic_MoeIdeal_RefMoeIdeal_pre_routing_weights := by
  intro m g m' g' hp ha
  refine ⟨fun c => Cert.MoeIdeal.Value.G6 m c, Cert.MoeIdeal.Value.run m g, ?_⟩
  refine (θ_run _ _ _).mono (fun r h c => ⟨(h c).1.trans ?_, (h c).2⟩) (Cert.RefMoeIdeal.Own.run m' g')
  obtain ⟨h0, h1, h2, h3, h4⟩ := ha c
  have e0 : Cert.RefMoeIdeal.Own.X m' c = Cert.MoeIdeal.Own.X m c := by funext r k; exact congrFun h0 _
  have e1 : Cert.RefMoeIdeal.Own.N m' c = Cert.MoeIdeal.Own.N m c := by funext k; exact congrFun h1 _
  have e2 : Cert.RefMoeIdeal.Own.W m' c = Cert.MoeIdeal.Own.W m c := by funext r e; exact congrFun h2 _
  have e3 : Cert.RefMoeIdeal.Own.Wgu m' c = Cert.MoeIdeal.Own.Wgu m c := by funext e k f; exact congrFun h3 _
  have e4 : Cert.RefMoeIdeal.Own.Wd m' c = Cert.MoeIdeal.Own.Wd m c := by funext e f q; exact congrFun h4 _
  have key : ∀ r q, Cert.RefMoeIdeal.Own.spec m' c r q = (Cert.MoeIdeal.Value.G6 m c : FVec Ideal Cert.MoeIdeal.S32768x1024 .f32) (ix2 r q) := by
    intro r q
    rw [Cert.MoeIdeal.Own.final, Cert.MoeIdeal.Own.out_eq m c (weights_of_pre m hp c)]
    unfold Cert.RefMoeIdeal.Own.spec
    rw [e0, e1, e2, e3, e4]
    rfl
  funext i
  exact (key (i 0) (i 1)).trans (congrArg _ (eq_ix2 i).symm)

end Cert.Own
-- ==== Proof.FfnBlocks.lean ====
module

public import proofs.«01_k».proof.Proof.Gen.FfnIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnIdeal.Own

open Cert.FfnIdeal Cert.FfnIdeal.Gen Cert.FfnIdeal.Value

/-- Which block every window shows at every point. -/
theorem idx : ∀ t : Fin cfg0.N, win0_0.index t = ![t.val / 11, 0] ∧ win0_1.index t = ![0, 0]
    ∧ win0_3.index t = ![0, 0, t.val % 11] ∧ win0_4.index t = ![0, 0, t.val % 11 + 11]
    ∧ win0_5.index t = ![0, t.val % 11, 0] :=
  (by decide +kernel : ∀ t : Fin grid0.N, _)

variable (m : (ℓ : Loc nD τ sig) → Buf (Elt Ideal) ℓ) (c : Dev nD) (t : Fin cfg0.N)

/-- The row of the arrays which row `p` of point `t`'s block is. -/
def row (t : Fin cfg0.N) (p : Fin 1024) : Fin 32768 :=
  ⟨t.val / 11 * 1024 + p.val, by have h := lt_of_lt_of_eq t.isLt (show cfg0.N = 352 from N_0); have := p.isLt; omega⟩

/-- The hidden unit which column `j` of point `t`'s blocks is. -/
def hid (t : Fin cfg0.N) (j : Fin 256) : Fin 2816 := ⟨t.val % 11 * 256 + j.val, by omega⟩

/-- The columns of the first weight that belong to hidden unit `f`: the one of the gate and the one of the value. -/
def lo (f : Fin 2816) : Fin 5632 := ⟨f.val, by omega⟩
/-- A hidden unit's column among the second half of the joined weights. -/
def hi (f : Fin 2816) : Fin 5632 := ⟨2816 + f.val, by omega⟩

/-- The blocks the body reads, as entries of the arguments. -/
theorem blk0 (p k : Fin 1024) : iblk m c 0 t (ix2 p k) = m ((c.tc : Thread nD τ).loc main_arg0) (ix2 (row t p) k) := by
  blk_ext [iblk, V, idx t, row]
/-- The block of the gain which the body reads. -/
theorem blk1 (k : Fin 1024) : iblk m c 1 t (ix2 0 k) = m ((c.tc : Thread nD τ).loc main_arg1) (ix1 k) := by
  blk_simp [iblk, idx t]
  entry_read
  pointwise
  blk_ext [idx t]
/-- The block of gate weights which the body reads. -/
theorem blk3 (k : Fin 1024) (j : Fin 256) : iblk m c 3 t (ix3 0 k j) = m ((c.tc : Thread nD τ).loc main_arg2) (ix2 k (lo (hid t j))) := by
  blk_simp [iblk, idx t]
  entry_read
  pointwise
  blk_ext [idx t, lo, hid]
/-- The block of linear weights which the body reads. -/
theorem blk4 (k : Fin 1024) (j : Fin 256) : iblk m c 4 t (ix3 0 k j) = m ((c.tc : Thread nD τ).loc main_arg2) (ix2 k (hi (hid t j))) := by
  blk_simp [iblk, idx t]
  entry_read
  pointwise
  blk_ext [idx t, hi, hid]
/-- The block of output weights which the body reads. -/
theorem blk5 (j : Fin 256) (q : Fin 1024) : iblk m c 5 t (ix3 0 j q) = m ((c.tc : Thread nD τ).loc main_arg3) (ix2 (hid t j) q) := by
  blk_simp [iblk, idx t]
  entry_read
  pointwise
  blk_ext [idx t, hid]

end Cert.FfnIdeal.Own
-- ==== Proof.FfnValue.lean ====
module

public import proofs.«01_k».proof.Proof.FfnBlocks
public import proofs.«01_k».proof.Proof.Sums
public import Idealize.ShloMosaic.Lib.Pipeline.ReadBack

@[expose] public section

set_option maxRecDepth 16384

noncomputable section

open Idealize.ShloMosaic Idealize.ShloMosaic.TcCoe Idealize.SL.Sem

namespace Cert.FfnIdeal.Own

open Cert.FfnIdeal Cert.FfnIdeal.Gen Cert.FfnIdeal.Value

variable (m : (ℓ : Loc nD τ sig) → Buf (Elt Ideal) ℓ) (c : Dev nD) (t : Fin cfg0.N)

/-- The body's results at a first point of a row block. -/
theorem step_A (h0 : t.val % 11 = 0) (h1 : ¬t.val % 11 = 10) :
    (outsAt0 m c t.val t.isLt).2.1 = k0_pay1 (iblk m c 0 t) (iblk m c 1 t)
    ∧ (outsAt0 m c t.val t.isLt).2.2 = k0_pay3 (k0_pay1 (iblk m c 0 t) (iblk m c 1 t)) (iblk m c 3 t) (iblk m c 4 t) (iblk m c 5 t) (k0_pay2 (iblk m c 0 t)) := by
  rw [outsAt0_A m c t h0 h1]
  constructor <;> frame_out

/-- The body's results at a point inside a row block's run. -/
theorem step_B (h0 : ¬t.val % 11 = 0) (h1 : ¬t.val % 11 = 10) (xs0 : Vec Ideal S1024x1024 .bf16) (xs1 : Vec Ideal S1024x1024 .f32)
    (e0 : (outsAt0 m c (t.val - 1) (Nat.lt_of_le_of_lt (Nat.sub_le _ _) t.isLt)).2.1 = xs0)
    (e1 : (outsAt0 m c (t.val - 1) (Nat.lt_of_le_of_lt (Nat.sub_le _ _) t.isLt)).2.2 = xs1) :
    (outsAt0 m c t.val t.isLt).2.1 = xs0
    ∧ (outsAt0 m c t.val t.isLt).2.2 = k0_pay3 xs0 (iblk m c 3 t) (iblk m c 4 t) (iblk m c 5 t) xs1 := by
  rw [outsAt0_B m c t h0 h1, e0, e1]
  refine ⟨rfl, ?_⟩
  frame_out
  simp only [read_unread_whole]

/-- The body's results at a last point of a row block. -/
theorem step_C (h0 : ¬t.val % 11 = 0) (h1 : t.val % 11 = 10) (xs0 : Vec Ideal S1024x1024 .bf16) (xs1 : Vec Ideal S1024x1024 .f32)
    (e0 : (outsAt0 m c (t.val - 1) (Nat.lt_of_le_of_lt (Nat.sub_le _ _) t.isLt)).2.1 = xs0)
    (e1 : (outsAt0 m c (t.val - 1) (Nat.lt_of_le_of_lt (Nat.sub_le _ _) t.isLt)).2.2 = xs1) :
    (outsAt0 m c t.val t.isLt).2.1 = xs0
    ∧ (outsAt0 m c t.val t.isLt).2.2 = k0_pay3 xs0 (iblk m c 3 t) (iblk m c 4 t) (iblk m c 5 t) xs1
    ∧ (outsAt0 m c t.val t.isLt).1 = k0_pay3 xs0 (iblk m c 3 t) (iblk m c 4 t) (iblk m c 5 t) xs1 := by
  rw [outsAt0_C m c t h0 h1, e0, e1]
  refine ⟨rfl, ?_, ?_⟩ <;> frame_out <;> simp only [read_unread_whole]

/-- A block copied unchanged, at an entry. -/
theorem pay2_at (v : Vec Ideal S1024x1024 .f32) (p q : Fin 1024) : k0_pay2 v (ix2 p q) = v (ix2 p q) := by
  pointwise [k0_pay2]

/-- The normed rows at an entry. -/
theorem pay1_at (x : Vec Ideal S1024x1024 .f32) (g : Vec Ideal S1x1024 .f32) (p q : Fin 1024) :
    k0_pay1 x g (ix2 p q) = Cert.Own.rms (fun k => x (ix2 p k)) (fun k => g (ix2 0 k)) q := by
  unfold Cert.Own.rms
  pointwise [k0_pay1]

/-- The body's step at an entry: the running sum plus the products over the chunk's hidden units. -/
theorem pay3_at (v5 : Vec Ideal S1024x1024 .bf16) (v6 v9 : Vec Ideal S1x1024x256 .bf16)
    (v16 : Vec Ideal S1x256x1024 .bf16) (v19 : Vec Ideal S1024x1024 .f32)
    (p q : Fin 1024) : k0_pay3 v5 v6 v9 v16 v19 (ix2 p q)
      = v19 (ix2 p q) + ∑ j : Fin 256, Cert.Own.act (fun k => v5 (ix2 p k)) (fun k => v6 (ix3 0 k j)) (fun k => v9 (ix3 0 k j)) * v16 (ix3 0 j q) := by
  unfold Cert.Own.act
  pointwise [k0_pay3]

/-- The arguments as functions of their coordinates. -/
def X (r : Fin 32768) (k : Fin 1024) : EReal := m ((c.tc : Thread nD τ).loc main_arg0) (ix2 r k)
/-- The gain of the norm. -/
def N (k : Fin 1024) : EReal := m ((c.tc : Thread nD τ).loc main_arg1) (ix1 k)
/-- The joined gate and linear weights. -/
def Wgu (k : Fin 1024) (f : Fin 5632) : EReal := m ((c.tc : Thread nD τ).loc main_arg2) (ix2 k f)
/-- The output weights. -/
def Wd (f : Fin 2816) (q : Fin 1024) : EReal := m ((c.tc : Thread nD τ).loc main_arg3) (ix2 f q)

/-- What hidden unit `f` contributes to column `q` of row `r`. -/
def part (r : Fin 32768) (q : Fin 1024) (f : Fin 2816) : EReal :=
  Cert.Own.act (Cert.Own.rms (X m c r) (N m c)) (fun k => Wgu m c k (lo f)) (fun k => Wgu m c k (hi f)) * Wd m c f q

/-- The contribution at a number, zero outside the range. -/
def partn (r : Fin 32768) (q : Fin 1024) (l : ℕ) : EReal := if h : l < 2816 then part m c r q ⟨l, h⟩ else 0

/-- What step `s` of the 11 steps over a block of rows adds. -/
def stepn (r : Fin 32768) (q : Fin 1024) (s : ℕ) : EReal := ∑ k : Fin 256, partn m c r q (s * 256 + k.val)

/-- One step of the body at an entry: what was there plus what the step adds. -/
theorem step_at (v5 : Vec Ideal S1024x1024 .bf16) (v19 : Vec Ideal S1024x1024 .f32) (p q : Fin 1024)
    (h5 : ∀ k, v5 (ix2 p k) = Cert.Own.rms (X m c (row t p)) (N m c) k) :
    k0_pay3 v5 (iblk m c 3 t) (iblk m c 4 t) (iblk m c 5 t) v19 (ix2 p q)
      = v19 (ix2 p q) + stepn m c (row t p) q (t.val % 11) := by
  rw [pay3_at, stepn]
  congr 1
  refine Finset.sum_congr rfl fun j _ => ?_
  rw [partn, dif_pos (by omega), part]
  have hf : (⟨t.val % 11 * 256 + j.val, by omega⟩ : Fin 2816) = hid t j := rfl
  rw [hf]
  congr 1
  · congr 1
    · funext k; exact h5 k
    · funext k; exact blk3 m c t k j
    · funext k; exact blk4 m c t k j
  · exact blk5 m c t j q

/-- The first point of a block of rows: the first scratch holds the block's normalised rows, the second the rows plus the
    first step. -/
theorem first (h0 : t.val % 11 = 0) (h1 : ¬t.val % 11 = 10) : (∀ p k, (outsAt0 m c t.val t.isLt).2.1 (ix2 p k) = Cert.Own.rms (X m c (row t p)) (N m c) k)
    ∧ (∀ p q, (outsAt0 m c t.val t.isLt).2.2 (ix2 p q) = X m c (row t p) q + ∑ s ∈ Finset.range (t.val % 11 + 1), stepn m c (row t p) q s)
    ∧ (t.val % 11 = 10 → (outsAt0 m c t.val t.isLt).1 = (outsAt0 m c t.val t.isLt).2.2) := by
  obtain ⟨e0, e1⟩ := step_A m c t h0 h1
  have hh : ∀ p k, k0_pay1 (F := Ideal) (iblk m c 0 t) (iblk m c 1 t) (ix2 p k) = Cert.Own.rms (X m c (row t p)) (N m c) k := fun p k => by
    rw [pay1_at]
    congr 1
    · funext k; exact blk0 m c t p k
    · funext k; exact blk1 m c t k
  refine ⟨fun p k => (congrFun e0 _).trans (hh p k), fun p q => (congrFun e1 _).trans ?_, fun h => absurd h h1⟩
  rw [step_at m c t _ _ p q (hh p), pay2_at, h0, Finset.sum_range_one]
  congr 1
  exact blk0 m c t p q

/-- After every point: the first scratch holds the block's normalised rows, the second the block's rows plus what the
    steps so far have added. -/
theorem state (n : ℕ) : ∀ (h : n < cfg0.N), (∀ p k, (outsAt0 m c n h).2.1 (ix2 p k) = Cert.Own.rms (X m c (row ⟨n, h⟩ p)) (N m c) k)
    ∧ (∀ p q, (outsAt0 m c n h).2.2 (ix2 p q) = X m c (row ⟨n, h⟩ p) q + ∑ s ∈ Finset.range (n % 11 + 1), stepn m c (row ⟨n, h⟩ p) q s)
    ∧ (n % 11 = 10 → (outsAt0 m c n h).1 = (outsAt0 m c n h).2.2) := by
  induction n with
  | zero =>
    intro h
    exact first m c ⟨0, h⟩ (by simp) (by simp)
  | succ n ih =>
    intro h
    by_cases h0 : (n + 1) % 11 = 0
    · exact first m c ⟨n + 1, h⟩ h0 (by simp only; omega)
    obtain ⟨i0, i1, -⟩ := ih (by omega)
    have hr : ∀ p, row ⟨n, by omega⟩ p = row ⟨n + 1, h⟩ p := fun p => by
      ext; show n / 11 * 1024 + p.val = (n + 1) / 11 * 1024 + p.val; omega
    simp only [hr] at i0 i1
    have hn : (n + 1) % 11 = n % 11 + 1 := by omega
    have key : ∀ p q, k0_pay3 (F := Ideal) (outsAt0 m c n (by omega)).2.1 (iblk m c 3 ⟨n + 1, h⟩)
        (iblk m c 4 ⟨n + 1, h⟩) (iblk m c 5 ⟨n + 1, h⟩) (outsAt0 m c n (by omega)).2.2 (ix2 p q)
        = X m c (row ⟨n + 1, h⟩ p) q + ∑ s ∈ Finset.range ((n + 1) % 11 + 1), stepn m c (row ⟨n + 1, h⟩ p) q s := fun p q => by
      rw [step_at m c ⟨n + 1, h⟩ _ _ p q (i0 p), i1, hn, Finset.sum_range_succ _ (n % 11 + 1), add_assoc]
    by_cases h1 : (n + 1) % 11 = 10
    · obtain ⟨e0, e1, e2⟩ := step_C m c ⟨n + 1, h⟩ h0 h1 _ _ rfl rfl
      refine ⟨fun p k => ?_, fun p q => ?_, fun _ => e2.trans e1.symm⟩
      · exact (congrFun e0 _).trans (i0 p k)
      · exact (congrFun e1 _).trans (key p q)
    · obtain ⟨e0, e1⟩ := step_B m c ⟨n + 1, h⟩ h0 h1 _ _ rfl rfl
      refine ⟨fun p k => ?_, fun p q => ?_, fun h' => absurd h' h1⟩
      · exact (congrFun e0 _).trans (i0 p k)
      · exact (congrFun e1 _).trans (key p q)

/-- What the kernel leaves at row `r` and column `q`. -/
def out (r : Fin 32768) (q : Fin 1024) : EReal := X m c r q + ∑ s ∈ Finset.range 11, stepn m c r q s

/-- The result array holds `out`. -/
theorem final (r : Fin 32768) (q : Fin 1024) : (G6 m c : FVec Ideal S32768x1024 .f32) (ix2 r q) = out m c r q := by
  have hN : cfg0.N = 352 := N_0
  have hp : pt6Of (ix2 r q) = 11 * (r.val / 1024) + 10 := by
    show 11 * (1 * (r.val / 1024 - 0) + 1 * (q.val / 1024 - 0)) + 10 = _
    omega
  have hlt : pt6Of (ix2 r q) < cfg0.N := by omega
  unfold G6
  rw [dif_pos hlt]
  have hw := outsAt0_sweep m c (pt6Of (ix2 r q)) hlt
  obtain ⟨-, s1, s2⟩ := state m c (pt6Of (ix2 r q)) hlt
  rw [← hw, s2 (by omega)]
  have hl : loc6Of (ix2 r q) = ix2 ⟨r.val % 1024, by omega⟩ q := by
    funext a
    match a with
    | 0 => rfl
    | 1 => exact Fin.ext (Nat.mod_eq_of_lt q.isLt)
  have hrow : row ⟨pt6Of (ix2 r q), hlt⟩ ⟨r.val % 1024, by omega⟩ = r := by
    ext; show pt6Of (ix2 r q) / 11 * 1024 + r.val % 1024 = r.val; omega
  have hm : pt6Of (ix2 r q) % 11 + 1 = 11 := by omega
  rw [hl, s1, hrow, hm]
  rfl

/-- It is the row's entry plus the sum over all hidden units. -/
theorem out_eq (r : Fin 32768) (q : Fin 1024) :
    out m c r q = X m c r q + ∑ f : Fin 2816, part m c r q f := by
  unfold out stepn
  refine congrArg (X m c r q + ·) ((Cert.Own.sum_chunks 11 256 2816 rfl (partn m c r q)).trans ?_)
  refine Finset.sum_congr rfl fun f _ => ?_
  rw [partn, dif_pos f.isLt]

end Cert.FfnIdeal.Own
-- ==== Proof.RefFfn.lean ====
module

public import proofs.«01_k».proof.Proof.Gen.RefFfnIdeal.Run
public import proofs.«01_k».proof.Proof.Sums

@[expose] public section

set_option maxRecDepth 16384

noncomputable section

open Idealize.ShloMosaic Idealize.ShloMosaic.TcCoe Idealize.SL.Sem

namespace Cert.RefFfnIdeal.Own

open Cert.RefFfnIdeal Cert.RefFfnIdeal.Gen

variable (m : (ℓ : Loc nD τ sig) → Buf (Elt Ideal) ℓ) (c : Dev nD)

/-- The arguments as functions of their coordinates. -/
def X (r : Fin 32768) (k : Fin 1024) : EReal := m ((c.tc : Thread nD τ).loc main_arg0) (ix2 r k)
/-- The gain of the norm. -/
def N (k : Fin 1024) : EReal := m ((c.tc : Thread nD τ).loc main_arg1) (ix1 k)
/-- The joined gate and linear weights. -/
def Wgu (k : Fin 1024) (f : Fin 5632) : EReal := m ((c.tc : Thread nD τ).loc main_arg2) (ix2 k f)
/-- The output weights. -/
def Wd (f : Fin 2816) (q : Fin 1024) : EReal := m ((c.tc : Thread nD τ).loc main_arg3) (ix2 f q)

/-- What the reference leaves at row `r` and column `q`: the row's entry plus the sum over the hidden units. -/
def spec (r : Fin 32768) (q : Fin 1024) : EReal :=
  X m c r q + ∑ f : Fin 2816, Cert.Own.act (Cert.Own.rms (X m c r) (N m c))
    (fun k => Wgu m c k ⟨f.val, by omega⟩) (fun k => Wgu m c k ⟨2816 + f.val, by omega⟩) * Wd m c f q

/-- The reference's run ends with the result at `spec` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = (fun i => spec m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2⟩) (Cert.RefFfnIdeal.Value.run m ρ)
  funext i
  idx_vars i
  unfold spec X N Wgu Wd
  unfold Cert.Own.act Ideal.logistic Cert.Own.rms
  pointwise

/-- The reference's run leaves its arguments as they were and every counter at zero: it has no counters. -/
theorem quiescent (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩) (run m ρ)

end Cert.RefFfnIdeal.Own
-- ==== Proof.FfnClaim.lean ====
module

public import proofs.«01_k».proof.Defs
public import proofs.«01_k».proof.Proof.FfnValue
public import proofs.«01_k».proof.Proof.RefFfn

@[expose] public section

set_option maxRecDepth 16384

noncomputable section

open Idealize.ShloMosaic Idealize.ShloMosaic.TcCoe Idealize.SL.Sem

namespace Cert.Own

/-- The dense feed-forward layer: kernel and reference leave the same result. -/
theorem ffn [Cert.FfnIdeal.Facts] [Cert.RefFfnIdeal.Facts] : algebraic_FfnIdeal_RefFfnIdeal := by
  intro m g m' g' _ ha
  refine ⟨fun c => Cert.FfnIdeal.Value.G6 m c, Cert.FfnIdeal.Value.run m g, ?_⟩
  refine (θ_run _ _ _).mono (fun r h c => ⟨(h c).1.trans ?_, (h c).2⟩) (Cert.RefFfnIdeal.Own.run m' g')
  obtain ⟨h0, h1, h2, h3⟩ := ha c
  have e0 : Cert.RefFfnIdeal.Own.X m' c = Cert.FfnIdeal.Own.X m c := by funext r k; exact congrFun h0 _
  have e1 : Cert.RefFfnIdeal.Own.N m' c = Cert.FfnIdeal.Own.N m c := by funext k; exact congrFun h1 _
  have e3 : Cert.RefFfnIdeal.Own.Wgu m' c = Cert.FfnIdeal.Own.Wgu m c := by funext k f; exact congrFun h2 _
  have e4 : Cert.RefFfnIdeal.Own.Wd m' c = Cert.FfnIdeal.Own.Wd m c := by funext f q; exact congrFun h3 _
  have key : ∀ r q, Cert.RefFfnIdeal.Own.spec m' c r q = (Cert.FfnIdeal.Value.G6 m c : FVec Ideal Cert.FfnIdeal.S32768x1024 .f32) (ix2 r q) := by
    intro r q
    rw [Cert.FfnIdeal.Own.final, Cert.FfnIdeal.Own.out_eq]
    unfold Cert.RefFfnIdeal.Own.spec
    rw [e0, e1, e3, e4]
    rfl
  funext i
  exact (key (i 0) (i 1)).trans (congrArg _ (eq_ix2 i).symm)

end Cert.Own
-- ==== Proof.ProjValue.lean ====
module

public import proofs.«01_k».proof.Proof.Gen.ProjIdeal.Value
public import proofs.«01_k».proof.Proof.Sums
public import Idealize.ShloMosaic.Lib.Pipeline.ReadBack

@[expose] public section

set_option maxRecDepth 16384

noncomputable section

open Idealize.ShloMosaic Idealize.ShloMosaic.TcCoe Idealize.SL.Sem

namespace Cert.ProjIdeal.Own

open Cert.ProjIdeal Cert.ProjIdeal.Gen Cert.ProjIdeal.Value

/-- Which block every input window shows at every point. -/
theorem idx : ∀ t : Fin cfg0.N, win0_0.index t = ![t.val / 7, 0] ∧ win0_1.index t = ![0, 0] ∧ win0_2.index t = ![0, t.val % 7] :=
  (by decide +kernel : ∀ t : Fin grid0.N, _)

variable (m : (ℓ : Loc nD τ sig) → Buf (Elt Ideal) ℓ) (c : Dev nD) (t : Fin cfg0.N)

/-- The row of the arrays which row `p` of point `t`'s block is. -/
def row (t : Fin cfg0.N) (p : Fin 1024) : Fin 32768 :=
  ⟨t.val / 7 * 1024 + p.val, by have h := lt_of_lt_of_eq t.isLt (show cfg0.N = 224 from N_0); have := p.isLt; omega⟩

/-- The column of the result which column `j` of point `t`'s block is. -/
def col (t : Fin cfg0.N) (j : Fin 768) : Fin 5376 := ⟨t.val % 7 * 768 + j.val, by omega⟩

/-- The input rows. -/
def X (r : Fin 32768) (k : Fin 1024) : EReal := m ((c.tc : Thread nD τ).loc main_arg0) (ix2 r k)
/-- The gain of the norm. -/
def N (k : Fin 1024) : EReal := m ((c.tc : Thread nD τ).loc main_arg1) (ix1 k)
/-- The weights. -/
def W (k : Fin 1024) (q : Fin 5376) : EReal := m ((c.tc : Thread nD τ).loc main_arg2) (ix2 k q)

/-- The block of rows which the body reads. -/
theorem blk0 (p k : Fin 1024) : iblk m c 0 t (ix2 p k) = X m c (row t p) k := by
  unfold X
  blk_ext [iblk, V, idx t, row]

/-- The gain which the body reads. -/
theorem blk1 (k : Fin 1024) : iblk m c 1 t (ix2 0 k) = N m c k := by
  unfold N
  blk_simp [iblk, idx t]
  entry_read
  pointwise
  blk_ext [idx t]

/-- The block of weights which the body reads. -/
theorem blk2 (k : Fin 1024) (j : Fin 768) : iblk m c 2 t (ix2 k j) = W m c k (col t j) := by
  unfold W
  blk_simp [iblk, idx t]
  entry_read
  pointwise
  blk_ext [idx t, col]

/-- The first point over a block of rows leaves the normalised rows in the scratch and the product in the output. -/
theorem step_A (h0 : t.val % 7 = 0) : (outsAt0 m c t.val t.isLt).2 = k0_pay1 (iblk m c 0 t) (iblk m c 1 t)
    ∧ (outsAt0 m c t.val t.isLt).1 = k0_pay2 (k0_pay1 (iblk m c 0 t) (iblk m c 1 t)) (iblk m c 2 t) := by
  rw [outsAt0_A m c t h0]
  constructor <;> frame_out

/-- Every later point keeps the scratch and leaves its product with the point's weights. -/
theorem step_B (h0 : ¬t.val % 7 = 0) (xs0 : Vec Ideal S1024x1024 .bf16)
    (e0 : (outsAt0 m c (t.val - 1) (Nat.lt_of_le_of_lt (Nat.sub_le _ _) t.isLt)).2 = xs0) :
    (outsAt0 m c t.val t.isLt).2 = xs0 ∧ (outsAt0 m c t.val t.isLt).1 = k0_pay2 xs0 (iblk m c 2 t) := by
  rw [outsAt0_B m c t h0, e0]
  refine ⟨rfl, ?_⟩
  frame_out
  simp only [read_unread_whole]

/-- The norm of the body at an entry. -/
theorem pay1_at (x : Vec Ideal S1024x1024 .f32) (g : Vec Ideal S1x1024 .f32) (p q : Fin 1024) :
    k0_pay1 x g (ix2 p q) = Cert.Own.rms (fun k => x (ix2 p k)) (fun k => g (ix2 0 k)) q := by
  unfold Cert.Own.rms
  pointwise [k0_pay1]

/-- The product of the body at an entry. -/
theorem pay2_at (h : Vec Ideal S1024x1024 .bf16) (w : Vec Ideal S1024x768 .bf16) (p : Fin 1024) (j : Fin 768) :
    k0_pay2 h w (ix2 p j) = ∑ k : Fin 1024, h (ix2 p k) * w (ix2 k j) := by
  pointwise [k0_pay2]

/-- What the kernel leaves at row `r` and column `q`: the product of the normalised row with the column. -/
def out (r : Fin 32768) (q : Fin 5376) : EReal := ∑ k : Fin 1024, Cert.Own.rms (X m c r) (N m c) k * W m c k q

/-- The body's product over normalised rows is `out`. -/
theorem out_at (h : Vec Ideal S1024x1024 .bf16) (hh : ∀ p k, h (ix2 p k) = Cert.Own.rms (X m c (row t p)) (N m c) k) (p : Fin 1024) (j : Fin 768) :
    k0_pay2 h (iblk m c 2 t) (ix2 p j) = out m c (row t p) (col t j) := by
  rw [pay2_at, out]
  exact Finset.sum_congr rfl fun k _ => congrArg₂ _ (hh p k) (blk2 m c t k j)

/-- The first point over a block of rows: the scratch holds the normalised rows, the output block holds `out`. -/
theorem first (h0 : t.val % 7 = 0) : (∀ p k, (outsAt0 m c t.val t.isLt).2 (ix2 p k) = Cert.Own.rms (X m c (row t p)) (N m c) k)
    ∧ ∀ p j, (outsAt0 m c t.val t.isLt).1 (ix2 p j) = out m c (row t p) (col t j) := by
  obtain ⟨e0, e1⟩ := step_A m c t h0
  have hh : ∀ p k, k0_pay1 (F := Ideal) (iblk m c 0 t) (iblk m c 1 t) (ix2 p k) = Cert.Own.rms (X m c (row t p)) (N m c) k := fun p k => by
    rw [pay1_at]
    congr 1
    · funext k; exact blk0 m c t p k
    · funext k; exact blk1 m c t k
  exact ⟨fun p k => (congrFun e0 _).trans (hh p k), fun p j => (congrFun e1 _).trans (out_at m c t _ hh p j)⟩

/-- After every point the scratch holds the normalised rows of the point's block, and the output block holds `out`. -/
theorem state (n : ℕ) : ∀ (h : n < cfg0.N), (∀ p k, (outsAt0 m c n h).2 (ix2 p k) = Cert.Own.rms (X m c (row ⟨n, h⟩ p)) (N m c) k)
    ∧ ∀ p j, (outsAt0 m c n h).1 (ix2 p j) = out m c (row ⟨n, h⟩ p) (col ⟨n, h⟩ j) := by
  induction n with
  | zero => exact fun h => first m c ⟨0, h⟩ (by simp)
  | succ n ih =>
    intro h
    by_cases h0 : (n + 1) % 7 = 0
    · exact first m c ⟨n + 1, h⟩ h0
    obtain ⟨i0, -⟩ := ih (by omega)
    have hr : ∀ p, row ⟨n, by omega⟩ p = row ⟨n + 1, h⟩ p := fun p => by
      ext; show n / 7 * 1024 + p.val = (n + 1) / 7 * 1024 + p.val; omega
    simp only [hr] at i0
    obtain ⟨e0, e1⟩ := step_B m c ⟨n + 1, h⟩ h0 _ rfl
    exact ⟨fun p k => (congrFun e0 _).trans (i0 p k), fun p j => (congrFun e1 _).trans (out_at m c ⟨n + 1, h⟩ _ i0 p j)⟩

/-- The result array holds `out`. -/
theorem final (r : Fin 32768) (q : Fin 5376) : (G3 m c : FVec Ideal S32768x5376 .f32) (ix2 r q) = out m c r q := by
  have hN : cfg0.N = 224 := N_0
  have hp : pt3Of (ix2 r q) = 7 * (r.val / 1024) + q.val / 768 := by
    show 7 * (r.val / 1024 - 0) + 1 * (q.val / 768 - 0) = _
    omega
  have hlt : pt3Of (ix2 r q) < cfg0.N := by omega
  unfold G3
  rw [dif_pos hlt]
  have hw := outsAt0_sweep m c (pt3Of (ix2 r q)) hlt
  obtain ⟨-, s1⟩ := state m c (pt3Of (ix2 r q)) hlt
  have hl : loc3Of (ix2 r q) = ix2 ⟨r.val % 1024, by omega⟩ ⟨q.val % 768, by omega⟩ := by
    funext a
    match a with
    | 0 => rfl
    | 1 => rfl
  have hrow : row ⟨pt3Of (ix2 r q), hlt⟩ ⟨r.val % 1024, by omega⟩ = r := by
    ext; show pt3Of (ix2 r q) / 7 * 1024 + r.val % 1024 = r.val; omega
  have hcol : col ⟨pt3Of (ix2 r q), hlt⟩ ⟨q.val % 768, by omega⟩ = q := by
    ext; show pt3Of (ix2 r q) % 7 * 768 + q.val % 768 = q.val; omega
  rw [← hw, hl, s1, hrow, hcol]

end Cert.ProjIdeal.Own
-- ==== Proof.RefProj.lean ====
module

public import proofs.«01_k».proof.Proof.Gen.RefProjIdeal.Run
public import proofs.«01_k».proof.Proof.Sums

@[expose] public section

set_option maxRecDepth 16384

noncomputable section

open Idealize.ShloMosaic Idealize.ShloMosaic.TcCoe Idealize.SL.Sem

namespace Cert.RefProjIdeal.Own

open Cert.RefProjIdeal Cert.RefProjIdeal.Gen

variable (m : (ℓ : Loc nD τ sig) → Buf (Elt Ideal) ℓ) (c : Dev nD)

/-- The input rows. -/
def X (r : Fin 32768) (k : Fin 1024) : EReal := m ((c.tc : Thread nD τ).loc main_arg0) (ix2 r k)
/-- The gain of the norm. -/
def N (k : Fin 1024) : EReal := m ((c.tc : Thread nD τ).loc main_arg1) (ix1 k)
/-- The weights. -/
def W (k : Fin 1024) (q : Fin 5376) : EReal := m ((c.tc : Thread nD τ).loc main_arg2) (ix2 k q)

/-- What the reference leaves at row `r` and column `q`: the product of the normalised row with the column. -/
def spec (r : Fin 32768) (q : Fin 5376) : EReal := ∑ k : Fin 1024, Cert.Own.rms (X m c r) (N m c) k * W m c k q

/-- The reference's run ends with the result at `spec` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = (fun i => spec m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Cert.RefProjIdeal.Value.run m ρ)
  funext i
  idx_vars i
  unfold spec X N W Cert.Own.rms
  pointwise

/-- The reference's run leaves its arguments as they were and every counter at zero: it has no counters. -/
theorem quiescent (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩) (run m ρ)

end Cert.RefProjIdeal.Own
-- ==== Proof.ProjClaim.lean ====
module

public import proofs.«01_k».proof.Defs
public import proofs.«01_k».proof.Proof.ProjValue
public import proofs.«01_k».proof.Proof.RefProj

@[expose] public section

set_option maxRecDepth 16384

noncomputable section

open Idealize.ShloMosaic Idealize.ShloMosaic.TcCoe Idealize.SL.Sem

namespace Cert.Own

/-- The input projection: kernel and reference leave the same result. -/
theorem proj [Cert.ProjIdeal.Facts] [Cert.RefProjIdeal.Facts] : algebraic_ProjIdeal_RefProjIdeal := by
  intro m g m' g' _ ha
  refine ⟨fun c => Cert.ProjIdeal.Value.G3 m c, Cert.ProjIdeal.Value.run m g, ?_⟩
  refine (θ_run _ _ _).mono (fun r h c => ⟨(h c).1.trans ?_, (h c).2⟩) (Cert.RefProjIdeal.Own.run m' g')
  obtain ⟨h0, h1, h2⟩ := ha c
  have e0 : Cert.RefProjIdeal.Own.X m' c = Cert.ProjIdeal.Own.X m c := by funext r k; exact congrFun h0 _
  have e1 : Cert.RefProjIdeal.Own.N m' c = Cert.ProjIdeal.Own.N m c := by funext k; exact congrFun h1 _
  have e2 : Cert.RefProjIdeal.Own.W m' c = Cert.ProjIdeal.Own.W m c := by funext k q; exact congrFun h2 _
  have key : ∀ r q, Cert.RefProjIdeal.Own.spec m' c r q = (Cert.ProjIdeal.Value.G3 m c : FVec Ideal Cert.ProjIdeal.S32768x5376 .f32) (ix2 r q) := by
    intro r q
    rw [Cert.ProjIdeal.Own.final]
    unfold Cert.RefProjIdeal.Own.spec
    rw [e0, e1, e2]
    rfl
  funext i
  exact (key (i 0) (i 1)).trans (congrArg _ (eq_ix2 i).symm)

end Cert.Own
-- ==== Proof.MergeValue.lean ====
module

public import proofs.«01_k».proof.Proof.Gen.MergeIdeal.Value
public import proofs.«01_k».proof.Proof.Sums
public import Idealize.ShloMosaic.Lib.Pipeline.ReadBack

@[expose] public section

set_option maxRecDepth 16384

noncomputable section

open Idealize.ShloMosaic Idealize.ShloMosaic.TcCoe Idealize.SL.Sem

namespace Cert.MergeIdeal.Own

open Cert.MergeIdeal Cert.MergeIdeal.Gen Cert.MergeIdeal.Value

/-- Which block every window shows at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

variable (m : (ℓ : Loc nD τ sig) → Buf (Elt Ideal) ℓ) (c : Dev nD) (t : Fin cfg0.N)

/-- The row of the arrays which row `p` of point `t`'s block is. -/
def row (t : Fin cfg0.N) (p : Fin 512) : Fin 32768 :=
  ⟨t.val * 512 + p.val, by have h := lt_of_lt_of_eq t.isLt (show cfg0.N = 64 from N_0); have := p.isLt; omega⟩

/-- The projected rows. -/
def P (r : Fin 32768) (k : Fin 5376) : EReal := m ((c.tc : Thread nD τ).loc main_arg0) (ix2 r k)
/-- The first branch's rows. -/
def Oa (r : Fin 32768) (k : Fin 256) : EReal := m ((c.tc : Thread nD τ).loc main_arg1) (ix2 r k)
/-- The second branch's rows. -/
def Ob (r : Fin 32768) (k : Fin 256) : EReal := m ((c.tc : Thread nD τ).loc main_arg2) (ix2 r k)
/-- The third branch's rows. -/
def Oc (r : Fin 32768) (k : Fin 512) : EReal := m ((c.tc : Thread nD τ).loc main_arg3) (ix2 r k)
/-- The residual's rows. -/
def X (r : Fin 32768) (k : Fin 1024) : EReal := m ((c.tc : Thread nD τ).loc main_arg4) (ix2 r k)
/-- The gates' biases. -/
def B (n : Fin 3) (k : Fin 1024) : EReal := m ((c.tc : Thread nD τ).loc main_arg5) (ix2 n k)
/-- The first branch's weights. -/
def Wa (k : Fin 256) (q : Fin 1024) : EReal := m ((c.tc : Thread nD τ).loc main_arg6) (ix2 k q)
/-- The second branch's weights. -/
def Wb (k : Fin 256) (q : Fin 1024) : EReal := m ((c.tc : Thread nD τ).loc main_arg7) (ix2 k q)
/-- The third branch's weights. -/
def Wc (k : Fin 512) (q : Fin 1024) : EReal := m ((c.tc : Thread nD τ).loc main_arg8) (ix2 k q)
/-- The output weights. -/
def Wo (k : Fin 1024) (q : Fin 1024) : EReal := m ((c.tc : Thread nD τ).loc main_arg9) (ix2 k q)

/-- The block of projected rows which the body reads. -/
theorem blk0 (p : Fin 512) (k : Fin 3072) : X0_0 m c t (ix2 p k) = P m c (row t p) ⟨k.val, by omega⟩ := by
  unfold P X0_0 Pipeline.Window.fill
  rw [dif_pos (moved0_0 t _)]
  blk_ext [iblk, V, idx t, row]
/-- The block of the first branch. -/
theorem blk1 (p : Fin 512) (k : Fin 256) : iblk m c 1 t (ix2 p k) = Oa m c (row t p) k := by
  unfold Oa
  blk_ext [iblk, V, idx t, row]
/-- The block of the second branch. -/
theorem blk2 (p : Fin 512) (k : Fin 256) : iblk m c 2 t (ix2 p k) = Ob m c (row t p) k := by
  unfold Ob
  blk_ext [iblk, V, idx t, row]
/-- The block of the third branch. -/
theorem blk3 (p : Fin 512) (k : Fin 512) : iblk m c 3 t (ix2 p k) = Oc m c (row t p) k := by
  unfold Oc
  blk_ext [iblk, V, idx t, row]
/-- The block of the residual. -/
theorem blk4 (p : Fin 512) (k : Fin 1024) : iblk m c 4 t (ix2 p k) = X m c (row t p) k := by
  unfold X
  blk_ext [iblk, V, idx t, row]
/-- The biases of gate `n`, which begin at lane `n * 1024`. -/
theorem blk5 (n : Fin 3) (k : Fin 1024) (l : Fin 3072) (h : l.val = n.val * 1024 + k.val) : iblk m c 5 t (ix2 0 l) = B m c n k := by
  obtain ⟨l, hl⟩ := l
  obtain rfl : l = n.val * 1024 + k.val := h
  unfold B
  blk_simp [iblk, idx t]
  entry_read
  pointwise
  blk_ext [idx t]
/-- The first branch's weights. -/
theorem blk6 (k : Fin 256) (q : Fin 1024) : iblk m c 6 t (ix2 k q) = Wa m c k q := by
  unfold Wa
  blk_simp [iblk, idx t]
  entry_read
  pointwise
  blk_ext [idx t]
/-- The second branch's weights. -/
theorem blk7 (k : Fin 256) (q : Fin 1024) : iblk m c 7 t (ix2 k q) = Wb m c k q := by
  unfold Wb
  blk_simp [iblk, idx t]
  entry_read
  pointwise
  blk_ext [idx t]
/-- The third branch's weights. -/
theorem blk8 (k : Fin 512) (q : Fin 1024) : iblk m c 8 t (ix2 k q) = Wc m c k q := by
  unfold Wc
  blk_simp [iblk, idx t]
  entry_read
  pointwise
  blk_ext [idx t]
/-- The output weights. -/
theorem blk9 (k : Fin 1024) (q : Fin 1024) : iblk m c 9 t (ix2 k q) = Wo m c k q := by
  unfold Wo
  blk_simp [iblk, idx t]
  entry_read
  pointwise
  blk_ext [idx t]

/-- The gate of a branch at an entry: the logistic function of the projection plus the bias. -/
def gate (n : Fin 3) (r : Fin 32768) (k : Fin 1024) : EReal :=
  Ideal.logistic (P m c r ⟨n.val * 1024 + k.val, by omega⟩ + B m c n k)

/-- The three branches, each projected and gated, summed. -/
def merged (r : Fin 32768) (k : Fin 1024) : EReal :=
  gate m c 0 r k * (∑ j : Fin 256, Oa m c r j * Wa m c j k) + gate m c 1 r k * (∑ j : Fin 256, Ob m c r j * Wb m c j k)
    + gate m c 2 r k * ∑ j : Fin 512, Oc m c r j * Wc m c j k

/-- What the kernel leaves at row `r` and column `q`: the residual plus the projection of the merged branches. -/
def out (r : Fin 32768) (q : Fin 1024) : EReal := X m c r q + ∑ k : Fin 1024, merged m c r k * Wo m c k q

/-- The logistic function of the body's projection and bias is the gate. -/
theorem gate_at (n : Fin 3) (p : Fin 512) (k : Fin 1024) (l : Fin 3072) (h : l.val = n.val * 1024 + k.val) :
    Ideal.logistic (HAdd.hAdd (α := EReal) (β := EReal) (γ := EReal) (X0_0 m c t (ix2 p l)) (iblk m c 5 t (ix2 0 l))) = gate m c n (row t p) k := by
  rw [blk5 m c t n k l h, blk0, gate]
  simp only [h]

/-- Every point leaves `out` in its block. -/
theorem step (p : Fin 512) (q : Fin 1024) : outsAt0 m c t (ix2 p q) = out m c (row t p) q := by
  unfold outsAt0
  frame_out
  pointwise [k0_pay1, k0_pay2, k0_pay3]
  unfold out merged
  rw [blk4]
  refine congrArg _ (Finset.sum_congr rfl fun k _ => ?_)
  rw [gate_at m c t 0 p k _ (by simp), gate_at m c t 1 p k _ (by simp), gate_at m c t 2 p k _ (by simp), blk9]
  simp only [blk1, blk2, blk3, blk6, blk7, blk8]

/-- The result array holds `out`. -/
theorem final : (dats m 0 c).arrAt 10 cfg0.N = (fun i => out m c (i 0) (i 1)) := by
  refine (dats m 0 c).arrAt_eq_of_covers 10 _ (by decide +kernel) fun t hf y => ?_
  blk_simp
  rw [after0_10]
  idx_vars y
  have e : win0_10.index t = ![t.val, 0] := (idx t).2.2.2.2.2.2.2.2.2.2
  refine (step m c t _ _).trans (congrArg₂ (out m c) (Fin.ext ?_) (Fin.ext ?_))
  · show t.val * 512 + y0.val = win0_10.index t 0 * 512 + 1 * y0.val
    rw [e]; show _ = t.val * 512 + 1 * y0.val; omega
  · show y1.val = win0_10.index t 1 * 1024 + 1 * y1.val
    rw [e]; show _ = 0 * 1024 + 1 * y1.val; omega

end Cert.MergeIdeal.Own
-- ==== Proof.RefMerge.lean ====
module

public import proofs.«01_k».proof.Proof.Gen.RefMergeIdeal.Run
public import proofs.«01_k».proof.Proof.Sums

@[expose] public section

set_option maxRecDepth 16384

noncomputable section

open Idealize.ShloMosaic Idealize.ShloMosaic.TcCoe Idealize.SL.Sem

namespace Cert.RefMergeIdeal.Own

open Cert.RefMergeIdeal Cert.RefMergeIdeal.Gen

variable (m : (ℓ : Loc nD τ sig) → Buf (Elt Ideal) ℓ) (c : Dev nD)

/-- The projected rows. -/
def P (r : Fin 32768) (k : Fin 5376) : EReal := m ((c.tc : Thread nD τ).loc main_arg0) (ix2 r k)
/-- The first branch's rows. -/
def Oa (r : Fin 32768) (k : Fin 256) : EReal := m ((c.tc : Thread nD τ).loc main_arg1) (ix2 r k)
/-- The second branch's rows. -/
def Ob (r : Fin 32768) (k : Fin 256) : EReal := m ((c.tc : Thread nD τ).loc main_arg2) (ix2 r k)
/-- The third branch's rows. -/
def Oc (r : Fin 32768) (k : Fin 512) : EReal := m ((c.tc : Thread nD τ).loc main_arg3) (ix2 r k)
/-- The residual's rows. -/
def X (r : Fin 32768) (k : Fin 1024) : EReal := m ((c.tc : Thread nD τ).loc main_arg4) (ix2 r k)
/-- The gates' biases. -/
def B (n : Fin 3) (k : Fin 1024) : EReal := m ((c.tc : Thread nD τ).loc main_arg5) (ix2 n k)
/-- The first branch's weights. -/
def Wa (k : Fin 256) (q : Fin 1024) : EReal := m ((c.tc : Thread nD τ).loc main_arg6) (ix2 k q)
/-- The second branch's weights. -/
def Wb (k : Fin 256) (q : Fin 1024) : EReal := m ((c.tc : Thread nD τ).loc main_arg7) (ix2 k q)
/-- The third branch's weights. -/
def Wc (k : Fin 512) (q : Fin 1024) : EReal := m ((c.tc : Thread nD τ).loc main_arg8) (ix2 k q)
/-- The output weights. -/
def Wo (k : Fin 1024) (q : Fin 1024) : EReal := m ((c.tc : Thread nD τ).loc main_arg9) (ix2 k q)

/-- The gate of a branch at an entry: the logistic function of the projection plus the bias. -/
def gate (n : Fin 3) (r : Fin 32768) (k : Fin 1024) : EReal :=
  Ideal.logistic (P m c r ⟨n.val * 1024 + k.val, by omega⟩ + B m c n k)

/-- The three branches, each projected and gated, summed. -/
def merged (r : Fin 32768) (k : Fin 1024) : EReal :=
  gate m c 0 r k * (∑ j : Fin 256, Oa m c r j * Wa m c j k) + gate m c 1 r k * (∑ j : Fin 256, Ob m c r j * Wb m c j k)
    + gate m c 2 r k * ∑ j : Fin 512, Oc m c r j * Wc m c j k

/-- What the reference leaves at row `r` and column `q`: the residual plus the projection of the merged branches. -/
def spec (r : Fin 32768) (q : Fin 1024) : EReal := X m c r q + ∑ k : Fin 1024, merged m c r k * Wo m c k q

/-- The reference's run ends with the result at `spec` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = (fun i => spec m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ⟨(h c).1.trans ?_, (h c).2⟩) (Cert.RefMergeIdeal.Value.run m ρ)
  funext i
  idx_vars i
  unfold spec merged gate Ideal.logistic P Oa Ob Oc X B Wa Wb Wc Wo
  pointwise

/-- The reference's run leaves its arguments as they were and every counter at zero: it has no counters. -/
theorem quiescent (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run _ _ _).mono (fun r h => ⟨fun c => (h c).2, sem_eq_zero_of_no_sems (by decide) r.2⟩) (run m ρ)

end Cert.RefMergeIdeal.Own
-- ==== Proof.MergeClaim.lean ====
module

public import proofs.«01_k».proof.Defs
public import proofs.«01_k».proof.Proof.MergeValue
public import proofs.«01_k».proof.Proof.RefMerge

@[expose] public section

set_option maxRecDepth 16384

noncomputable section

open Idealize.ShloMosaic Idealize.ShloMosaic.TcCoe Idealize.SL.Sem

namespace Cert.Own

/-- The merge of the branches: kernel and reference leave the same result. -/
theorem merge [Cert.MergeIdeal.Facts] [Cert.RefMergeIdeal.Facts] : algebraic_MergeIdeal_RefMergeIdeal := by
  intro m g m' g' _ ha
  refine ⟨fun c => fun i => Cert.MergeIdeal.Own.out m c (i 0) (i 1), (θ_run _ _ _).mono (fun r h c => ⟨(h c).1.trans (Cert.MergeIdeal.Own.final m c), (h c).2⟩) (Cert.MergeIdeal.Value.run_blocks m g), ?_⟩
  refine (θ_run _ _ _).mono (fun r h c => ⟨(h c).1.trans ?_, (h c).2⟩) (Cert.RefMergeIdeal.Own.run m' g')
  obtain ⟨h0, h1, h2, h3, h4, h5, h6, h7, h8, h9⟩ := ha c
  have e0 : Cert.RefMergeIdeal.Own.P m' c = Cert.MergeIdeal.Own.P m c := by funext r k; exact congrFun h0 _
  have e1 : Cert.RefMergeIdeal.Own.Oa m' c = Cert.MergeIdeal.Own.Oa m c := by funext r k; exact congrFun h1 _
  have e2 : Cert.RefMergeIdeal.Own.Ob m' c = Cert.MergeIdeal.Own.Ob m c := by funext r k; exact congrFun h2 _
  have e3 : Cert.RefMergeIdeal.Own.Oc m' c = Cert.MergeIdeal.Own.Oc m c := by funext r k; exact congrFun h3 _
  have e4 : Cert.RefMergeIdeal.Own.X m' c = Cert.MergeIdeal.Own.X m c := by funext r k; exact congrFun h4 _
  have e5 : Cert.RefMergeIdeal.Own.B m' c = Cert.MergeIdeal.Own.B m c := by funext r k; exact congrFun h5 _
  have e6 : Cert.RefMergeIdeal.Own.Wa m' c = Cert.MergeIdeal.Own.Wa m c := by funext r k; exact congrFun h6 _
  have e7 : Cert.RefMergeIdeal.Own.Wb m' c = Cert.MergeIdeal.Own.Wb m c := by funext r k; exact congrFun h7 _
  have e8 : Cert.RefMergeIdeal.Own.Wc m' c = Cert.MergeIdeal.Own.Wc m c := by funext r k; exact congrFun h8 _
  have e9 : Cert.RefMergeIdeal.Own.Wo m' c = Cert.MergeIdeal.Own.Wo m c := by funext r k; exact congrFun h9 _
  funext i
  unfold Cert.RefMergeIdeal.Own.spec Cert.RefMergeIdeal.Own.merged Cert.RefMergeIdeal.Own.gate
  rw [e0, e1, e2, e3, e4, e5, e6, e7, e8, e9]
  rfl

end Cert.Own
-- ==== Proof.Attn.lean ====
module

public import proofs.«01_k».proof.Proof.Sums

@[expose] public section

noncomputable section

open Idealize.ShloMosaic

namespace Cert.Own

/-- A row of 128 values divided by the root of their mean square (plus a small constant) and scaled by the gain `g`. -/
def rms128 (x g : Fin 128 → EReal) (k : Fin 128) : EReal :=
  x k * Ideal.rsqrt (Ideal.div (∑ j, x j * x j) (Ideal.ofBits FTy.f32 1124073472#32) + Ideal.ofBits FTy.f32 897988541#32) * g k

/-- The scale of the scores: the constant 128 to the power -1/2. -/
def scale : EReal := Ideal.ofBits FTy.f32 1035273459#32

/-- The largest of 256 scores. -/
def top (s : Fin 256 → EReal) : EReal := Finset.fold max (Ideal.ofBits FTy.f32 4286578688#32) s Finset.univ

/-- The softmax of 256 scores, at one of them. -/
def soft (s : Fin 256 → EReal) (j : Fin 256) : EReal :=
  Ideal.div (Ideal.exp (s j - top s)) (∑ i, Ideal.exp (s i - top s))

/-- The score of a query (normalised and scaled) with a key. -/
def score (q n : Fin 128 → EReal) (k : Fin 256 → Fin 128 → EReal) (j : Fin 256) : EReal :=
  ∑ x, rms128 q n x * scale * k j x

/-- One head's output for a query: the values weighted with the softmax of the scores. -/
def head (q n : Fin 128 → EReal) (k v : Fin 256 → Fin 128 → EReal) (l : Fin 128) : EReal :=
  ∑ j, soft (score q n k) j * v j l

/-- Of the 512 lanes of four heads the one which lane `x` of head `h` is. -/
def lane (h : Fin 4) (x : Fin 128) : Fin 512 := ⟨h.val * 128 + x.val, by omega⟩

/-- The head of a lane. -/
def hd (l : Fin 512) : Fin 4 := ⟨l.val / 128, by omega⟩
/-- The lane within the head. -/
def ln (l : Fin 512) : Fin 128 := ⟨l.val % 128, by omega⟩

/-- Four heads side by side: lane `x` is of head `x / 128`. -/
theorem four (f : Fin 4 → Fin 128 → EReal) (x : Fin 512) :
    (if h : x.val < 128 then f 0 ⟨x.val, h⟩ else if h : x.val - 128 < 128 then f 1 ⟨x.val - 128, h⟩
      else if h : x.val - 128 - 128 < 128 then f 2 ⟨x.val - 128 - 128, h⟩ else f 3 ⟨x.val - 128 - 128 - 128, by omega⟩) = f (hd x) (ln x) := by
  unfold hd ln
  split_ifs <;> exact congrArg₂ f (Fin.ext (by simp; omega)) (Fin.ext (by simp; omega))

end Cert.Own
-- ==== Proof.CrossBody.lean ====
module

public import proofs.«01_k».proof.Proof.Gen.CrossIdeal.Value
public import proofs.«01_k».proof.Proof.Attn
public import Idealize.ShloMosaic.Lib.Pipeline.ReadBack

@[expose] public section

set_option maxRecDepth 16384

noncomputable section

open Cert.Own Idealize.ShloMosaic Idealize.ShloMosaic.TcCoe Idealize.SL.Sem

namespace Cert.CrossIdeal.Own

open Cert.CrossIdeal Cert.CrossIdeal.Gen Cert.CrossIdeal.Value

/-- Which block every window shows at every point. -/
theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0] ∧ win0_5.index t = ![0, 0]
    ∧ win0_6.index t = ![0, 0] ∧ win0_7.index t = ![t.val / 4, t.val % 4, 0] :=
  (by decide +kernel : ∀ t : Fin grid0.N, _)

variable (m : (ℓ : Loc nD τ sig) → Buf (Elt Ideal) ℓ) (c : Dev nD) (t : Fin cfg0.N)

/-- The batch which point `t` works on. -/
def bat (t : Fin cfg0.N) : Fin 16 := ⟨t.val / 4, by have h := lt_of_lt_of_eq t.isLt (show cfg0.N = 64 from N_0); omega⟩
/-- The row of the batch which row `p` of point `t`'s block is. -/
def row (t : Fin cfg0.N) (p : Fin 512) : Fin 2048 := ⟨t.val % 4 * 512 + p.val, by omega⟩

/-- The residual's rows. -/
def X (b : Fin 16) (r : Fin 2048) (k : Fin 1024) : EReal := m ((c.tc : Thread nD τ).loc main_arg0) (ix3 b r k)
/-- The memory's keys, then its values. -/
def KV (b : Fin 16) (r : Fin 256) (k : Fin 1024) : EReal := m ((c.tc : Thread nD τ).loc main_arg1) (ix3 b r k)
/-- The gain of the norm. -/
def N (k : Fin 1024) : EReal := m ((c.tc : Thread nD τ).loc main_arg2) (ix1 k)
/-- The weights of the queries. -/
def Wq (k : Fin 1024) (q : Fin 512) : EReal := m ((c.tc : Thread nD τ).loc main_arg3) (ix2 k q)
/-- The weights of the output. -/
def Wo (k : Fin 512) (q : Fin 1024) : EReal := m ((c.tc : Thread nD τ).loc main_arg4) (ix2 k q)
/-- The gain of the queries' norm. -/
def Nq (k : Fin 128) : EReal := m ((c.tc : Thread nD τ).loc main_arg5) (ix1 k)
/-- The gain of the keys' norm. -/
def Nk (k : Fin 128) : EReal := m ((c.tc : Thread nD τ).loc main_arg6) (ix1 k)

/-- The block of rows which the body reads. -/
theorem blk0 (p : Fin 512) (k : Fin 1024) : iblk m c 0 t (ix3 0 p k) = X m c (bat t) (row t p) k := by
  unfold X
  blk_ext [iblk, V, idx t, row, bat]
/-- The block of the memory which the body reads. -/
theorem blk1 (p : Fin 256) (k : Fin 1024) : iblk m c 1 t (ix3 0 p k) = KV m c (bat t) p k := by
  unfold KV
  blk_ext [iblk, V, idx t, row, bat]
/-- The gain of the norm. -/
theorem blk2 (k : Fin 1024) : iblk m c 2 t (ix2 0 k) = N m c k := by
  unfold N
  blk_simp [iblk, idx t]
  entry_read
  pointwise
  blk_ext [idx t]
/-- The weights of the queries. -/
theorem blk3 (k : Fin 1024) (q : Fin 512) : iblk m c 3 t (ix2 k q) = Wq m c k q := by
  unfold Wq
  blk_simp [iblk, idx t]
  entry_read
  pointwise
  blk_ext [idx t]
/-- The weights of the output. -/
theorem blk4 (k : Fin 512) (q : Fin 1024) : iblk m c 4 t (ix2 k q) = Wo m c k q := by
  unfold Wo
  blk_simp [iblk, idx t]
  entry_read
  pointwise
  blk_ext [idx t]
/-- The gain of the queries' norm. -/
theorem blk5 (k : Fin 128) : iblk m c 5 t (ix2 0 k) = Nq m c k := by
  unfold Nq
  blk_simp [iblk, idx t]
  entry_read
  pointwise
  blk_ext [idx t]
/-- The gain of the keys' norm. -/
theorem blk6 (k : Fin 128) : iblk m c 6 t (ix2 0 k) = Nk m c k := by
  unfold Nk
  blk_simp [iblk, idx t]
  entry_read
  pointwise
  blk_ext [idx t]

/-- The query row before its norm. -/
def Q (b : Fin 16) (r : Fin 2048) (l : Fin 512) : EReal := ∑ k : Fin 1024, rms (X m c b r) (N m c) k * Wq m c k l
/-- The keys, normalised by head. -/
def K (b : Fin 16) (h : Fin 4) (j : Fin 256) (x : Fin 128) : EReal := rms128 (fun x => KV m c b j ⟨(lane h x).val, by omega⟩) (Nk m c) x
/-- The values. -/
def W (b : Fin 16) (h : Fin 4) (j : Fin 256) (x : Fin 128) : EReal := KV m c b j ⟨512 + (lane h x).val, by omega⟩
/-- One head's output. -/
def O (b : Fin 16) (r : Fin 2048) (h : Fin 4) (l : Fin 128) : EReal := head (fun x => Q m c b r (lane h x)) (Nq m c) (K m c b h) (W m c b h) l
/-- What the kernel leaves: the residual plus the projection of the heads' outputs. -/
def out (b : Fin 16) (r : Fin 2048) (q : Fin 1024) : EReal := X m c b r q + ∑ x : Fin 512, O m c b r (hd x) (ln x) * Wo m c x q

/-- The queries' projection at an entry. -/
theorem pay10_at (x g w) (p : Fin 512) (l : Fin 512) : k0_pay10 (F := Ideal) x g w (ix2 p l)
    = ∑ k : Fin 1024, rms (fun k => x (ix3 0 p k)) (fun k => g (ix2 0 k)) k * w (ix2 k l) := by
  unfold rms
  pointwise [k0_pay10, k0_pay9]

/-- The first head's normalised query. -/
theorem pay11_at (x g w n) (p : Fin 512) (l : Fin 128) : k0_pay11 (F := Ideal) x g w n (ix2 p l)
    = rms128 (fun l => k0_pay10 (F := Ideal) x g w (ix2 p (lane 0 l))) (fun l => n (ix2 0 l)) l := by
  have e : ∀ l, lane 0 l = ⟨l.val, by omega⟩ := fun l => Fin.ext (Nat.zero_add _)
  simp only [e]
  unfold rms128
  pointwise [k0_pay11]

/-- The first head's output. -/
theorem pay12_at (q k v) (p : Fin 512) (l : Fin 128) (q' n : Fin 128 → EReal) (hq : ∀ x, q (ix2 p x) = rms128 q' n x) :
    k0_pay12 (F := Ideal) q (FloatOps.ofBits FTy.f32 1035273459#32) k v (ix2 p l)
      = head q' n (fun j x => k (ix2 j x)) (fun j x => v (ix2 j x)) l := by
  unfold head soft top score scale
  pointwise [k0_pay12]
  simp only [hq]

/-- The second head's scores less the largest of them. -/
theorem pay13_at (q n k) (p : Fin 512) (l : Fin 256) : k0_pay13 (F := Ideal) q n k (ix2 p l)
    = score (fun x => q (ix2 p (lane 1 x))) (fun x => n (ix2 0 x)) (fun j x => k (ix2 j x)) l
      - top (score (fun x => q (ix2 p (lane 1 x))) (fun x => n (ix2 0 x)) (fun j x => k (ix2 j x))) := by
  unfold top score scale rms128
  pointwise [k0_pay13]
  rfl

/-- The second head's output. -/
theorem pay14_at (d v) (p : Fin 512) (l : Fin 128) (s : Fin 256 → EReal) (hd : ∀ j, d (ix2 p j) = s j - top s) :
    k0_pay14 (F := Ideal) d v (ix2 p l) = ∑ j, soft s j * v (ix2 j l) := by
  unfold soft
  pointwise [k0_pay14]
  simp only [hd]

/-- The third head's output. -/
theorem pay15_at (q n k v) (p : Fin 512) (l : Fin 128) : k0_pay15 (F := Ideal) q n k v (ix2 p l)
    = head (fun x => q (ix2 p (lane 2 x))) (fun x => n (ix2 0 x)) (fun j x => k (ix2 j x)) (fun j x => v (ix2 j x)) l := by
  unfold head soft top score scale rms128
  pointwise [k0_pay15]
  rfl

set_option maxHeartbeats 4000000 in
/-- The body's result: the residual plus the projection of the four heads' outputs. -/
theorem pay16_at (x q a b d n k v w) (p : Fin 512) (l : Fin 1024) (f : Fin 4 → Fin 128 → EReal)
    (h0 : ∀ x, a (ix2 p x) = f 0 x) (h1 : ∀ x, b (ix2 p x) = f 1 x) (h2 : ∀ x, d (ix2 p x) = f 2 x)
    (h3 : ∀ l, head (fun x => q (ix2 p (lane 3 x))) (fun x => n (ix2 0 x)) (fun j x => k (ix2 j x)) (fun j x => v (ix2 j x)) l = f 3 l) :
    k0_pay16 (F := Ideal) x q a b d n k v w (ix2 p l) = x (ix2 p l) + ∑ x : Fin 512, f (hd x) (ln x) * w (ix2 x l) := by
  pointwise [k0_pay16]
  refine congrArg _ (Finset.sum_congr rfl fun y _ => congrArg (· * w (ix2 y l)) ?_)
  rw [← four f y]
  simp only [h0, h1, h2, ← h3]
  rfl

/-- A normalised head of keys, at an entry. -/
theorem key0_at (kv n) (j : Fin 256) (x : Fin 128) : k0_pay3 (F := Ideal) kv n (ix2 j x)
    = rms128 (fun x => kv (ix3 0 j ⟨(lane 0 x).val, by omega⟩)) (fun x => n (ix2 0 x)) x := by
  have e : ∀ l, (lane 0 l).val = l.val := fun l => Nat.zero_add _
  simp only [e]
  unfold rms128
  pointwise [k0_pay3, k0_pay2]

/-- The second head of keys. -/
theorem key1_at (kv n) (j : Fin 256) (x : Fin 128) : k0_pay4 (F := Ideal) kv n (ix2 j x)
    = rms128 (fun x => kv (ix3 0 j ⟨(lane 1 x).val, by omega⟩)) (fun x => n (ix2 0 x)) x := by
  unfold rms128
  pointwise [k0_pay4, k0_pay2]
  rfl

/-- The third head of keys. -/
theorem key2_at (kv n) (j : Fin 256) (x : Fin 128) : k0_pay6 (F := Ideal) (k0_pay5 kv) n (ix2 j x)
    = rms128 (fun x => kv (ix3 0 j ⟨(lane 2 x).val, by omega⟩)) (fun x => n (ix2 0 x)) x := by
  unfold rms128
  pointwise [k0_pay6, k0_pay5, k0_pay2]
  rfl

/-- The fourth head of keys. -/
theorem key3_at (kv n) (j : Fin 256) (x : Fin 128) : k0_pay7 (F := Ideal) (k0_pay2 kv) n (ix2 j x)
    = rms128 (fun x => kv (ix3 0 j ⟨(lane 3 x).val, by omega⟩)) (fun x => n (ix2 0 x)) x := by
  unfold rms128
  pointwise [k0_pay7, k0_pay2]
  rfl

/-- The values at an entry. -/
theorem val_at (kv) (j : Fin 256) (l : Fin 512) : k0_pay8 (F := Ideal) (k0_pay2 kv) (ix2 j l) = kv (ix3 0 j ⟨512 + l.val, by omega⟩) := by
  pointwise [k0_pay8, k0_pay2]

end Cert.CrossIdeal.Own
-- ==== Proof.CrossValue.lean ====
module

public import proofs.«01_k».proof.Proof.CrossBody

@[expose] public section

set_option maxRecDepth 16384

noncomputable section

open Cert.Own Idealize.ShloMosaic Idealize.ShloMosaic.TcCoe Idealize.SL.Sem

namespace Cert.CrossIdeal.Own

open Cert.CrossIdeal Cert.CrossIdeal.Gen Cert.CrossIdeal.Value

variable (m : (ℓ : Loc nD τ sig) → Buf (Elt Ideal) ℓ) (c : Dev nD) (t : Fin cfg0.N)

/-- The block of output which the body computes from its inputs and from the two scratches' heads. -/
def bodyOut (x : Vec Ideal S1x512x1024 .f32) (g : Vec Ideal S1x1024 .f32) (w : Vec Ideal S1024x512 .bf16) (wo : Vec Ideal S512x1024 .bf16) (nq : Vec Ideal S1x128 .f32)
    (k0 k1 k2 k3 v0 v1 v2 v3 : Vec Ideal S256x128 .bf16) : Vec Ideal S1x512x1024 .f32 :=
  k0_pay1 (k0_pay16 (k0_pay9 x) (k0_pay10 x g w) (k0_pay12 (k0_pay11 x g w nq) (FloatOps.ofBits FTy.f32 1035273459#32) k0 v0)
    (k0_pay14 (k0_pay13 (k0_pay10 x g w) nq k1) v1) (k0_pay15 (k0_pay10 x g w) nq k2 v2) nq k3 v3 wo)

/-- Head `h` of a scratch. -/
def part (h : Fin 4) (v : Vec Ideal S256x512 .bf16) : Vec Ideal S256x128 .bf16 := fun i => v (ix2 (i 0) (lane h (i 1)))

/-- The body's block of output over two whole scratches. -/
def bodyAll (x : Vec Ideal S1x512x1024 .f32) (g : Vec Ideal S1x1024 .f32) (w : Vec Ideal S1024x512 .bf16) (wo : Vec Ideal S512x1024 .bf16) (nq : Vec Ideal S1x128 .f32)
    (kk vv : Vec Ideal S256x512 .bf16) : Vec Ideal S1x512x1024 .f32 :=
  bodyOut x g w wo nq (part 0 kk) (part 1 kk) (part 2 kk) (part 3 kk) (part 0 vv) (part 1 vv) (part 2 vv) (part 3 vv)

/-- The rectangle of head `h` reads that head of a scratch. -/
theorem part_idx (h : Fin 4) (off : Nat) (inb : ∀ a, (![0, off] : Fin 2 → Nat) a + ![256, 128] a ≤ S256x512.size a) (e : off = h.val * 128) (v : Vec Ideal S256x512 .bf16) :
    (fun j => v ((Rect.unit (s := S256x512) ![0, off] ![256, 128] inb).toLoadRect.idx j)) = part h v := by
  subst e
  funext j
  refine congrArg v (funext fun a => Fin.ext ?_)
  match a with
  | 0 => exact (Rect.idx_unit_val _ _ inb j 0).trans (Nat.zero_add _)
  | 1 => exact Rect.idx_unit_val _ _ inb j 1

/-- A load of head `h`. -/
theorem ld_part (h : Fin 4) (off : Nat) (inb : ∀ a, (![0, off] : Fin 2 → Nat) a + ![256, 128] a ≤ S256x512.size a) (e : off = h.val * 128) (v : Vec Ideal S256x512 .bf16) :
    View.ld v (Rect.unit (s := S256x512) ![0, off] ![256, 128] inb) = part h v := part_idx h off inb e v

/-- A load of head `h` after stores into a scratch. -/
theorem cov_part (w : View sig .tc .vmem S256x512 .bf16) (L) (h : Fin 4) (off : Nat) (inb : ∀ a, (![0, off] : Fin 2 → Nat) a + ![256, 128] a ≤ S256x512.size a) (e : off = h.val * 128) :
    w.readCov (Val := Elt Ideal) L (Rect.unit (s := S256x512) ![0, off] ![256, 128] inb).toLoadRect = part h (View.canon L) := by
  rw [View.readCov_eq_canon']
  exact part_idx h off inb e _

/-- Every later point of a batch keeps the scratches and computes its block from them. -/
theorem step_B (h0 : ¬t.val % 4 = 0) (xs0 xs1 : Vec Ideal S256x512 .bf16)
    (e0 : (outsAt0 m c (t.val - 1) (Nat.lt_of_le_of_lt (Nat.sub_le _ _) t.isLt)).2 = (xs0, xs1)) :
    (outsAt0 m c t.val t.isLt).2 = (xs0, xs1) ∧ (outsAt0 m c t.val t.isLt).1 = bodyAll (iblk m c 0 t) (iblk m c 2 t) (iblk m c 3 t) (iblk m c 4 t) (iblk m c 5 t) xs0 xs1 := by
  rw [outsAt0_B m c t h0, e0]
  refine ⟨rfl, ?_⟩
  frame_out
  simp only [read_unread_whole]
  rw [ld_part 0 0 _ rfl xs0, ld_part 1 128 _ rfl xs0, ld_part 2 256 _ rfl xs0, ld_part 3 384 _ rfl xs0,
    ld_part 0 0 _ rfl xs1, ld_part 1 128 _ rfl xs1, ld_part 2 256 _ rfl xs1, ld_part 3 384 _ rfl xs1]
  rfl

/-- The four heads of keys which a point writes, side by side, are the keys of its batch. -/
theorem keys (kk : Vec Ideal S256x512 .bf16) (hk : ∀ j l, kk (ix2 j l) = K m c (bat t) (hd l) j (ln l)) :
    View.canon (Val := Elt Ideal) (s := S256x512) (e := .bf16)
      [⟨Rect.unit ![0, 384] ![256, 128] inb_S256x512_S256x128_0_384, k0_pay7 (k0_pay2 (iblk m c 1 t)) (iblk m c 6 t)⟩,
        ⟨Rect.unit ![0, 256] ![256, 128] inb_S256x512_S256x128_0_256, k0_pay6 (k0_pay5 (iblk m c 1 t)) (iblk m c 6 t)⟩,
        ⟨Rect.unit ![0, 128] ![256, 128] inb_S256x512_S256x128_0_128, k0_pay4 (iblk m c 1 t) (iblk m c 6 t)⟩,
        ⟨Rect.unit ![0, 0] ![256, 128] inb_S256x512_S256x128_0_0, k0_pay3 (iblk m c 1 t) (iblk m c 6 t)⟩] = kk := by
  have hp : ∀ (h : Fin 4) (j : Fin 256) (x : Fin 128), rms128 (fun x => iblk m c 1 t (ix3 0 j ⟨(lane h x).val, by omega⟩)) (fun x => iblk m c 6 t (ix2 0 x)) x = part h kk (ix2 j x) := fun h j x => by
    have e1 : hd (lane h x) = h := Fin.ext (by simp only [hd, lane]; omega)
    have e2 : ln (lane h x) = x := Fin.ext (by simp only [ln, lane]; omega)
    rw [part]
    refine Eq.trans ?_ (hk j (lane h x)).symm
    rw [e1, e2]
    simp only [blk1, blk6]
    rfl
  have ex : ∀ i : S256x128.Idx, ix2 (i 0) (i 1) = i := fun i => by funext a; match a with | 0 => rfl | 1 => rfl
  funext y
  refine View.canon_apply_of_pieces kk _ ?_ y ?_
  · intro p hpm
    simp only [List.mem_cons, List.not_mem_nil, or_false] at hpm
    rcases hpm with rfl | rfl | rfl | rfl <;> intro i
    · exact ((congrArg _ (ex i).symm).trans (key3_at _ _ (i 0) (i 1))).trans ((hp 3 (i 0) (i 1)).trans ((congrArg (part 3 kk) (ex i)).trans (congrFun (part_idx 3 384 inb_S256x512_S256x128_0_384 rfl kk) i).symm))
    · exact ((congrArg _ (ex i).symm).trans (key2_at _ _ (i 0) (i 1))).trans ((hp 2 (i 0) (i 1)).trans ((congrArg (part 2 kk) (ex i)).trans (congrFun (part_idx 2 256 inb_S256x512_S256x128_0_256 rfl kk) i).symm))
    · exact ((congrArg _ (ex i).symm).trans (key1_at _ _ (i 0) (i 1))).trans ((hp 1 (i 0) (i 1)).trans ((congrArg (part 1 kk) (ex i)).trans (congrFun (part_idx 1 128 inb_S256x512_S256x128_0_128 rfl kk) i).symm))
    · exact ((congrArg _ (ex i).symm).trans (key0_at _ _ (i 0) (i 1))).trans ((hp 0 (i 0) (i 1)).trans ((congrArg (part 0 kk) (ex i)).trans (congrFun (part_idx 0 0 inb_S256x512_S256x128_0_0 rfl kk) i).symm))
  · have h0 : (y 0).val < 256 := (y 0).isLt
    have h1 : (y 1).val < 512 := (y 1).isLt
    have hm : ∀ (off : Nat) (inb : ∀ a, (![0, off] : Fin 2 → Nat) a + ![256, 128] a ≤ S256x512.size a), off ≤ (y 1).val → (y 1).val < off + 128 →
        y ∈ (Rect.unit (s := S256x512) ![0, off] ![256, 128] inb).set := fun off inb hl hh =>
      Rect.mem_set_unit.mpr fun a => by
        match a with
        | 0 => exact ⟨Nat.zero_le _, by show (y 0).val < 0 + 256; omega⟩
        | 1 => exact ⟨hl, hh⟩
    by_cases c3 : 384 ≤ (y 1).val
    · exact ⟨_, List.mem_cons_self, hm 384 inb_S256x512_S256x128_0_384 c3 (by omega)⟩
    by_cases c2 : 256 ≤ (y 1).val
    · exact ⟨_, List.mem_cons_of_mem _ List.mem_cons_self, hm 256 inb_S256x512_S256x128_0_256 c2 (by omega)⟩
    by_cases c1 : 128 ≤ (y 1).val
    · exact ⟨_, List.mem_cons_of_mem _ (List.mem_cons_of_mem _ List.mem_cons_self), hm 128 inb_S256x512_S256x128_0_128 c1 (by omega)⟩
    · exact ⟨_, List.mem_cons_of_mem _ (List.mem_cons_of_mem _ (List.mem_cons_of_mem _ List.mem_cons_self)), hm 0 inb_S256x512_S256x128_0_0 (Nat.zero_le _) (by omega)⟩

/-- A store of a whole scratch leaves what it stores. -/
theorem whole (v : Vec Ideal S256x512 .bf16) : View.canon (Val := Elt Ideal) (s := S256x512) (e := .bf16)
    [⟨Rect.unit ![0, 0] ![256, 512] inb_S256x512_S256x512_0_0, v⟩] = v :=
  View.canon_unit_zero (S := S256x512) (by funext a; match a with | 0 => rfl | 1 => rfl) inb_S256x512_S256x512_0_0 v

/-- The first point of a batch leaves the batch's keys and values in the scratches and computes its block from them. -/
theorem step_A (h0 : t.val % 4 = 0) (kk vv : Vec Ideal S256x512 .bf16)
    (hk : ∀ j l, kk (ix2 j l) = K m c (bat t) (hd l) j (ln l)) (hv : ∀ j l, vv (ix2 j l) = KV m c (bat t) j ⟨512 + l.val, by omega⟩) :
    (outsAt0 m c t.val t.isLt).2 = (kk, vv) ∧ (outsAt0 m c t.val t.isLt).1 = bodyAll (iblk m c 0 t) (iblk m c 2 t) (iblk m c 3 t) (iblk m c 4 t) (iblk m c 5 t) kk vv := by
  rw [outsAt0_A m c t h0]
  have e1 : k0_pay8 (k0_pay2 (iblk m c 1 t)) = vv := by
    funext i
    obtain ⟨j, l, rfl⟩ : ∃ j l, i = ix2 j l := ⟨i 0, i 1, by funext a; match a with | 0 => rfl | 1 => rfl⟩
    rw [val_at, blk1, hv]
  constructor
  · refine congrArg₂ Prod.mk ?_ ?_
    · frame_out
      exact keys m c t kk hk
    · frame_out
      exact e1
  · frame_out
    rw [cov_part (View.whole cc0_scratch0) _ 0 0 _ rfl, cov_part (View.whole cc0_scratch0) _ 1 128 _ rfl, cov_part (View.whole cc0_scratch0) _ 2 256 _ rfl, cov_part (View.whole cc0_scratch0) _ 3 384 _ rfl,
      cov_part (View.whole cc0_scratch1) _ 0 0 _ rfl, cov_part (View.whole cc0_scratch1) _ 1 128 _ rfl, cov_part (View.whole cc0_scratch1) _ 2 256 _ rfl, cov_part (View.whole cc0_scratch1) _ 3 384 _ rfl,
      keys m c t kk hk, whole, e1]
    rfl

/-- The block computed from the batch's keys and values holds `out`. -/
theorem body_at (kk vv : Vec Ideal S256x512 .bf16)
    (hk : ∀ j l, kk (ix2 j l) = K m c (bat t) (hd l) j (ln l)) (hv : ∀ j l, vv (ix2 j l) = KV m c (bat t) j ⟨512 + l.val, by omega⟩) (p : Fin 512) (q : Fin 1024) :
    bodyAll (iblk m c 0 t) (iblk m c 2 t) (iblk m c 3 t) (iblk m c 4 t) (iblk m c 5 t) kk vv (ix3 0 p q) = out m c (bat t) (row t p) q := by
  have ek : ∀ h, (fun j x => part h kk (ix2 j x)) = K m c (bat t) h := fun h => by
    funext j x
    have e1 : hd (lane h x) = h := Fin.ext (by simp only [hd, lane]; omega)
    have e2 : ln (lane h x) = x := Fin.ext (by simp only [ln, lane]; omega)
    refine (hk j (lane h x)).trans ?_
    rw [e1, e2]
  have ev : ∀ h, (fun j x => part h vv (ix2 j x)) = W m c (bat t) h := fun h => by
    funext j x
    exact hv j (lane h x)
  have eq : ∀ l, k0_pay10 (F := Ideal) (iblk m c 0 t) (iblk m c 2 t) (iblk m c 3 t) (ix2 p l) = Q m c (bat t) (row t p) l := fun l => by
    rw [pay10_at]
    simp only [blk0, blk2, blk3]
    rfl
  have en : (fun x => iblk m c 5 t (ix2 0 x)) = Nq m c := funext fun x => blk5 m c t x
  have e3 : ∀ y : Vec Ideal S512x1024 .f32, k0_pay1 (F := Ideal) y (ix3 0 p q) = y (ix2 p q) := fun y => by pointwise [k0_pay1]
  have e9 : k0_pay9 (F := Ideal) (iblk m c 0 t) (ix2 p q) = X m c (bat t) (row t p) q := by
    rw [← blk0]
    pointwise [k0_pay9]
  unfold bodyAll bodyOut
  rw [e3, pay16_at _ _ _ _ _ _ _ _ _ p q (O m c (bat t) (row t p)), e9, out]
  · simp only [blk4]
  · intro x
    rw [pay12_at _ _ _ p x (fun x => Q m c (bat t) (row t p) (lane 0 x)) (Nq m c), ek, ev]
    · rfl
    · intro x
      rw [pay11_at]
      simp only [eq, en]
  · intro x
    rw [pay14_at _ _ p x (score (fun x => Q m c (bat t) (row t p) (lane 1 x)) (Nq m c) (K m c (bat t) 1))]
    · have := fun j => congrFun (congrFun (ev 1) j) x
      simp only [this]
      rfl
    · intro j
      rw [pay13_at, ek, en]
      simp only [eq]
  · intro x
    rw [pay15_at, ek, ev, en]
    simp only [eq]
    rfl
  · intro x
    rw [ek, ev, en]
    simp only [eq]
    rfl

/-- The batch's keys as the first scratch's contents. -/
def keysOf (b : Fin 16) : Vec Ideal S256x512 .bf16 := fun i => K m c b (hd (i 1)) (i 0) (ln (i 1))
/-- The batch's values as the second scratch's contents. -/
def valsOf (b : Fin 16) : Vec Ideal S256x512 .bf16 := fun i => KV m c b (i 0) ⟨512 + (i 1).val, by have h : (i 1).val < 512 := (i 1).isLt; omega⟩

/-- After every point the scratches hold the batch's keys and values, and the output block holds `out`. -/
theorem state (n : ℕ) : ∀ (h : n < cfg0.N), (outsAt0 m c n h).2 = (keysOf m c (bat ⟨n, h⟩), valsOf m c (bat ⟨n, h⟩))
    ∧ ∀ p q, (outsAt0 m c n h).1 (ix3 0 p q) = out m c (bat ⟨n, h⟩) (row ⟨n, h⟩ p) q := by
  have first : ∀ t : Fin cfg0.N, t.val % 4 = 0 → (outsAt0 m c t.val t.isLt).2 = (keysOf m c (bat t), valsOf m c (bat t))
      ∧ ∀ p q, (outsAt0 m c t.val t.isLt).1 (ix3 0 p q) = out m c (bat t) (row t p) q := fun t h0 => by
    obtain ⟨e0, e1⟩ := step_A m c t h0 (keysOf m c (bat t)) (valsOf m c (bat t)) (fun _ _ => rfl) (fun _ _ => rfl)
    exact ⟨e0, fun p q => (congrFun e1 _).trans (body_at m c t _ _ (fun _ _ => rfl) (fun _ _ => rfl) p q)⟩
  induction n with
  | zero => exact fun h => first ⟨0, h⟩ (by simp)
  | succ n ih =>
    intro h
    by_cases h0 : (n + 1) % 4 = 0
    · exact first ⟨n + 1, h⟩ h0
    obtain ⟨i0, -⟩ := ih (by omega)
    have hr : bat ⟨n, by omega⟩ = bat ⟨n + 1, h⟩ := by
      ext; show n / 4 = (n + 1) / 4; omega
    rw [hr] at i0
    obtain ⟨e0, e1⟩ := step_B m c ⟨n + 1, h⟩ h0 _ _ i0
    exact ⟨e0, fun p q => (congrFun e1 _).trans (body_at m c ⟨n + 1, h⟩ _ _ (fun _ _ => rfl) (fun _ _ => rfl) p q)⟩

/-- The result array holds `out`. -/
theorem final : (dats m 0 c).arrAt 7 cfg0.N = (fun i => out m c (i 0) (i 1) (i 2)) := by
  refine (dats m 0 c).arrAt_eq_of_covers 7 _ (by decide +kernel) fun t hf y => ?_
  blk_simp
  rw [after0_7]
  idx_vars y
  have e : win0_7.index t = ![t.val / 4, t.val % 4, 0] := (idx t).2.2.2.2.2.2.2
  have z : y0 = 0 := Subsingleton.elim _ _
  subst z
  have h3 : ∀ b b' r r' q q', b = b' → r = r' → q = q' → out m c b r q = out m c b' r' q' := by
    rintro b _ r _ q _ rfl rfl rfl; rfl
  refine ((state m c t.val t.isLt).2 _ _).trans (h3 _ _ _ _ _ _ (Fin.ext ?_) (Fin.ext ?_) (Fin.ext ?_))
  · show t.val / 4 = win0_7.index t 0 * 1 + 1 * 0
    rw [e]; show _ = t.val / 4 * 1 + 1 * 0; omega
  · show t.val % 4 * 512 + y1.val = win0_7.index t 1 * 512 + 1 * y1.val
    rw [e]; show _ = t.val % 4 * 512 + 1 * y1.val; omega
  · show y2.val = win0_7.index t 2 * 1024 + 1 * y2.val
    rw [e]; show _ = 0 * 1024 + 1 * y2.val; omega

end Cert.CrossIdeal.Own
-- ==== Proof.RefCross.lean ====
module

public import proofs.«01_k».proof.Proof.Gen.RefCrossIdeal.Run
public import proofs.«01_k».proof.Proof.Sums
public import proofs.«01_k».proof.Proof.Attn

@[expose] public section

set_option maxRecDepth 16384

noncomputable section

open Cert.Own Idealize.ShloMosaic Idealize.ShloMosaic.TcCoe Idealize.SL.Sem

namespace Cert.RefCrossIdeal.Own

open Cert.RefCrossIdeal Cert.RefCrossIdeal.Gen

variable (m : (ℓ : Loc nD τ sig) → Buf (Elt Ideal) ℓ) (c : Dev nD)

/-- The residual's rows. -/
def X (b : Fin 16) (r : Fin 2048) (k : Fin 1024) : EReal := m ((c.tc : Thread nD τ).loc main_arg0) (ix3 b r k)
/-- The memory's keys, then its values. -/
def KV (b : Fin 16) (r : Fin 256) (k : Fin 1024) : EReal := m ((c.tc : Thread nD τ).loc main_arg1) (ix3 b r k)
/-- The gain of the norm. -/
def N (k : Fin 1024) : EReal := m ((c.tc : Thread nD τ).loc main_arg2) (ix1 k)
/-- The weights of the queries. -/
def Wq (k : Fin 1024) (q : Fin 512) : EReal := m ((c.tc : Thread nD τ).loc main_arg3) (ix2 k q)
/-- The weights of the output. -/
def Wo (k : Fin 512) (q : Fin 1024) : EReal := m ((c.tc : Thread nD τ).loc main_arg4) (ix2 k q)
/-- The gain of the queries' norm. -/
def Nq (k : Fin 128) : EReal := m ((c.tc : Thread nD τ).loc main_arg5) (ix1 k)
/-- The gain of the keys' norm. -/
def Nk (k : Fin 128) : EReal := m ((c.tc : Thread nD τ).loc main_arg6) (ix1 k)

/-- The query row before its norm. -/
def Q (b : Fin 16) (r : Fin 2048) (l : Fin 512) : EReal := ∑ k : Fin 1024, rms (X m c b r) (N m c) k * Wq m c k l
/-- The keys, normalised by head. -/
def K (b : Fin 16) (h : Fin 4) (j : Fin 256) (x : Fin 128) : EReal := rms128 (fun x => KV m c b j ⟨(lane h x).val, by omega⟩) (Nk m c) x
/-- The values. -/
def W (b : Fin 16) (h : Fin 4) (j : Fin 256) (x : Fin 128) : EReal := KV m c b j ⟨512 + (lane h x).val, by omega⟩
/-- One head's output. -/
def O (b : Fin 16) (r : Fin 2048) (h : Fin 4) (l : Fin 128) : EReal := head (fun x => Q m c b r (lane h x)) (Nq m c) (K m c b h) (W m c b h) l
/-- What the reference leaves: the residual plus the projection of the heads' outputs. -/
def spec (b : Fin 16) (r : Fin 2048) (q : Fin 1024) : EReal := X m c b r q + ∑ x : Fin 512, O m c b r (hd x) (ln x) * Wo m c x q

/-- The stages of the reference's text: the normed rows times the weights of the queries. -/
def vq (x : FVec Ideal S16x2048x1024 .f32) (n : FVec Ideal S1024 .f32) (w : FVec Ideal S1024x512 .f32) : FVec Ideal S16x2048x512 .f32 :=
  Host.dotGeneral dot_S16x2048x1024_S1024x512_S16x2048x512_2_0_01_1_n_n none (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 n))) w
/-- The queries, normalised by head. -/
def vqn (q : FVec Ideal S16x2048x4x128 .f32) (n : FVec Ideal S128 .f32) : FVec Ideal S16x2048x4x128 .f32 :=
  mulf (mulf q (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (mulf q q) (constant S_ .f32 0x00000000#32) reducesTo_S16x2048x4x128_S16x2048x4_d3 h_S_)) (broadcastInDim S16x2048x4x1 ![] bcast_S_S16x2048x4x1 (constant S_ .f32 0x43000000#32))) (broadcastInDim S16x2048x4x1 ![] bcast_S_S16x2048x4x1 (constant S_ .f32 0x358637BD#32)))))) (broadcastInDim S16x2048x4x128 ![0, 1, 2, 3] bcast_S1x1x1x128_S16x2048x4x128_0_1_2_3 (broadcastInDim S1x1x1x128 ![3] bcast_S128_S1x1x1x128_3 n))
/-- The keys, normalised by head. -/
def vkn (q : FVec Ideal S16x256x4x128 .f32) (n : FVec Ideal S128 .f32) : FVec Ideal S16x256x4x128 .f32 :=
  mulf (mulf q (broadcastInDim S16x256x4x128 ![0, 1, 2, 3] bcast_S16x256x4x1_S16x256x4x128_0_1_2_3 (Host.rsqrt (addf (Host.divf (broadcastInDim S16x256x4x1 ![0, 1, 2] bcast_S16x256x4_S16x256x4x1_0_1_2 (Host.reduceAdd (mulf q q) (constant S_ .f32 0x00000000#32) reducesTo_S16x256x4x128_S16x256x4_d3 h_S_)) (broadcastInDim S16x256x4x1 ![] bcast_S_S16x256x4x1 (constant S_ .f32 0x43000000#32))) (broadcastInDim S16x256x4x1 ![] bcast_S_S16x256x4x1 (constant S_ .f32 0x358637BD#32)))))) (broadcastInDim S16x256x4x128 ![0, 1, 2, 3] bcast_S1x1x1x128_S16x256x4x128_0_1_2_3 (broadcastInDim S1x1x1x128 ![3] bcast_S128_S1x1x1x128_3 n))
/-- The keys and values of four heads, cut from the memory. -/
def vk (kv : FVec Ideal S16x256x1024 .f32) : FVec Ideal S16x256x4x128 .f32 :=
  shapeCast _ (extractStridedSlice S16x256x512 ![0, 0, 0] kv slices_S16x256x1024_S16x256x512_0_0_0) shapeCasts_S16x256x512_S16x256x4x128
/-- The values of four heads, cut from the memory. -/
def vv (kv : FVec Ideal S16x256x1024 .f32) : FVec Ideal S16x256x4x128 .f32 :=
  shapeCast _ (extractStridedSlice S16x256x512 ![0, 0, 512] kv slices_S16x256x1024_S16x256x512_0_0_512) shapeCasts_S16x256x512_S16x256x4x128
/-- The scaled scores. -/
def vs (q : FVec Ideal S16x2048x4x128 .f32) (k : FVec Ideal S16x256x4x128 .f32) : FVec Ideal S16x4x2048x256 .f32 :=
  mulf (Host.dotGeneral dot_S16x2048x4x128_S16x256x4x128_S16x4x2048x256_3_3_1_1_02_02 none q k) (broadcastInDim S16x4x2048x256 ![] bcast_S_S16x4x2048x256 (constant S_ .f32 0x3DB504F3#32))
/-- The largest score of every query. -/
def vm (s : FVec Ideal S16x4x2048x256 .f32) : FVec Ideal S16x4x2048 .f32 :=
  Host.reduce FloatOps.maximumf s (constant S_ .f32 0xFF800000#32) reducesTo_S16x4x2048x256_S16x4x2048_d3 h_S_
/-- The largest score, bounded below by the reduction's start. -/
def vmm (m : FVec Ideal S16x4x2048 .f32) : FVec Ideal S16x4x2048 .f32 :=
  maximumf (broadcastInDim S16x4x2048 ![] bcast_S_S16x4x2048 (constant S_ .f32 0xFF800000#32)) m
/-- The exponentials of the scores less the largest. -/
def ve (s : FVec Ideal S16x4x2048x256 .f32) (m : FVec Ideal S16x4x2048 .f32) : FVec Ideal S16x4x2048x256 .f32 :=
  Host.exp (subf s (broadcastInDim S16x4x2048x256 ![0, 1, 2, 3] bcast_S16x4x2048x1_S16x4x2048x256_0_1_2_3 (broadcastInDim S16x4x2048x1 ![0, 1, 2] bcast_S16x4x2048_S16x4x2048x1_0_1_2 m)))
/-- The exponentials of the scores less the largest of their query. -/
def vx (s : FVec Ideal S16x4x2048x256 .f32) : FVec Ideal S16x4x2048x256 .f32 := ve s (vmm (vm s))
/-- The softmax of the scores. -/
def vp (e : FVec Ideal S16x4x2048x256 .f32) : FVec Ideal S16x4x2048x256 .f32 :=
  Host.divf e (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduceAdd e (constant S_ .f32 0x00000000#32) reducesTo_S16x4x2048x256_S16x4x2048_d3 h_S_)))
/-- The heads' outputs. -/
def vo (p : FVec Ideal S16x4x2048x256 .f32) (v : FVec Ideal S16x256x4x128 .f32) : FVec Ideal S16x2048x4x128 .f32 :=
  transpose S16x2048x4x128 [0, 3, 1, 2] (Host.dotGeneral dot_S16x256x4x128_S16x4x2048x256_S16x4x128x2048_1_3_3_2_02_01 none v p) transposes_S16x4x128x2048_S16x2048x4x128_0_3_1_2
/-- The residual plus the projection of the heads' outputs. -/
def vr (x : FVec Ideal S16x2048x1024 .f32) (o : FVec Ideal S16x2048x4x128 .f32) (w : FVec Ideal S512x1024 .f32) : FVec Ideal S16x2048x1024 .f32 :=
  addf x (Host.dotGeneral dot_S16x2048x512_S512x1024_S16x2048x1024_2_0_01_1_n_n none (shapeCast _ o shapeCasts_S16x2048x4x128_S16x2048x512) w)

/-- The reference's composed text is its stages. -/
theorem stages : Value.res_main_v63 m c
    = vr (m ((c.tc : Thread nD τ).loc main_arg0)) (vo (vp (vx (vs (vqn (shapeCast _ (vq (m ((c.tc : Thread nD τ).loc main_arg0)) (m ((c.tc : Thread nD τ).loc main_arg2)) (m ((c.tc : Thread nD τ).loc main_arg3))) shapeCasts_S16x2048x512_S16x2048x4x128) (m ((c.tc : Thread nD τ).loc main_arg5)))
        (vkn (vk (m ((c.tc : Thread nD τ).loc main_arg1))) (m ((c.tc : Thread nD τ).loc main_arg6)))))) (vv (m ((c.tc : Thread nD τ).loc main_arg1)))) (m ((c.tc : Thread nD τ).loc main_arg4)) := rfl

/-- The queries' projection at an entry. -/
theorem vq_at (b : Fin 16) (r : Fin 2048) (l : Fin 512) (x n w) : vq x n w (ix3 b r l) = ∑ k : Fin 1024, rms (fun k => x (ix3 b r k)) (fun k => n (ix1 k)) k * w (ix2 k l) := by
  unfold rms
  pointwise [vq]

/-- The normalised queries at an entry. -/
theorem vqn_at (b : Fin 16) (r : Fin 2048) (h : Fin 4) (x : Fin 128) (q n) : vqn q n (ix4 b r h x) = rms128 (fun x => q (ix4 b r h x)) (fun k => n (ix1 k)) x := by
  unfold rms128
  pointwise [vqn]

/-- The normalised keys at an entry. -/
theorem vkn_at (b : Fin 16) (r : Fin 256) (h : Fin 4) (x : Fin 128) (q n) : vkn q n (ix4 b r h x) = rms128 (fun x => q (ix4 b r h x)) (fun k => n (ix1 k)) x := by
  unfold rms128
  pointwise [vkn]

/-- The keys at an entry. -/
theorem vk_at (b : Fin 16) (r : Fin 256) (h : Fin 4) (x : Fin 128) (kv) : vk kv (ix4 b r h x) = kv (ix3 b r ⟨(lane h x).val, by omega⟩) := by
  unfold lane
  pointwise [vk]

/-- The values at an entry. -/
theorem vv_at (b : Fin 16) (r : Fin 256) (h : Fin 4) (x : Fin 128) (kv) : vv kv (ix4 b r h x) = kv (ix3 b r ⟨512 + (lane h x).val, by omega⟩) := by
  unfold lane
  pointwise [vv]

/-- The scaled scores at an entry. -/
theorem vs_at (b : Fin 16) (h : Fin 4) (r : Fin 2048) (j : Fin 256) (q k) : vs q k (ix4 b h r j) = (∑ x, q (ix4 b r h x) * k (ix4 b j h x)) * scale := by
  unfold scale
  pointwise [vs]

/-- The exponentials at an entry. -/
theorem ve_at (b : Fin 16) (h : Fin 4) (r : Fin 2048) (j : Fin 256) (s m) : ve s m (ix4 b h r j) = Ideal.exp (s (ix4 b h r j) - m (ix3 b h r)) := by
  pointwise [ve]

/-- The bounded maximum at an entry. -/
theorem vmm_at (b : Fin 16) (h : Fin 4) (r : Fin 2048) (m) : vmm m (ix3 b h r) = max (Ideal.ofBits FTy.f32 4286578688#32) (m (ix3 b h r)) := by
  pointwise [vmm]

/-- The largest along the last axis of an array of any size, at an entry. -/
theorem max_axis3 {n0 n1 n2 n3 : Nat} (x : FVec Ideal ⟨4, ![n0, n1, n2, n3]⟩ .f32) (z : BitVec 32)
    (r : (⟨4, ![n0, n1, n2, n3]⟩ : Shape).ReducesTo [3] ⟨3, ![n0, n1, n2]⟩) (hu : 0 < S_.numel) (i : Fin n0) (j : Fin n1) (k : Fin n2) :
    Host.reduce FloatOps.maximumf x (constant S_ .f32 z) r hu (ix3 i j k)
      = Finset.fold max (Ideal.ofBits FTy.f32 z) (fun l => x (ix4 i j k l)) Finset.univ := by
  pointwise

/-- The largest score of a query. -/
theorem vm_at (b : Fin 16) (h : Fin 4) (r : Fin 2048) (s) : vm s (ix3 b h r) = top fun j => s (ix4 b h r j) :=
  max_axis3 s _ _ _ b h r

/-- The exponentials of the scores less the largest, at an entry. -/
theorem vx_at (b : Fin 16) (h : Fin 4) (r : Fin 2048) (j : Fin 256) (s) : vx s (ix4 b h r j) = Ideal.exp (s (ix4 b h r j) - top (fun j => s (ix4 b h r j))) := by
  rw [vx, ve_at, vmm_at, vm_at, top, max_eq_right ((Finset.le_fold_max _).2 (Or.inl le_rfl))]

/-- The softmax at an entry. -/
theorem vp_at (b : Fin 16) (h : Fin 4) (r : Fin 2048) (j : Fin 256) (e) : vp e (ix4 b h r j) = Ideal.div (e (ix4 b h r j)) (∑ i, e (ix4 b h r i)) := by
  pointwise [vp]

/-- The heads' outputs at an entry. -/
theorem vo_at (b : Fin 16) (h : Fin 4) (r : Fin 2048) (l : Fin 128) (p v) : vo p v (ix4 b r h l) = ∑ j, v (ix4 b j h l) * p (ix4 b h r j) := by
  pointwise [vo]

/-- The result at an entry. -/
theorem vr_at (b : Fin 16) (r : Fin 2048) (q : Fin 1024) (x o w) : vr x o w (ix3 b r q) = x (ix3 b r q) + ∑ l : Fin 512, o (ix4 b r (hd l) (ln l)) * w (ix2 l q) := by
  unfold hd ln
  pointwise [vr]

/-- The queries, cut into heads, at an entry. -/
theorem cut_at (b : Fin 16) (r : Fin 2048) (h : Fin 4) (x : Fin 128) (q : FVec Ideal S16x2048x512 .f32) :
    shapeCast S16x2048x4x128 q shapeCasts_S16x2048x512_S16x2048x4x128 (ix4 b r h x) = q (ix3 b r (lane h x)) := by
  unfold lane
  pointwise

/-- The scale is a number at least zero. -/
theorem scale_pos : 0 ≤ scale ∧ scale ≠ ⊤ := by
  have e : scale = ((11863283 / 134217728 : ℝ) : EReal) := by
    unfold scale
    simp [Ideal.ofBits, Ideal.ieee, -EReal.coe_mul]
    norm_num
  rw [e]
  exact ⟨EReal.coe_nonneg.mpr (by norm_num), EReal.coe_ne_top _⟩

/-- Scaling the query before the product with a key or the sum afterwards is the same. -/
theorem scale_sum (q k : Fin 128 → EReal) : (∑ x, q x * k x) * scale = ∑ x, q x * scale * k x := by
  rw [mul_comm, mul_sum_of_nonneg _ _ scale_pos.1 scale_pos.2]
  exact Finset.sum_congr rfl fun x _ => by rw [mul_left_comm, mul_assoc]

/-- The reference's run ends with the result at `spec` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = (fun i => spec m c (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ⟨(h c).1.trans ?_, (h c).2⟩) (Cert.RefCrossIdeal.Value.run m ρ)
  funext i
  idx_vars i
  show _ = spec m c i0 i1 i2
  rw [stages, vr_at]
  unfold spec
  refine congrArg _ (Finset.sum_congr rfl fun l _ => congrArg (· * _) ?_)
  rw [vo_at]
  unfold O head soft
  refine Finset.sum_congr rfl fun j _ => ?_
  rw [mul_comm, vp_at, vv_at]
  have hs : ∀ j, vs (vqn (shapeCast _ (vq (m ((c.tc : Thread nD τ).loc main_arg0)) (m ((c.tc : Thread nD τ).loc main_arg2)) (m ((c.tc : Thread nD τ).loc main_arg3))) shapeCasts_S16x2048x512_S16x2048x4x128) (m ((c.tc : Thread nD τ).loc main_arg5)))
        (vkn (vk (m ((c.tc : Thread nD τ).loc main_arg1))) (m ((c.tc : Thread nD τ).loc main_arg6))) (ix4 i0 (hd l) i1 j)
      = score (fun x => Q m c i0 i1 (lane (hd l) x)) (Nq m c) (K m c i0 (hd l)) j := fun j => by
    rw [vs_at, scale_sum]
    refine Finset.sum_congr rfl fun x _ => ?_
    rw [vqn_at, vkn_at]
    simp only [cut_at, vq_at, vk_at]
    rfl
  simp only [vx_at, hs]
  rfl

/-- The reference's run leaves its arguments as they were and every counter at zero: it has no counters. -/
theorem quiescent (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => (h c).2, sem_eq_zero_of_no_sems (by decide) r.2⟩) (run m ρ)

end Cert.RefCrossIdeal.Own
-- ==== Proof.CrossClaim.lean ====
module

public import proofs.«01_k».proof.Defs
public import proofs.«01_k».proof.Proof.CrossValue
public import proofs.«01_k».proof.Proof.RefCross

@[expose] public section

set_option maxRecDepth 16384

noncomputable section

open Idealize.ShloMosaic Idealize.ShloMosaic.TcCoe Idealize.SL.Sem

namespace Cert.Own

/-- The attention over the memory: kernel and reference leave the same result. -/
theorem cross [Cert.CrossIdeal.Facts] [Cert.RefCrossIdeal.Facts] : algebraic_CrossIdeal_RefCrossIdeal := by
  intro m g m' g' _ ha
  refine ⟨fun c => fun i => Cert.CrossIdeal.Own.out m c (i 0) (i 1) (i 2), (θ_run _ _ _).mono (fun r h c => ⟨(h c).1.trans (Cert.CrossIdeal.Own.final m c), (h c).2⟩) (Cert.CrossIdeal.Value.run_blocks m g), ?_⟩
  refine (θ_run _ _ _).mono (fun r h c => ⟨(h c).1.trans ?_, (h c).2⟩) (Cert.RefCrossIdeal.Own.run m' g')
  obtain ⟨h0, h1, h2, h3, h4, h5, h6⟩ := ha c
  have e0 : Cert.RefCrossIdeal.Own.X m' c = Cert.CrossIdeal.Own.X m c := by funext b r k; exact congrFun h0 _
  have e1 : Cert.RefCrossIdeal.Own.KV m' c = Cert.CrossIdeal.Own.KV m c := by funext b r k; exact congrFun h1 _
  have e2 : Cert.RefCrossIdeal.Own.N m' c = Cert.CrossIdeal.Own.N m c := by funext k; exact congrFun h2 _
  have e3 : Cert.RefCrossIdeal.Own.Wq m' c = Cert.CrossIdeal.Own.Wq m c := by funext k q; exact congrFun h3 _
  have e4 : Cert.RefCrossIdeal.Own.Wo m' c = Cert.CrossIdeal.Own.Wo m c := by funext k q; exact congrFun h4 _
  have e5 : Cert.RefCrossIdeal.Own.Nq m' c = Cert.CrossIdeal.Own.Nq m c := by funext k; exact congrFun h5 _
  have e6 : Cert.RefCrossIdeal.Own.Nk m' c = Cert.CrossIdeal.Own.Nk m c := by funext k; exact congrFun h6 _
  funext i
  unfold Cert.RefCrossIdeal.Own.spec Cert.RefCrossIdeal.Own.O Cert.RefCrossIdeal.Own.Q Cert.RefCrossIdeal.Own.K Cert.RefCrossIdeal.Own.W
  rw [e0, e1, e2, e3, e4, e5, e6]
  rfl

end Cert.Own
-- ==== Proof.Router.lean ====
module

public import proofs.«01_k».proof.Proof.Sums
public import Idealize.ShloMosaic.Lib.SortPrefix

@[expose] public section

noncomputable section

open Idealize.ShloMosaic

namespace Cert.Own

/-- Of eight values `a` is the first of the largest and `b` the first of the largest among the others. -/
structure Two (l : Fin 8 → EReal) (a b : Fin 8) : Prop where
  ne : b ≠ a
  amax : ∀ j, l j ≤ l a
  afirst : ∀ j, j < a → l j < l a
  bmax : ∀ j, j ≠ a → l j ≤ l b
  bfirst : ∀ j, j ≠ a → j < b → l j < l b

/-- Of a set of positions that isn't empty one is the first with the largest value. -/
theorem exists_first (l : Fin 8 → EReal) (s : Finset (Fin 8)) (hs : s.Nonempty) :
    ∃ a ∈ s, (∀ j ∈ s, l j ≤ l a) ∧ ∀ j ∈ s, j < a → l j < l a := by
  obtain ⟨x, hx, hm⟩ := s.exists_max_image l hs
  have hne : (s.filter fun j => l j = l x).Nonempty := ⟨x, Finset.mem_filter.mpr ⟨hx, rfl⟩⟩
  have hmem := Finset.min'_mem _ hne
  obtain ⟨h1, h2⟩ := Finset.mem_filter.mp hmem
  refine ⟨_, h1, fun j hj => (hm j hj).trans h2.ge, fun j hj hlt => lt_of_le_of_ne ((hm j hj).trans h2.ge) fun e => ?_⟩
  exact absurd (Finset.min'_le _ j (Finset.mem_filter.mpr ⟨hj, e.trans h2⟩)) (not_le.mpr hlt)

/-- Eight values have a first largest and a first second largest. -/
theorem exists_two (l : Fin 8 → EReal) : ∃ a b, Two l a b := by
  obtain ⟨a, -, ha, ha'⟩ := exists_first l Finset.univ ⟨0, Finset.mem_univ _⟩
  have hne : (Finset.univ.erase a).Nonempty := by
    rw [← Finset.card_pos, Finset.card_erase_of_mem (Finset.mem_univ _), Finset.card_univ, Fintype.card_fin]
    omega
  obtain ⟨b, hb, hb1, hb2⟩ := exists_first l (Finset.univ.erase a) hne
  exact ⟨a, b, Finset.ne_of_mem_erase hb, fun j => ha j (Finset.mem_univ _), fun j => ha' j (Finset.mem_univ _),
    fun j hj => hb1 j (Finset.mem_erase.mpr ⟨hj, Finset.mem_univ _⟩), fun j hj => hb2 j (Finset.mem_erase.mpr ⟨hj, Finset.mem_univ _⟩)⟩

/-- Two relations that agree where the second position is the smaller one sort an ascending list alike: the sort asks nothing else. -/
theorem sort_agree {n : ℕ} (R R' : Fin n → Fin n → Bool) (h : ∀ a b, a < b → R b a = R' b a) (l : List (Fin n)) (hl : l.Pairwise (· < ·)) :
    stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- Before in the order by descending value, then by position. -/
def ahead (l : Fin 8 → EReal) (k k' : Fin 8) : Bool := decide (l k' < l k) || (decide (l k = l k') && decide (k < k'))

/-- That order is strict and total. -/
theorem ahead_total (l : Fin 8 → EReal) : StrictTotalBefore (ahead l) :=
  StrictTotalBefore.of_key_then_position (fun x y : EReal => decide (y < x)) l (fun a => by simp)
    (fun a b c h1 h2 => by simp only [decide_eq_true_eq] at *; exact h2.trans h1)
    (fun a b => by
      simp only [decide_eq_true_eq]
      rcases lt_trichotomy a b with h | h | h
      · exact Or.inr (Or.inr h)
      · exact Or.inr (Or.inl h)
      · exact Or.inl h)

/-- The stable sort by descending value begins with the two positions of `Two`. -/
theorem sorted_two (l : Fin 8 → EReal) (a b : Fin 8) (h : Two l a b) (R : Fin 8 → Fin 8 → Bool) (hR : ∀ k k', R k k' = decide (l k' < l k)) :
    sortedFrom R 0 = a ∧ sortedFrom R 1 = b := by
  have e : sortPositions 8 R = sortPositions 8 (ahead l) := by
    refine sort_agree R (ahead l) (fun x y hxy => ?_) _ (List.pairwise_lt_finRange 8)
    have : ¬ y < x := hxy.asymm
    simp [hR, ahead, this]
  have e' : sortedFrom R = sortedFrom (ahead l) := by
    funext k
    unfold sortedFrom
    rw [List.get_of_eq e]
    rfl
  have hσ := (ahead_total l).sortedFrom_eq_of_prefix (k := 2) (by omega) ![a, b]
    (by
      intro i j hij
      fin_cases i <;> fin_cases j
      · rfl
      · exact absurd hij.symm h.ne
      · exact absurd hij h.ne
      · rfl)
    (by
      intro i j hij
      fin_cases i <;> fin_cases j
      · exact absurd hij (by decide)
      · show ahead l b a = false
        by_cases e : l b = l a
        · have : ¬ b < a := fun hlt => absurd e (h.afirst b hlt).ne
          simp [ahead, e, this]
        · simp [ahead, e, h.amax b]
      · exact absurd hij (by decide)
      · exact absurd hij (by decide))
    (by
      intro i p hp
      have ha : p ≠ a := fun e => hp 0 e.symm
      have hb : p ≠ b := fun e => hp 1 e.symm
      fin_cases i
      · show ahead l p a = false
        by_cases e : l p = l a
        · have : ¬ p < a := fun hlt => absurd e (h.afirst p hlt).ne
          simp [ahead, e, this]
        · simp [ahead, e, h.amax p]
      · show ahead l p b = false
        by_cases e : l p = l b
        · have : ¬ p < b := fun hlt => absurd e (h.bfirst p ha hlt).ne
          simp [ahead, e, this]
        · simp [ahead, e, h.bmax p ha])
  rw [e']
  exact ⟨hσ 0, hσ 1⟩

/-- The largest of some values, if `a` holds it. -/
theorem fold_max {n : ℕ} (f : Fin n → EReal) (a : Fin n) (h : ∀ q, f q ≤ f a) : Finset.fold max (⊥ : EReal) f Finset.univ = f a :=
  le_antisymm (Finset.fold_max_le (f a) |>.mpr ⟨bot_le, fun q _ => h q⟩) (Finset.le_fold_max (f a) |>.mpr (Or.inr ⟨a, Finset.mem_univ _, le_rfl⟩))

/-- A lane's number as a word, read signed. -/
theorem lane_toInt (q : ℕ) (h : q ≤ 128) : (BitVec.ofNat 32 q).toInt = q := by
  rw [BitVec.toInt_eq_toNat_cond, BitVec.toNat_ofNat, Nat.mod_eq_of_lt (by omega)]
  split_ifs <;> omega

/-- The least lane number among the lanes with the largest value is the first such lane's. -/
theorem fold_first (f : Fin 128 → EReal) (a : Fin 128) (h : ∀ q, f q ≤ f a) (h' : ∀ q, q < a → f q < f a) :
    Finset.fold IntOp.minsi (2147483647#32) (fun q : Fin 128 => if f q = f a then BitVec.ofNat 32 q.val else 128#32) Finset.univ = BitVec.ofNat 32 a.val := by
  have hm : ∀ x y : BitVec 32, (IntOp.minsi x y).toInt = min x.toInt y.toInt := fun x y => by
    unfold IntOp.minsi
    split_ifs with hc
    · rw [BitVec.slt_iff_toInt_lt] at hc; omega
    · rw [BitVec.slt_iff_toInt_lt] at hc; omega
  refine BitVec.eq_of_toInt_eq ?_
  rw [← Finset.fold_hom (op' := min) (m := BitVec.toInt) hm, lane_toInt a.val (by have := a.isLt; omega)]
  have hv : ∀ q : Fin 128, (if f q = f a then BitVec.ofNat 32 q.val else 128#32).toInt = if f q = f a then (q.val : ℤ) else 128 := fun q => by
    split_ifs
    · exact lane_toInt _ (by have := q.isLt; omega)
    · rfl
  simp only [hv]
  refine le_antisymm (Finset.fold_min_le _ |>.mpr (Or.inr ⟨a, Finset.mem_univ _, by simp⟩)) (Finset.le_fold_min _ |>.mpr ⟨?_, fun q _ => ?_⟩)
  · have : (2147483647#32 : BitVec 32).toInt = 2147483647 := rfl
    omega
  · split_ifs with e
    · have : ¬ q < a := fun hlt => absurd e (h' q hlt).ne
      have : a.val ≤ q.val := not_lt.mp this
      omega
    · omega

/-- The constant below every number. -/
theorem bottom : Ideal.ofBits FTy.f32 4286578688#32 = (⊥ : EReal) := by
  simp [Ideal.ofBits, Ideal.ieee]

/-- The weight of position `q`: of the two chosen positions `a` and `b` the softmax of their values, of the others zero. -/
def gate (l : Fin 8 → EReal) (a b : Fin 8) (q : ℕ) : EReal :=
  (if q = a.val then Ideal.div 1 (1 + Ideal.exp (l b - l a)) else 0) + if q = b.val then Ideal.div (Ideal.exp (l b - l a)) (1 + Ideal.exp (l b - l a)) else 0

end Cert.Own
-- ==== Proof.RouterValue.lean ====
module

public import proofs.«01_k».proof.Proof.Gen.RouterIdeal.Value
public import proofs.«01_k».proof.Proof.Router
public import Idealize.ShloMosaic.Lib.Pipeline.ReadBack
public import Idealize.ShloMosaic.Lib.Routing.OpsSet

@[expose] public section

set_option maxRecDepth 16384

noncomputable section

open Idealize.ShloMosaic Idealize.ShloMosaic.TcCoe Idealize.SL.Sem

namespace Cert.RouterIdeal.Own

open Cert.RouterIdeal Cert.RouterIdeal.Gen Cert.RouterIdeal.Value

/-! ## The body at a row -/

section body

variable (x : Vec Ideal S1024x1024 .f32) (g : Vec Ideal S1x1024 .f32) (w : Vec Ideal S1024x128 .bf16) (p : Fin 1024)

/-- The eight logits laid over 128 lanes, the lanes past them at minus infinity. -/
def wide (l : Fin 8 → EReal) (q : Fin 128) : EReal := if h : q.val < 8 then l ⟨q.val, h⟩ else ⊥

/-- The lane of a logit. -/
def lane (j : Fin 8) : Fin 128 := ⟨j.val, by omega⟩

/-- A logit's lane holds it. -/
theorem wide_lane (l : Fin 8 → EReal) (j : Fin 8) : wide l (lane j) = l j := by
  unfold wide lane
  rw [dif_pos j.isLt]

/-- The body's masked logits at an entry. -/
theorem pay2_at (l : Fin 8 → EReal) (hl : ∀ j : Fin 8, (∑ k : Fin 1024, Cert.Own.rms (fun k => x (ix2 p k)) (fun k => g (ix2 0 k)) k * w (ix2 k (lane j))) = l j)
    (q : Fin 128) : k0_pay2 (F := Ideal) x g w (ix2 p q) = wide l q := by
  pointwise [k0_pay2]
  rw [WordCmp.cmpi_slt_ofNat (by omega) (by omega), Cert.Own.bottom]
  unfold wide
  by_cases h : q.val < 8
  · rw [dif_pos h, ← hl ⟨q.val, h⟩]
    simp only [h, Scalar.select]
    rfl
  · rw [dif_neg h]
    simp [h, Scalar.select]

/-- The body's second pass: the lane `c` masked as well. -/
def cut1 (l : Fin 8 → EReal) (a : Fin 8) (q : Fin 128) : EReal := if q = lane a then ⊥ else wide l q

variable (l : Fin 8 → EReal) (a b : Fin 8) (h2 : Cert.Own.Two l a b) (hf : ∀ j, l j ≠ ⊥)

include h2 in
/-- The largest lane. -/
theorem wide_le (q : Fin 128) : wide l q ≤ wide l (lane a) := by
  rw [wide_lane]
  unfold wide
  split_ifs with h
  · exact h2.amax _
  · exact bot_le

include h2 hf in
/-- No earlier lane is as large. -/
theorem wide_lt (q : Fin 128) (hq : q < lane a) : wide l q < wide l (lane a) := by
  rw [wide_lane]
  have h : q.val < a.val := hq
  have h8 : q.val < 8 := by omega
  unfold wide
  rw [dif_pos h8]
  exact h2.afirst ⟨q.val, h8⟩ h

include h2 in
/-- The second largest logit's lane is not the largest's. -/
theorem cut1_lane : cut1 l a (lane b) = l b := by
  unfold cut1
  rw [if_neg, wide_lane]
  intro e
  exact h2.ne (Fin.ext (Fin.mk.inj_iff.mp e))

include h2 in
/-- The largest lane of the second pass. -/
theorem cut1_le (q : Fin 128) : cut1 l a q ≤ cut1 l a (lane b) := by
  rw [cut1_lane l a b h2]
  unfold cut1 wide
  split_ifs with e h
  · exact bot_le
  · exact h2.bmax _ fun e' => e (Fin.ext (show q.val = a.val from e' ▸ rfl))
  · exact bot_le

include h2 hf in
/-- No earlier lane of the second pass is as large. -/
theorem cut1_lt (q : Fin 128) (hq : q < lane b) : cut1 l a q < cut1 l a (lane b) := by
  rw [cut1_lane l a b h2]
  have h : q.val < b.val := hq
  have h8 : q.val < 8 := by omega
  unfold cut1 wide
  split_ifs with e
  · exact bot_lt_iff_ne_bot.mpr (hf b)
  · exact h2.bfirst ⟨q.val, h8⟩ (fun e' => e (Fin.ext (show q.val = a.val from e' ▸ rfl))) h

variable (hl : ∀ j : Fin 8, (∑ k : Fin 1024, Cert.Own.rms (fun k => x (ix2 p k)) (fun k => g (ix2 0 k)) k * w (ix2 k (lane j))) = l j)

include h2 hl in
/-- The first pass finds the largest logit. -/
theorem pay3_at : k0_pay3 (F := Ideal) x g w (ix2 p 0) = wide l (lane a) := by
  pointwise [k0_pay3]
  simp only [pay2_at x g w p l hl, Cert.Own.bottom]
  exact Cert.Own.fold_max _ _ (wide_le l a b h2)

include h2 hf hl in
/-- The first pass finds its lane. -/
theorem pay4_at : k0_pay4 (F := Ideal) x g w (ix2 p 0) = BitVec.ofNat 32 a.val := by
  pointwise [k0_pay4]
  simp only [pay2_at x g w p l hl, pay3_at x g w p l a b h2 hl]
  exact Cert.Own.fold_first _ _ (wide_le l a b h2) (wide_lt l a b h2 hf)

include h2 hf hl in
/-- The second pass's lanes. -/
theorem pay5_at (q : Fin 128) : k0_pay5 (F := Ideal) x g w (ix2 p q) = cut1 l a q := by
  pointwise [k0_pay5]
  rw [pay4_at x g w p l a b h2 hf hl, pay2_at x g w p l hl, WordCmp.cmpi_eq_ofNat (by omega) (by omega), Cert.Own.bottom]
  unfold cut1
  by_cases e : q = lane a
  · rw [if_pos e]
    have : q.val = a.val := congrArg Fin.val e
    simp [this, Scalar.select]
  · rw [if_neg e]
    have : q.val ≠ a.val := fun e' => e (Fin.ext e')
    simp [this, Scalar.select]

include h2 hf hl in
/-- The second pass finds the second largest logit. -/
theorem pay6_at : k0_pay6 (F := Ideal) x g w (ix2 p 0) = cut1 l a (lane b) := by
  pointwise [k0_pay6]
  simp only [pay5_at x g w p l a b h2 hf hl, Cert.Own.bottom]
  exact Cert.Own.fold_max _ _ (cut1_le l a b h2)

include h2 hf hl in
/-- The body's result at an entry: the weight of the lane. -/
theorem body_at (q : Fin 128) : k0_pay1 (F := Ideal) (iota .tc S1024x128 32 [1] iota_S1024x128_d1_w32) (k0_pay3 x g w) (k0_pay4 x g w) (k0_pay6 x g w) (k0_pay7 x g w) k0_pay8 (ix2 p q)
    = Cert.Own.gate l a b q.val := by
  have e3 := pay3_at x g w p l a b h2 hl
  have e4 := pay4_at x g w p l a b h2 hf hl
  have e6 := pay6_at x g w p l a b h2 hf hl
  have e5 := pay5_at x g w p l a b h2 hf hl
  rw [wide_lane] at e3
  have e7 : ∀ q : Fin 128, Scalar.select (k0_pay7 (F := Ideal) x g w (ix2 p q)) (BitVec.ofNat 32 q.val) (k0_pay8 (ix2 p q)) = if cut1 l a q = cut1 l a (lane b) then BitVec.ofNat 32 q.val else 128#32 := fun q => by
    pointwise [k0_pay7, k0_pay8]
    simp only [e5, e6]
  pointwise [k0_pay1]
  simp only [e7, e3, e4, e6]
  rw [Cert.Own.fold_first _ _ (cut1_le l a b h2) (cut1_lt l a b h2 hf), cut1_lane l a b h2]
  show _ + Scalar.select (IntOp.cmpi CmpIPredicate.eq (BitVec.ofNat 32 q.val) (BitVec.ofNat 32 b.val)) _ _ = _
  rw [WordCmp.cmpi_eq_ofNat (by omega) (by omega), WordCmp.cmpi_eq_ofNat (by omega) (by omega)]
  have hs : ∀ (P : Prop) [Decidable P] (u : EReal), Scalar.select (BitVec.ofBool (decide P)) u 0 = if P then u else 0 := fun P _ u => by
    by_cases h : P <;> simp [h, Scalar.select]
  rw [hs, hs]
  rfl

end body

/-! ## The run -/

/-- Which block every window shows at every point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

variable (m : (ℓ : Loc nD τ sig) → Buf (Elt Ideal) ℓ) (c : Dev nD) (t : Fin cfg0.N)

/-- The row of the arrays which row `p` of point `t`'s block is. -/
def row (t : Fin cfg0.N) (p : Fin 1024) : Fin 32768 :=
  ⟨t.val * 1024 + p.val, by have h := lt_of_lt_of_eq t.isLt (show cfg0.N = 32 from N_0); have := p.isLt; omega⟩

/-- The input rows. -/
def X (r : Fin 32768) (k : Fin 1024) : EReal := m ((c.tc : Thread nD τ).loc main_arg0) (ix2 r k)
/-- The gain of the norm. -/
def N (k : Fin 1024) : EReal := m ((c.tc : Thread nD τ).loc main_arg1) (ix1 k)
/-- The router's weights. -/
def W (k : Fin 1024) (q : Fin 8) : EReal := m ((c.tc : Thread nD τ).loc main_arg2) (ix2 k q)

/-- The block of rows which the body reads. -/
theorem blk0 (p k : Fin 1024) : iblk m c 0 t (ix2 p k) = X m c (row t p) k := by
  unfold X
  blk_ext [iblk, V, idx t, row]

/-- The gain which the body reads. -/
theorem blk1 (k : Fin 1024) : iblk m c 1 t (ix2 0 k) = N m c k := by
  unfold N
  blk_simp [iblk, idx t]
  entry_read
  pointwise
  blk_ext [idx t]

/-- Where the entry of the weights at row `u 0` and column `u 1` is laid in the array of 128 lanes. -/
theorem lands (u : S1024x8.Idx) (i : IVec S1 32) (hi : ∀ s, i s = 0#32) :
    scatter_S1024x128_S1_S1024x8_01_n_1_0.resultIdx? u i = some (ix2 (u 0) (lane (u 1))) := by
  have h0 : ∀ a, scatter_S1024x128_S1_S1024x8_01_n_1_0.start u i a = 0 := fun a => by
    unfold ScatterDims.start
    split_ifs
    · rw [hi]; rfl
    · rfl
  have h1 : ∀ a, scatter_S1024x128_S1_S1024x8_01_n_1_0.window u a = ((ix2 (u 0) (lane (u 1)) : S1024x128.Idx) a).val := fun a => by
    match a with
    | 0 => rfl
    | 1 => rfl
  unfold ScatterDims.resultIdx?
  rw [dif_pos]
  · congr 1
    funext a
    refine Fin.ext ?_
    show (_ + (_ : ℤ)).toNat = _
    rw [h0, h1]
    simp
  · intro a
    rw [h0, h1]
    have := ((ix2 (u 0) (lane (u 1)) : S1024x128.Idx) a).isLt
    exact ⟨by omega, by rw [zero_add]; exact_mod_cast this⟩

/-- The weights which the body reads, in the first eight of 128 lanes. -/
theorem blk2 (k : Fin 1024) (j : Fin 8) : iblk m c 2 t (ix2 k (lane j)) = W m c k j := by
  unfold W
  blk_simp [iblk, idx t]
  entry_read
  have he : ((View.whole main_v3).slice (win0_2.rect t)).emb (ix2 k (lane j)) = (ix2 k (lane j) : S1024x128.Idx) := by
    blk_ext [idx t]
  rw [he]
  refine Routing.scatter_set_hit _ _ _ _ _ _ (fun u hu => ?_) (ix2 k j) (lands _ _ fun _ => rfl)
  have hu' := Option.some.inj ((lands u _ fun _ => rfl).symm.trans hu)
  have e0 : u 0 = k := congrFun hu' 0
  have e1 : (u 1).val = j.val := congrArg (fun f : S1024x128.Idx => (f 1).val) hu'
  have : u = ix2 k j := by
    funext a
    match a with
    | 0 => exact e0
    | 1 => exact Fin.ext e1
  rw [this]
  rfl

/-- A row's logits. -/
def logit (r : Fin 32768) (j : Fin 8) : EReal := ∑ k : Fin 1024, Cert.Own.rms (X m c r) (N m c) k * W m c k j

/-- Every point leaves the weights in its block. -/
theorem step (p : Fin 1024) (q : Fin 128) (a b : Fin 8) (h2 : Cert.Own.Two (logit m c (row t p)) a b) (hf : ∀ j, logit m c (row t p) j ≠ ⊥) :
    out0_3 (iblk m c 0 t) (iblk m c 1 t) (iblk m c 2 t) (ix2 p q) = Cert.Own.gate (logit m c (row t p)) a b q.val := by
  have hl : ∀ j : Fin 8, (∑ k : Fin 1024, Cert.Own.rms (fun k => iblk m c 0 t (ix2 p k)) (fun k => iblk m c 1 t (ix2 0 k)) k * iblk m c 2 t (ix2 k (lane j))) = logit m c (row t p) j := fun j => by
    unfold logit
    refine Finset.sum_congr rfl fun k _ => congrArg₂ _ ?_ (blk2 m c t k j)
    congr 1
    · funext k; exact blk0 m c t p k
    · funext k; exact blk1 m c t k
  rw [← body_at (iblk m c 0 t) (iblk m c 1 t) (iblk m c 2 t) p _ a b h2 hf hl q]
  unfold out0_3
  frame_out

/-- The first position chosen at a row. -/
def pickA (r : Fin 32768) : Fin 8 := (Cert.Own.exists_two (logit m c r)).choose
/-- The second position chosen at a row. -/
def pickB (r : Fin 32768) : Fin 8 := (Cert.Own.exists_two (logit m c r)).choose_spec.choose
/-- They are the first largest and the first second largest. -/
theorem picks (r : Fin 32768) : Cert.Own.Two (logit m c r) (pickA m c r) (pickB m c r) := (Cert.Own.exists_two (logit m c r)).choose_spec.choose_spec

/-- What the kernel leaves at row `r` and lane `q`. -/
def out (r : Fin 32768) (q : Fin 128) : EReal := Cert.Own.gate (logit m c r) (pickA m c r) (pickB m c r) q.val

/-- The result array holds `out`, when no logit is minus infinity. -/
theorem final (hf : ∀ r j, logit m c r j ≠ ⊥) : (dats m 0 c).arrAt 3 cfg0.N = (fun i => out m c (i 0) (i 1)) := by
  refine (dats m 0 c).arrAt_eq_of_covers 3 _ (by decide +kernel) fun t hf' y => ?_
  blk_simp
  rw [after0_3]
  idx_vars y
  have e : win0_3.index t = ![t.val, 0] := (idx t).2.2.2
  refine (step m c t _ _ _ _ (picks m c _) (hf _)).trans (congrArg₂ (out m c) (Fin.ext ?_) (Fin.ext ?_))
  · show t.val * 1024 + y0.val = win0_3.index t 0 * 1024 + 1 * y0.val
    rw [e]; show _ = t.val * 1024 + 1 * y0.val; omega
  · show y1.val = win0_3.index t 1 * 128 + 1 * y1.val
    rw [e]; show _ = 0 * 128 + 1 * y1.val; omega

end Cert.RouterIdeal.Own
-- ==== Proof.RefRouter.lean ====
module

public import proofs.«01_k».proof.Proof.Gen.RefRouterIdeal.Run
public import proofs.«01_k».proof.Proof.Router
public import Idealize.ShloMosaic.Lib.WordCmp

@[expose] public section

set_option maxRecDepth 16384

noncomputable section

open Idealize.ShloMosaic Idealize.ShloMosaic.TcCoe Idealize.SL.Sem

namespace Cert.RefRouterIdeal.Own

open Cert.RefRouterIdeal Cert.RefRouterIdeal.Gen

/-! ## The text, stage by stage -/

/-- The stage of the logits. -/
def vlog (x : FVec Ideal S32768x1024 .f32) (g : FVec Ideal S1024 .f32) (w : FVec Ideal S1024x8 .f32) : FVec Ideal S32768x8 .f32 :=
  Host.dotGeneral dot_S32768x1024_S1024x8_S32768x8_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) w

/-- The stage of the two largest values and their positions. -/
def vtop (z : FVec Ideal S32768x8 .f32) : (S32768x2.Idx → EReal) × IVec S32768x2 32 :=
  Host.topK S32768x2 1 (FloatOps.cmpfTotal (F := Ideal) (φ := .f32) .gt) z sliceFits_S32768x8_S32768x2

/-- The logits at an entry. -/
theorem vlog_at (x g w) (r : Fin 32768) (j : Fin 8) : vlog x g w (ix2 r j) = ∑ k : Fin 1024, Cert.Own.rms (fun k => x (ix2 r k)) (fun k => g (ix1 k)) k * w (ix2 k j) := by
  unfold Cert.Own.rms
  pointwise [vlog]

/-- The sort of a row by descending value, at the first two places. -/
theorem vtop_at (z : FVec Ideal S32768x8 .f32) (r : Fin 32768) (s : Fin 2) (p : Fin 8)
    (hp : ∀ R : Fin 8 → Fin 8 → Bool, (∀ k k', R k k' = decide (z (ix2 r k') < z (ix2 r k))) → sortedFrom R (s.castLE (by omega)) = p) :
    (vtop z).1 (ix2 r s) = z (ix2 r p) ∧ (vtop z).2 (ix2 r s) = BitVec.ofNat 32 p.val := by
  have hA : (fun k : Fin 8 => (ix2 r (s.castLE (by omega)) : S32768x8.Idx).along 1 k) = fun k => ix2 r k := by
    funext k d
    match d with
    | 0 => rfl
    | 1 => rfl
  have hJ : ∀ h : ∀ a : Fin 2, 0 + ((ix2 r s : S32768x2.Idx) (Fin.cast rfl a)).val < S32768x8.size a,
      (fun a => ⟨0 + ((ix2 r s : S32768x2.Idx) (Fin.cast rfl a)).val, h a⟩ : S32768x8.Idx) = ix2 r (s.castLE (by omega)) := fun h => by
    funext d
    match d with
    | 0 => exact Fin.ext (Nat.zero_add _)
    | 1 => exact Fin.ext (Nat.zero_add _)
  have hR := hp (fun k k' => FloatOps.cmpfTotal (F := Ideal) (φ := .f32) CmpDirection.gt (z (ix2 r k)) (z (ix2 r k')) == 1#1) fun k k' => by
    rw [Ideal.cmpfTotal_def]
    by_cases h : z (ix2 r k') < z (ix2 r k) <;> simp [Ideal.cmp, CmpDirection.ordered, h]
  have h1 : (vtop z).1 (ix2 r s) = z (ix2 r (sortedFrom (fun k k' => FloatOps.cmpfTotal (F := Ideal) (φ := .f32) CmpDirection.gt (z (ix2 r k)) (z (ix2 r k')) == 1#1) (s.castLE (by omega)))) := by
    unfold vtop Host.topK Host.sort2
    simp only [extractStridedSlice]
    rw [dif_pos (by decide : 1 < S32768x8.rank)]
    erw [hJ]
    exact congrArg (fun A : Fin 8 → S32768x8.Idx => z (A (sortedFrom (fun k k' => FloatOps.cmpfTotal (F := Ideal) (φ := .f32) CmpDirection.gt (z (A k)) (z (A k')) == 1#1) (s.castLE (by omega))))) hA
  have h2 : (vtop z).2 (ix2 r s) = BitVec.ofNat 32 (sortedFrom (fun k k' => FloatOps.cmpfTotal (F := Ideal) (φ := .f32) CmpDirection.gt (z (ix2 r k)) (z (ix2 r k')) == 1#1) (s.castLE (by omega))).val := by
    unfold vtop Host.topK Host.sort2
    simp only [extractStridedSlice]
    rw [dif_pos (by decide : 1 < S32768x8.rank)]
    erw [hJ]
    exact congrArg (fun A : Fin 8 → S32768x8.Idx => iotaInDim S32768x8 32 1 (A (sortedFrom (fun k k' => FloatOps.cmpfTotal (F := Ideal) (φ := .f32) CmpDirection.gt (z (A k)) (z (A k')) == 1#1) (s.castLE (by omega))))) hA
  rw [hR] at h1 h2
  exact ⟨h1, h2⟩

/-- The stage of the rows' maxima. -/
def vmax (t : FVec Ideal S32768x2 .f32) : FVec Ideal S32768 .f32 :=
  maximumf (broadcastInDim S32768 ![] bcast_S_S32768 (constant S_ .f32 0xFF800000#32)) (Host.reduce FloatOps.maximumf t (constant S_ .f32 0xFF800000#32) reducesTo_S32768x2_S32768_d1 h_S_)

/-- The stage of the exponentials. -/
def vexp (t : FVec Ideal S32768x2 .f32) (s : FVec Ideal S32768 .f32) : FVec Ideal S32768x2 .f32 :=
  Host.exp (subf t (broadcastInDim S32768x2 ![0, 1] bcast_S32768x1_S32768x2_0_1 (broadcastInDim S32768x1 ![0] bcast_S32768_S32768x1_0 s)))

/-- The stage of the two weights of a row. -/
def vwts (e : FVec Ideal S32768x2 .f32) : FVec Ideal S32768x2 .f32 :=
  Host.divf e (broadcastInDim S32768x2 ![0, 1] bcast_S32768x1_S32768x2_0_1 (broadcastInDim S32768x1 ![0] bcast_S32768_S32768x1_0 (Host.reduceAdd e (constant S_ .f32 0x00000000#32) reducesTo_S32768x2_S32768_d1 h_S_)))

/-- The stage of the weights laid at their positions. -/
def vlay (i : IVec S32768x2 32) (u : FVec Ideal S32768x2 .f32) : FVec Ideal S32768x8 .f32 :=
  Host.reduceAdd (mulf (uitofp .f32 (cmpi .eq (broadcastInDim S32768x2x8 ![0, 1, 2] bcast_S32768x2x1_S32768x2x8_0_1_2 (broadcastInDim S32768x2x1 ![0, 1] bcast_S32768x2_S32768x2x1_0_1 i)) (broadcastInDim S32768x2x8 ![0, 1, 2] bcast_S1x1x8_S32768x2x8_0_1_2 (iotaInDim S1x1x8 32 2)))) (broadcastInDim S32768x2x8 ![0, 1, 2] bcast_S32768x2x1_S32768x2x8_0_1_2 (broadcastInDim S32768x2x1 ![0, 1] bcast_S32768x2_S32768x2x1_0_1 u))) (constant S_ .f32 0x00000000#32) reducesTo_S32768x2x8_S32768x8_d1 h_S_

/-- The stage of the lanes past the eighth, at zero. -/
def vpad (o : FVec Ideal S32768x8 .f32) : FVec Ideal S32768x128 .f32 :=
  pad S32768x128 ![0, 0] ![0, 120] ![0, 0] o (sitofp .f32 (constantI S_ 32 0#32)) pads_S32768x8_S32768x128_000_01200 h_S_

/-- The text is its stages. -/
theorem staged (m : (ℓ : Loc nD τ sig) → Buf (Elt Ideal) ℓ) (c : Dev nD) :
    (Value.res_main_v30 m c : FVec Ideal S32768x128 .f32) = (let t := vtop (vlog (m ((c.tc : Thread nD τ).loc main_arg0)) (m ((c.tc : Thread nD τ).loc main_arg1)) (m ((c.tc : Thread nD τ).loc main_arg2)))
      vpad (vlay t.2 (vwts (vexp t.1 (vmax t.1))))) := rfl

/-! ## The stages at an entry -/

/-- The maximum of a row whose first value is the larger. -/
theorem vmax_at (t : FVec Ideal S32768x2 .f32) (r : Fin 32768) (h : t (ix2 r 1) ≤ t (ix2 r 0)) : vmax t (ix1 r) = t (ix2 r 0) := by
  pointwise [vmax]
  rw [Cert.Own.bottom, Cert.Own.fold_max (fun x : Fin 2 => t (ix2 r x)) 0, max_eq_right bot_le]
  intro q
  fin_cases q
  · exact le_rfl
  · exact h

/-- An exponential. -/
theorem vexp_at (t : FVec Ideal S32768x2 .f32) (s : FVec Ideal S32768 .f32) (r : Fin 32768) (i : Fin 2) : vexp t s (ix2 r i) = Ideal.exp (t (ix2 r i) - s (ix1 r)) := by
  pointwise [vexp]

/-- A weight of a row. -/
theorem vwts_at (e : FVec Ideal S32768x2 .f32) (r : Fin 32768) (i : Fin 2) : vwts e (ix2 r i) = Ideal.div (e (ix2 r i)) (e (ix2 r 0) + e (ix2 r 1)) := by
  pointwise [vwts]
  rw [Fin.sum_univ_two]

/-- The weights laid at two positions. -/
theorem vlay_at (i : IVec S32768x2 32) (u : FVec Ideal S32768x2 .f32) (r : Fin 32768) (j a b : Fin 8) (ha : i (ix2 r 0) = BitVec.ofNat 32 a.val) (hb : i (ix2 r 1) = BitVec.ofNat 32 b.val) :
    vlay i u (ix2 r j) = (if j.val = a.val then u (ix2 r 0) else 0) + if j.val = b.val then u (ix2 r 1) else 0 := by
  have hs : ∀ (d : Fin 8) (v : EReal), HMul.hMul (α := EReal) (β := EReal) (γ := EReal) (FloatOps.uitofp (F := Ideal) FTy.f32 (IntOp.cmpi CmpIPredicate.eq (BitVec.ofNat 32 d.val) (BitVec.ofNat 32 j.val))) v = if j.val = d.val then v else 0 := fun d v => by
    rw [WordCmp.cmpi_eq_ofNat (by omega) (by omega)]
    show (((BitVec.ofBool (decide (d.val = j.val))).toNat : ℝ) : EReal) * v = _
    by_cases h : j.val = d.val
    · simp [h]
    · have h' : ¬ d.val = j.val := fun e => h e.symm
      simp [h, h']
  pointwise [vlay]
  rw [Fin.sum_univ_two, ha, hb, hs, hs]

/-- The lanes past the eighth hold zero. -/
theorem vpad_at (o : FVec Ideal S32768x8 .f32) (r : Fin 32768) (q : Fin 128) : vpad o (ix2 r q) = if h : q.val < 8 then o (ix2 r ⟨q.val, h⟩) else 0 := by
  pointwise [vpad]
  have : FloatOps.sitofp (F := Ideal) FTy.f32 (0#32 : BitVec 32) = (0 : EReal) := by
    show (((0#32 : BitVec 32).toInt : ℝ) : EReal) = 0
    simp
  rw [this]

/-- The stages together at an entry: the weight of the lane. -/
theorem stages_at (z : FVec Ideal S32768x8 .f32) (r : Fin 32768) (q : Fin 128) (l : Fin 8 → EReal) (hz : ∀ j, z (ix2 r j) = l j) (a b : Fin 8) (h2 : Cert.Own.Two l a b)
    (hf : l a = ((l a).toReal : EReal)) : vpad (vlay (vtop z).2 (vwts (vexp (vtop z).1 (vmax (vtop z).1)))) (ix2 r q) = Cert.Own.gate l a b q.val := by
  obtain ⟨t0, i0⟩ := vtop_at z r 0 a fun R hR => (Cert.Own.sorted_two l a b h2 R (by simpa only [hz] using hR)).1
  obtain ⟨t1, i1⟩ := vtop_at z r 1 b fun R hR => (Cert.Own.sorted_two l a b h2 R (by simpa only [hz] using hR)).2
  rw [hz] at t0 t1
  have hm : vmax (vtop z).1 (ix1 r) = l a := by
    rw [vmax_at _ _ (by rw [t0, t1]; exact h2.amax b), t0]
  have e0 : vexp (vtop z).1 (vmax (vtop z).1) (ix2 r 0) = 1 := by
    rw [vexp_at, t0, hm, hf, ← EReal.coe_sub, sub_self, Ideal.exp_coe, Real.exp_zero, EReal.coe_one]
  have e1 : vexp (vtop z).1 (vmax (vtop z).1) (ix2 r 1) = Ideal.exp (l b - l a) := by
    rw [vexp_at, t1, hm]
  rw [vpad_at]
  unfold Cert.Own.gate
  by_cases h : q.val < 8
  · rw [dif_pos h, vlay_at _ _ r _ a b i0 i1, vwts_at, vwts_at, e0, e1]
  · have ha : ¬ q.val = a.val := by omega
    have hb : ¬ q.val = b.val := by omega
    rw [dif_neg h, if_neg ha, if_neg hb, add_zero]

/-! ## The run -/

variable (m : (ℓ : Loc nD τ sig) → Buf (Elt Ideal) ℓ) (c : Dev nD)

/-- The input rows. -/
def X (r : Fin 32768) (k : Fin 1024) : EReal := m ((c.tc : Thread nD τ).loc main_arg0) (ix2 r k)
/-- The gain of the norm. -/
def N (k : Fin 1024) : EReal := m ((c.tc : Thread nD τ).loc main_arg1) (ix1 k)
/-- The router's weights. -/
def W (k : Fin 1024) (q : Fin 8) : EReal := m ((c.tc : Thread nD τ).loc main_arg2) (ix2 k q)

/-- A row's logits. -/
def logit (r : Fin 32768) (j : Fin 8) : EReal := ∑ k : Fin 1024, Cert.Own.rms (X m c r) (N m c) k * W m c k j

/-- What the reference leaves at row `r` and lane `q`. -/
theorem text_at (r : Fin 32768) (q : Fin 128) (a b : Fin 8) (h2 : Cert.Own.Two (logit m c r) a b) (hf : logit m c r a = ((logit m c r a).toReal : EReal)) :
    (Value.res_main_v30 m c : FVec Ideal S32768x128 .f32) (ix2 r q) = Cert.Own.gate (logit m c r) a b q.val :=
  (congrFun (staged m c) _).trans (stages_at _ r q _ (fun j => vlog_at _ _ _ r j) a b h2 hf)

/-- The reference's run leaves its arguments as they were and every counter at zero: it has no counters. -/
theorem quiescent (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩) (Value.run m ρ)

end Cert.RefRouterIdeal.Own
-- ==== Proof.RouterClaim.lean ====
module

public import proofs.«01_k».proof.Defs
public import proofs.«01_k».proof.Proof.RouterValue
public import proofs.«01_k».proof.Proof.RefRouter
public import proofs.«01_k».proof.Proof.SbClaim

@[expose] public section

set_option maxRecDepth 16384

noncomputable section

open Idealize.ShloMosaic Idealize.ShloMosaic.TcCoe Idealize.SL.Sem

namespace Cert.Pre_finite_logits.Own

/-- The side conditions of the precondition's text. -/
instance facts : Cert.Pre_finite_logits.Facts := by
  constructor <;> decide

end Cert.Pre_finite_logits.Own

namespace Cert.Own

/-- What the precondition says: every logit is a real number. -/
theorem logits_of_pre [Cert.Pre_finite_logits.Facts] (m : (ℓ : Loc Cert.RouterIdeal.nD Cert.RouterIdeal.τ Cert.RouterIdeal.sig) → Buf (Elt Ideal) ℓ)
    (h : Pre_RouterIdeal_finite_logits m) (c : Dev Cert.RouterIdeal.nD) (r : Fin 32768) (j : Fin 8) :
    Cert.RouterIdeal.Own.logit m c r j = ((Cert.RouterIdeal.Own.logit m c r j).toReal : EReal) := by
  have := congrFun (h c) (ix2 r j)
  unfold Cert.Pre_finite_logits.fn at this
  pointwise at this
  have hb : ∀ a : Bool, BitVec.ofBool a = 1#1 → a = true := by decide
  exact real_of_abs _ (lt_of_lt_of_le (of_decide_eq_true (hb _ this)) le_top)

/-- The router: kernel and reference leave the same result. -/
theorem router [Cert.RouterIdeal.Facts] [Cert.RefRouterIdeal.Facts] [Cert.Pre_finite_logits.Facts] : algebraic_RouterIdeal_RefRouterIdeal_pre_finite_logits := by
  intro m g m' g' hp ha
  have hr := logits_of_pre m hp
  refine ⟨fun c i => Cert.RouterIdeal.Own.out m c (i 0) (i 1), (θ_run _ _ _).mono (fun r h c => ⟨(h c).1.trans
    (Cert.RouterIdeal.Own.final m c fun r j => by rw [hr c r j]; exact EReal.coe_ne_bot _), (h c).2⟩)
    (Cert.RouterIdeal.Value.run_blocks m g), ?_⟩
  refine (θ_run _ _ _).mono (fun r h c => ⟨(h c).1.trans ?_, (h c).2⟩) (Cert.RefRouterIdeal.Value.run m' g')
  obtain ⟨h0, h1, h2⟩ := ha c
  have e0 : Cert.RefRouterIdeal.Own.X m' c = Cert.RouterIdeal.Own.X m c := by funext r k; exact congrFun h0 _
  have e1 : Cert.RefRouterIdeal.Own.N m' c = Cert.RouterIdeal.Own.N m c := by funext k; exact congrFun h1 _
  have e2 : Cert.RefRouterIdeal.Own.W m' c = Cert.RouterIdeal.Own.W m c := by funext k q; exact congrFun h2 _
  have el : Cert.RefRouterIdeal.Own.logit m' c = Cert.RouterIdeal.Own.logit m c := by
    funext r j
    unfold Cert.RefRouterIdeal.Own.logit Cert.RouterIdeal.Own.logit
    rw [e0, e1, e2]
  have key : ∀ r q, (Cert.RefRouterIdeal.Value.res_main_v30 m' c : FVec Ideal Cert.RefRouterIdeal.S32768x128 .f32) (ix2 r q) = Cert.RouterIdeal.Own.out m c r q := by
    intro r q
    have h2 := Cert.RouterIdeal.Own.picks m c r
    have hf := hr c r (Cert.RouterIdeal.Own.pickA m c r)
    rw [← el] at h2 hf
    rw [Cert.RefRouterIdeal.Own.text_at m' c r q _ _ h2 hf, el]
    rfl
  funext i
  exact (congrArg _ (eq_ix2 i)).trans (key (i 0) (i 1))

end Cert.Own
-- ==== Proof.KvValue.lean ====
module

public import proofs.«01_k».proof.Proof.Gen.KvIdeal.Value
public import proofs.«01_k».proof.Proof.Sums
public import Idealize.ShloMosaic.Lib.Pipeline.ReadBack

@[expose] public section

set_option maxRecDepth 16384

noncomputable section

open Idealize.ShloMosaic Idealize.ShloMosaic.TcCoe Idealize.SL.Sem

namespace Cert.KvIdeal.Own

open Cert.KvIdeal Cert.KvIdeal.Gen Cert.KvIdeal.Value

/-- Which block every input window shows at every point. -/
theorem idx : ∀ t : Fin cfg0.N, win0_0.index t = ![t.val / 2, 0] ∧ win0_1.index t = ![0, 0] ∧ win0_2.index t = ![0, t.val % 2] :=
  (by decide +kernel : ∀ t : Fin grid0.N, _)

variable (m : (ℓ : Loc nD τ sig) → Buf (Elt Ideal) ℓ) (c : Dev nD) (t : Fin cfg0.N)

/-- The row of the arrays which row `p` of point `t`'s block is. -/
def row (t : Fin cfg0.N) (p : Fin 1024) : Fin 4096 :=
  ⟨t.val / 2 * 1024 + p.val, by have h := lt_of_lt_of_eq t.isLt (show cfg0.N = 8 from N_0); have := p.isLt; omega⟩

/-- The column of the result which column `j` of point `t`'s block is. -/
def col (t : Fin cfg0.N) (j : Fin 512) : Fin 1024 := ⟨t.val % 2 * 512 + j.val, by omega⟩

/-- The rows of the memory. -/
def X (r : Fin 4096) (k : Fin 1024) : EReal := m ((c.tc : Thread nD τ).loc main_arg0) (ix2 r k)
/-- The gain of the norm. -/
def N (k : Fin 1024) : EReal := m ((c.tc : Thread nD τ).loc main_arg1) (ix1 k)
/-- The weights. -/
def W (k : Fin 1024) (q : Fin 1024) : EReal := m ((c.tc : Thread nD τ).loc main_arg2) (ix2 k q)

/-- The block of rows which the body reads. -/
theorem blk0 (p k : Fin 1024) : iblk m c 0 t (ix2 p k) = X m c (row t p) k := by
  unfold X
  blk_ext [iblk, V, idx t, row]

/-- The gain which the body reads. -/
theorem blk1 (k : Fin 1024) : iblk m c 1 t (ix2 0 k) = N m c k := by
  unfold N
  blk_simp [iblk, idx t]
  entry_read
  pointwise
  blk_ext [idx t]

/-- The block of weights which the body reads. -/
theorem blk2 (k : Fin 1024) (j : Fin 512) : iblk m c 2 t (ix2 k j) = W m c k (col t j) := by
  unfold W
  blk_simp [iblk, idx t]
  entry_read
  pointwise
  blk_ext [idx t, col]

/-- The first point over a block of rows leaves the normalised rows in the scratch and the product in the output. -/
theorem step_A (h0 : t.val % 2 = 0) : (outsAt0 m c t.val t.isLt).2 = k0_pay1 (iblk m c 0 t) (iblk m c 1 t)
    ∧ (outsAt0 m c t.val t.isLt).1 = k0_pay2 (k0_pay1 (iblk m c 0 t) (iblk m c 1 t)) (iblk m c 2 t) := by
  rw [outsAt0_A m c t h0]
  constructor <;> frame_out

/-- Every later point keeps the scratch and leaves its product with the point's weights. -/
theorem step_B (h0 : ¬t.val % 2 = 0) (xs0 : Vec Ideal S1024x1024 .bf16)
    (e0 : (outsAt0 m c (t.val - 1) (Nat.lt_of_le_of_lt (Nat.sub_le _ _) t.isLt)).2 = xs0) :
    (outsAt0 m c t.val t.isLt).2 = xs0 ∧ (outsAt0 m c t.val t.isLt).1 = k0_pay2 xs0 (iblk m c 2 t) := by
  rw [outsAt0_B m c t h0, e0]
  refine ⟨rfl, ?_⟩
  frame_out
  simp only [read_unread_whole]

/-- The norm of the body at an entry. -/
theorem pay1_at (x : Vec Ideal S1024x1024 .f32) (g : Vec Ideal S1x1024 .f32) (p q : Fin 1024) :
    k0_pay1 x g (ix2 p q) = Cert.Own.rms (fun k => x (ix2 p k)) (fun k => g (ix2 0 k)) q := by
  unfold Cert.Own.rms
  pointwise [k0_pay1]

/-- The product of the body at an entry. -/
theorem pay2_at (h : Vec Ideal S1024x1024 .bf16) (w : Vec Ideal S1024x512 .bf16) (p : Fin 1024) (j : Fin 512) :
    k0_pay2 h w (ix2 p j) = ∑ k : Fin 1024, h (ix2 p k) * w (ix2 k j) := by
  pointwise [k0_pay2]

/-- What the kernel leaves at row `r` and column `q`: the product of the normalised row with the column. -/
def out (r : Fin 4096) (q : Fin 1024) : EReal := ∑ k : Fin 1024, Cert.Own.rms (X m c r) (N m c) k * W m c k q

/-- The body's product over normalised rows is `out`. -/
theorem out_at (h : Vec Ideal S1024x1024 .bf16) (hh : ∀ p k, h (ix2 p k) = Cert.Own.rms (X m c (row t p)) (N m c) k) (p : Fin 1024) (j : Fin 512) :
    k0_pay2 h (iblk m c 2 t) (ix2 p j) = out m c (row t p) (col t j) := by
  rw [pay2_at, out]
  exact Finset.sum_congr rfl fun k _ => congrArg₂ _ (hh p k) (blk2 m c t k j)

/-- The first point over a block of rows: the scratch holds the normalised rows, the output block holds `out`. -/
theorem first (h0 : t.val % 2 = 0) : (∀ p k, (outsAt0 m c t.val t.isLt).2 (ix2 p k) = Cert.Own.rms (X m c (row t p)) (N m c) k)
    ∧ ∀ p j, (outsAt0 m c t.val t.isLt).1 (ix2 p j) = out m c (row t p) (col t j) := by
  obtain ⟨e0, e1⟩ := step_A m c t h0
  have hh : ∀ p k, k0_pay1 (F := Ideal) (iblk m c 0 t) (iblk m c 1 t) (ix2 p k) = Cert.Own.rms (X m c (row t p)) (N m c) k := fun p k => by
    rw [pay1_at]
    congr 1
    · funext k; exact blk0 m c t p k
    · funext k; exact blk1 m c t k
  exact ⟨fun p k => (congrFun e0 _).trans (hh p k), fun p j => (congrFun e1 _).trans (out_at m c t _ hh p j)⟩

/-- After every point the scratch holds the normalised rows of the point's block, and the output block holds `out`. -/
theorem state (n : ℕ) : ∀ (h : n < cfg0.N), (∀ p k, (outsAt0 m c n h).2 (ix2 p k) = Cert.Own.rms (X m c (row ⟨n, h⟩ p)) (N m c) k)
    ∧ ∀ p j, (outsAt0 m c n h).1 (ix2 p j) = out m c (row ⟨n, h⟩ p) (col ⟨n, h⟩ j) := by
  induction n with
  | zero => exact fun h => first m c ⟨0, h⟩ (by simp)
  | succ n ih =>
    intro h
    by_cases h0 : (n + 1) % 2 = 0
    · exact first m c ⟨n + 1, h⟩ h0
    obtain ⟨i0, -⟩ := ih (by omega)
    have hr : ∀ p, row ⟨n, by omega⟩ p = row ⟨n + 1, h⟩ p := fun p => by
      ext; show n / 2 * 1024 + p.val = (n + 1) / 2 * 1024 + p.val; omega
    simp only [hr] at i0
    obtain ⟨e0, e1⟩ := step_B m c ⟨n + 1, h⟩ h0 _ rfl
    exact ⟨fun p k => (congrFun e0 _).trans (i0 p k), fun p j => (congrFun e1 _).trans (out_at m c ⟨n + 1, h⟩ _ i0 p j)⟩

/-- The result array holds `out`. -/
theorem final (r : Fin 4096) (q : Fin 1024) : (G3 m c : FVec Ideal S4096x1024 .f32) (ix2 r q) = out m c r q := by
  have hN : cfg0.N = 8 := N_0
  have hp : pt3Of (ix2 r q) = 2 * (r.val / 1024) + q.val / 512 := by
    show 2 * (r.val / 1024 - 0) + 1 * (q.val / 512 - 0) = _
    omega
  have hlt : pt3Of (ix2 r q) < cfg0.N := by omega
  unfold G3
  rw [dif_pos hlt]
  have hw := outsAt0_sweep m c (pt3Of (ix2 r q)) hlt
  obtain ⟨-, s1⟩ := state m c (pt3Of (ix2 r q)) hlt
  have hl : loc3Of (ix2 r q) = ix2 ⟨r.val % 1024, by omega⟩ ⟨q.val % 512, by omega⟩ := by
    funext a
    match a with
    | 0 => rfl
    | 1 => rfl
  have hrow : row ⟨pt3Of (ix2 r q), hlt⟩ ⟨r.val % 1024, by omega⟩ = r := by
    ext; show pt3Of (ix2 r q) / 2 * 1024 + r.val % 1024 = r.val; omega
  have hcol : col ⟨pt3Of (ix2 r q), hlt⟩ ⟨q.val % 512, by omega⟩ = q := by
    ext; show pt3Of (ix2 r q) % 2 * 512 + q.val % 512 = q.val; omega
  rw [← hw, hl, s1, hrow, hcol]

end Cert.KvIdeal.Own
-- ==== Proof.RefKv.lean ====
module

public import proofs.«01_k».proof.Proof.Gen.RefKvIdeal.Run
public import proofs.«01_k».proof.Proof.Sums

@[expose] public section

set_option maxRecDepth 16384

noncomputable section

open Idealize.ShloMosaic Idealize.ShloMosaic.TcCoe Idealize.SL.Sem

namespace Cert.RefKvIdeal.Own

open Cert.RefKvIdeal Cert.RefKvIdeal.Gen

variable (m : (ℓ : Loc nD τ sig) → Buf (Elt Ideal) ℓ) (c : Dev nD)

/-- The rows of the memory. -/
def X (r : Fin 4096) (k : Fin 1024) : EReal := m ((c.tc : Thread nD τ).loc main_arg0) (ix2 r k)
/-- The gain of the norm. -/
def N (k : Fin 1024) : EReal := m ((c.tc : Thread nD τ).loc main_arg1) (ix1 k)
/-- The weights. -/
def W (k : Fin 1024) (q : Fin 1024) : EReal := m ((c.tc : Thread nD τ).loc main_arg2) (ix2 k q)

/-- What the reference leaves at row `r` and column `q`: the product of the normalised row with the column. -/
def spec (r : Fin 4096) (q : Fin 1024) : EReal := ∑ k : Fin 1024, Cert.Own.rms (X m c r) (N m c) k * W m c k q

/-- The reference's run ends with the result at `spec` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = (fun i => spec m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Cert.RefKvIdeal.Value.run m ρ)
  funext i
  idx_vars i
  unfold spec X N W Cert.Own.rms
  pointwise

/-- The reference's run leaves its arguments as they were and every counter at zero: it has no counters. -/
theorem quiescent (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩) (run m ρ)

end Cert.RefKvIdeal.Own
-- ==== Proof.KvClaim.lean ====
module

public import proofs.«01_k».proof.Defs
public import proofs.«01_k».proof.Proof.KvValue
public import proofs.«01_k».proof.Proof.RefKv

@[expose] public section

set_option maxRecDepth 16384

noncomputable section

open Idealize.ShloMosaic Idealize.ShloMosaic.TcCoe Idealize.SL.Sem

namespace Cert.Own

/-- The keys and values of the memory: kernel and reference leave the same result. -/
theorem kv [Cert.KvIdeal.Facts] [Cert.RefKvIdeal.Facts] : algebraic_KvIdeal_RefKvIdeal := by
  intro m g m' g' _ ha
  refine ⟨fun c => Cert.KvIdeal.Value.G3 m c, Cert.KvIdeal.Value.run m g, ?_⟩
  refine (θ_run _ _ _).mono (fun r h c => ⟨(h c).1.trans ?_, (h c).2⟩) (Cert.RefKvIdeal.Own.run m' g')
  obtain ⟨h0, h1, h2⟩ := ha c
  have e0 : Cert.RefKvIdeal.Own.X m' c = Cert.KvIdeal.Own.X m c := by funext r k; exact congrFun h0 _
  have e1 : Cert.RefKvIdeal.Own.N m' c = Cert.KvIdeal.Own.N m c := by funext k; exact congrFun h1 _
  have e2 : Cert.RefKvIdeal.Own.W m' c = Cert.KvIdeal.Own.W m c := by funext k q; exact congrFun h2 _
  have key : ∀ r q, Cert.RefKvIdeal.Own.spec m' c r q = (Cert.KvIdeal.Value.G3 m c : FVec Ideal Cert.KvIdeal.S4096x1024 .f32) (ix2 r q) := by
    intro r q
    rw [Cert.KvIdeal.Own.final]
    unfold Cert.RefKvIdeal.Own.spec
    rw [e0, e1, e2]
    rfl
  funext i
  exact (key (i 0) (i 1)).trans (congrArg _ (eq_ix2 i).symm)

end Cert.Own
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.SbClaim
public import proofs.«01_k».proof.Proof.Gen.Moe.Frame
public import proofs.«01_k».proof.Proof.Gen.MoeIdeal.Frame
public import proofs.«01_k».proof.Proof.Gen.RefMoeIdeal.Run
public import proofs.«01_k».proof.Proof.MoeClaim
public import proofs.«01_k».proof.Proof.Gen.Ffn.Frame
public import proofs.«01_k».proof.Proof.Gen.FfnIdeal.Frame
public import proofs.«01_k».proof.Proof.Gen.RefFfnIdeal.Run
public import proofs.«01_k».proof.Proof.FfnClaim
public import proofs.«01_k».proof.Proof.Gen.Proj.Frame
public import proofs.«01_k».proof.Proof.Gen.ProjIdeal.Frame
public import proofs.«01_k».proof.Proof.Gen.RefProjIdeal.Run
public import proofs.«01_k».proof.Proof.ProjClaim
public import proofs.«01_k».proof.Proof.Gen.Merge.Frame
public import proofs.«01_k».proof.Proof.Gen.MergeIdeal.Frame
public import proofs.«01_k».proof.Proof.Gen.RefMergeIdeal.Run
public import proofs.«01_k».proof.Proof.MergeClaim
public import proofs.«01_k».proof.Proof.Gen.Cross.Frame
public import proofs.«01_k».proof.Proof.Gen.CrossIdeal.Frame
public import proofs.«01_k».proof.Proof.Gen.RefCrossIdeal.Run
public import proofs.«01_k».proof.Proof.CrossClaim
public import proofs.«01_k».proof.Proof.Gen.Router.Frame
public import proofs.«01_k».proof.Proof.Gen.RouterIdeal.Frame
public import proofs.«01_k».proof.Proof.Gen.RefRouterIdeal.Run
public import proofs.«01_k».proof.Proof.RouterClaim
public import proofs.«01_k».proof.Proof.Gen.Kv.Frame
public import proofs.«01_k».proof.Proof.Gen.KvIdeal.Frame
public import proofs.«01_k».proof.Proof.Gen.RefKvIdeal.Run
public import proofs.«01_k».proof.Proof.KvClaim

@[expose] public section

noncomputable section

namespace Cert.Proof

open Idealize.ShloMosaic Idealize.SL.Sem

/-- All claims of the certificate. -/
theorem claim : Cert.Claim :=
  ⟨Cert.Kernel.Gen.facts,
    Cert.KernelIdeal.Gen.facts,
    Cert.ReferenceIdeal.Gen.facts,
    Cert.Moe.Gen.facts,
    Cert.MoeIdeal.Gen.facts,
    Cert.RefMoeIdeal.Gen.facts,
    Cert.Ffn.Gen.facts,
    Cert.FfnIdeal.Gen.facts,
    Cert.RefFfnIdeal.Gen.facts,
    Cert.Proj.Gen.facts,
    Cert.ProjIdeal.Gen.facts,
    Cert.RefProjIdeal.Gen.facts,
    Cert.Merge.Gen.facts,
    Cert.MergeIdeal.Gen.facts,
    Cert.RefMergeIdeal.Gen.facts,
    Cert.Cross.Gen.facts,
    Cert.CrossIdeal.Gen.facts,
    Cert.RefCrossIdeal.Gen.facts,
    Cert.Router.Gen.facts,
    Cert.RouterIdeal.Gen.facts,
    Cert.RefRouterIdeal.Gen.facts,
    Cert.Kv.Gen.facts,
    Cert.KvIdeal.Gen.facts,
    Cert.RefKvIdeal.Gen.facts,
    Cert.Pre_finite_scores.Own.facts,
    Cert.Pre_routing_weights.Gen.facts,
    Cert.Pre_finite_logits.Own.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Own.quiescent m ρ,
    fun m ρ _ => Cert.ReferenceIdeal.Own.quiescent m ρ,
    fun m ρ _ => Cert.Moe.Gen.frame m ρ,
    fun m ρ _ => Cert.MoeIdeal.Gen.frame m ρ,
    fun m ρ _ => Cert.MoeIdeal.Gen.frame m ρ,
    fun m ρ _ => Cert.RefMoeIdeal.Own.quiescent m ρ,
    fun m ρ _ => Cert.RefMoeIdeal.Own.quiescent m ρ,
    fun m ρ _ => Cert.Ffn.Gen.frame m ρ,
    fun m ρ _ => Cert.FfnIdeal.Gen.frame m ρ,
    fun m ρ _ => Cert.RefFfnIdeal.Own.quiescent m ρ,
    fun m ρ _ => Cert.Proj.Gen.frame m ρ,
    fun m ρ _ => Cert.ProjIdeal.Gen.frame m ρ,
    fun m ρ _ => Cert.RefProjIdeal.Own.quiescent m ρ,
    fun m ρ _ => Cert.Merge.Gen.frame m ρ,
    fun m ρ _ => Cert.MergeIdeal.Gen.frame m ρ,
    fun m ρ _ => Cert.RefMergeIdeal.Own.quiescent m ρ,
    fun m ρ _ => Cert.Cross.Gen.frame m ρ,
    fun m ρ _ => Cert.CrossIdeal.Gen.frame m ρ,
    fun m ρ _ => Cert.RefCrossIdeal.Own.quiescent m ρ,
    fun m ρ _ => Cert.Router.Gen.frame m ρ,
    fun m ρ _ => Cert.RouterIdeal.Gen.frame m ρ,
    fun m ρ _ => Cert.RouterIdeal.Gen.frame m ρ,
    fun m ρ _ => Cert.RefRouterIdeal.Own.quiescent m ρ,
    fun m ρ _ => Cert.RefRouterIdeal.Own.quiescent m ρ,
    fun m ρ _ => Cert.Kv.Gen.frame m ρ,
    fun m ρ _ => Cert.KvIdeal.Gen.frame m ρ,
    fun m ρ _ => Cert.RefKvIdeal.Own.quiescent m ρ,
    trivial,
    Cert.Own.sb,
    trivial,
    Cert.Own.moe,
    trivial,
    Cert.Own.ffn,
    trivial,
    Cert.Own.proj,
    trivial,
    Cert.Own.merge,
    trivial,
    Cert.Own.cross,
    trivial,
    Cert.Own.router,
    trivial,
    Cert.Own.kv⟩

end Cert.Proof

end
